-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1600000x3 : Shape := ⟨2, ![1600000, 3]⟩
abbrev S1600000x1 : Shape := ⟨2, ![1600000, 1]⟩
abbrev S1600000 : Shape := ⟨1, ![1600000]⟩
abbrev S4x1 : Shape := ⟨2, ![4, 1]⟩
abbrev S1 : Shape := ⟨1, ![1]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel

variable [Facts]

def fn {F : FTy → Type} [FloatOps F] (main_arg0 : FVec F S1600000x3 .f32) (main_arg1 : FVec F S1600000x1 .f32) (main_arg2 : IVec S1600000 32) (main_arg3 : FVec F S4x1 .f32) (main_arg4 : FVec F S1 .f32) : IVec S_ 1 :=
  let main_c : IVec S_ 32 := constantI S_ 32 0#32
  let main_v0 : IVec S1600000 32 := broadcastInDim S1600000 ![] bcast_S_S1600000 main_c
  let main_v1 : IVec S1600000 1 := cmpi .sge main_arg2 main_v0
  let main_c_0 : IVec S_ 32 := constantI S_ 32 4096#32
  let main_v2 : IVec S1600000 32 := broadcastInDim S1600000 ![] bcast_S_S1600000 main_c_0
  let main_v3 : IVec S1600000 1 := cmpi .slt main_arg2 main_v2
  let main_v4 : IVec S1600000 1 := andi main_v1 main_v3
  let main_c_1 : IVec S_ 1 := constantI S_ 1 1#1
  let main_v5 : IVec S_ 1 := (fun x v => Host.reduce IntOp.andi x v reducesTo_S1600000_S_d0 h_S_) main_v4 main_c_1
  main_v5
-- ==== Kernel.lean ====
abbrev S1600000x3 : Shape := ⟨2, ![1600000, 3]⟩
abbrev S1600000x1 : Shape := ⟨2, ![1600000, 1]⟩
abbrev S1600000 : Shape := ⟨1, ![1600000]⟩
abbrev S4x1 : Shape := ⟨2, ![4, 1]⟩
abbrev S1 : Shape := ⟨1, ![1]⟩
abbrev S4 : Shape := ⟨1, ![4]⟩
abbrev S5 : Shape := ⟨1, ![5]⟩
abbrev S5x16 : Shape := ⟨2, ![5, 16]⟩
abbrev S80 : Shape := ⟨1, ![80]⟩
abbrev S32x4096 : Shape := ⟨2, ![32, 4096]⟩
abbrev S6000 : Shape := ⟨1, ![6000]⟩
abbrev S2000 : Shape := ⟨1, ![2000]⟩
abbrev S16x4096 : Shape := ⟨2, ![16, 4096]⟩
abbrev S4096 : Shape := ⟨1, ![4096]⟩
abbrev S_ : Shape := ⟨0, ![]⟩
abbrev S16 : Shape := ⟨1, ![16]⟩
abbrev S1x16 : Shape := ⟨2, ![1, 16]⟩
abbrev S1x4096 : Shape := ⟨2, ![1, 4096]⟩
abbrev S4096x1 : Shape := ⟨2, ![4096, 1]⟩

abbrev nBuf : Table → Nat
  | .hbm => 19
  | .local .tc .vmem => 2
  | .local .scVector .vmem => 9
  | _ => 0

abbrev bufTy : (tb : Table) → Fin (nBuf tb) → BufTy
  | .hbm, ⟨0, _⟩ => ⟨S1600000x3, .f32⟩
  | .hbm, ⟨1, _⟩ => ⟨S1600000x1, .f32⟩
  | .hbm, ⟨2, _⟩ => ⟨S1600000, .i32⟩
  | .hbm, ⟨3, _⟩ => ⟨S4x1, .f32⟩
  | .hbm, ⟨4, _⟩ => ⟨S1, .f32⟩
  | .hbm, ⟨5, _⟩ => ⟨S4, .f32⟩
  | .hbm, ⟨6, _⟩ => ⟨S5, .f32⟩
  | .hbm, ⟨7, _⟩ => ⟨S5x16, .f32⟩
  | .hbm, ⟨8, _⟩ => ⟨S80, .f32⟩
  | .hbm, ⟨9, _⟩ => ⟨S1600000x1, .f32⟩
  | .hbm, ⟨10, _⟩ => ⟨S1600000, .f32⟩
  | .hbm, ⟨11, _⟩ => ⟨S1600000x1, .f32⟩
  | .hbm, ⟨12, _⟩ => ⟨S1600000, .f32⟩
  | .hbm, ⟨13, _⟩ => ⟨S1600000x1, .f32⟩
  | .hbm, ⟨14, _⟩ => ⟨S1600000, .f32⟩
  | .hbm, ⟨15, _⟩ => ⟨S1600000, .f32⟩
  | .hbm, ⟨16, _⟩ => ⟨S32x4096, .f32⟩
  | .hbm, ⟨17, _⟩ => ⟨S1x4096, .f32⟩
  | .hbm, ⟨18, _⟩ => ⟨S4096x1, .f32⟩
  | .local .tc .vmem, ⟨0, _⟩ => ⟨S32x4096, .f32⟩
  | .local .tc .vmem, ⟨1, _⟩ => ⟨S1x4096, .f32⟩
  | .local .scVector .vmem, ⟨0, _⟩ => ⟨S6000, .f32⟩
  | .local .scVector .vmem, ⟨1, _⟩ => ⟨S6000, .f32⟩
  | .local .scVector .vmem, ⟨2, _⟩ => ⟨S2000, .f32⟩
  | .local .scVector .vmem, ⟨3, _⟩ => ⟨S2000, .f32⟩
  | .local .scVector .vmem, ⟨4, _⟩ => ⟨S2000, .i32⟩
  | .local .scVector .vmem, ⟨5, _⟩ => ⟨S2000, .i32⟩
  | .local .scVector .vmem, ⟨6, _⟩ => ⟨S16x4096, .f32⟩
  | .local .scVector .vmem, ⟨7, _⟩ => ⟨S4096, .f32⟩
  | .local .scVector .vmem, ⟨8, _⟩ => ⟨S80, .f32⟩
  | _, _ => ⟨S1600000x3, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v5_scv : Ref sig .scVector := ⟨.hbm, 10, rfl⟩
abbrev main_v7_scv : Ref sig .scVector := ⟨.hbm, 12, rfl⟩
abbrev main_v9_scv : Ref sig .scVector := ⟨.hbm, 14, rfl⟩
abbrev main_v10_scv : Ref sig .scVector := ⟨.hbm, 15, rfl⟩
abbrev main_arg2_scv : Ref sig .scVector := ⟨.hbm, 2, rfl⟩
abbrev main_v3_scv : Ref sig .scVector := ⟨.hbm, 8, rfl⟩
abbrev main_v11_scv : Ref sig .scVector := ⟨.hbm, 16, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v4 : BitVec 32 := Scalar.muli v1 c50000_i32
  let v5 : BitVec 32 := Scalar.addi v4 c0_i32
  ![v5.toNat]
@[reducible] def k0_t1_loop : Scf.Loop 32 :=
  let c0_i32_5 : BitVec 32 := 0#32
  let c256_i32 : BitVec 32 := 256#32
  let v27 : BitVec 32 := Scalar.addi c0_i32_5 c256_i32
  let c1_i32 : BitVec 32 := 1#32
  ⟨c0_i32_5, v27, c1_i32⟩
def k0_off2 (k0_t1 : Fin k0_t1_loop.trips) : Fin 2 → Nat :=
  let c0_i32_456 : BitVec 32 := 0#32
  let v914 : Index := Scalar.indexCast c0_i32_456
  let c0_i32_5 : BitVec 32 := 0#32
  let c1_i32 : BitVec 32 := 1#32
  let arg20 : BitVec 32 := Scf.iv c0_i32_5 c1_i32 k0_t1
  let c16_i32 : BitVec 32 := 16#32
  let v913 : BitVec 32 := Scalar.muli arg20 c16_i32
  let v915 : Index := Scalar.indexCast v913
  ![0, v915.toNat]
def k0_off3 (k0_t1 : Fin k0_t1_loop.trips) : Fin 2 → Nat :=
  let c1_i32_458 : BitVec 32 := 1#32
  let v918 : Index := Scalar.indexCast c1_i32_458
  let c0_i32_5 : BitVec 32 := 0#32
  let c1_i32 : BitVec 32 := 1#32
  let arg20 : BitVec 32 := Scf.iv c0_i32_5 c1_i32 k0_t1
  let c16_i32_457 : BitVec 32 := 16#32
  let v917 : BitVec 32 := Scalar.muli arg20 c16_i32_457
  let v919 : Index := Scalar.indexCast v917
  ![1, v919.toNat]
def k0_off4 (k0_t1 : Fin k0_t1_loop.trips) : Fin 2 → Nat :=
  let c2_i32_460 : BitVec 32 := 2#32
  let v922 : Index := Scalar.indexCast c2_i32_460
  let c0_i32_5 : BitVec 32 := 0#32
  let c1_i32 : BitVec 32 := 1#32
  let arg20 : BitVec 32 := Scf.iv c0_i32_5 c1_i32 k0_t1
  let c16_i32_459 : BitVec 32 := 16#32
  let v921 : BitVec 32 := Scalar.muli arg20 c16_i32_459
  let v923 : Index := Scalar.indexCast v921
  ![2, v923.toNat]
def k0_off5 (k0_t1 : Fin k0_t1_loop.trips) : Fin 2 → Nat :=
  let c3_i32 : BitVec 32 := 3#32
  let v926 : Index := Scalar.indexCast c3_i32
  let c0_i32_5 : BitVec 32 := 0#32
  let c1_i32 : BitVec 32 := 1#32
  let arg20 : BitVec 32 := Scf.iv c0_i32_5 c1_i32 k0_t1
  let c16_i32_461 : BitVec 32 := 16#32
  let v925 : BitVec 32 := Scalar.muli arg20 c16_i32_461
  let v927 : Index := Scalar.indexCast v925
  ![3, v927.toNat]
def k0_off6 (k0_t1 : Fin k0_t1_loop.trips) : Fin 2 → Nat :=
  let c4_i32 : BitVec 32 := 4#32
  let v930 : Index := Scalar.indexCast c4_i32
  let c0_i32_5 : BitVec 32 := 0#32
  let c1_i32 : BitVec 32 := 1#32
  let arg20 : BitVec 32 := Scf.iv c0_i32_5 c1_i32 k0_t1
  let c16_i32_462 : BitVec 32 := 16#32
  let v929 : BitVec 32 := Scalar.muli arg20 c16_i32_462
  let v931 : Index := Scalar.indexCast v929
  ![4, v931.toNat]
def k0_off7 (k0_t1 : Fin k0_t1_loop.trips) : Fin 2 → Nat :=
  let c5_i32 : BitVec 32 := 5#32
  let v934 : Index := Scalar.indexCast c5_i32
  let c0_i32_5 : BitVec 32 := 0#32
  let c1_i32 : BitVec 32 := 1#32
  let arg20 : BitVec 32 := Scf.iv c0_i32_5 c1_i32 k0_t1
  let c16_i32_463 : BitVec 32 := 16#32
  let v933 : BitVec 32 := Scalar.muli arg20 c16_i32_463
  let v935 : Index := Scalar.indexCast v933
  ![5, v935.toNat]
def k0_off8 (k0_t1 : Fin k0_t1_loop.trips) : Fin 2 → Nat :=
  let c6_i32 : BitVec 32 := 6#32
  let v938 : Index := Scalar.indexCast c6_i32
  let c0_i32_5 : BitVec 32 := 0#32
  let c1_i32 : BitVec 32 := 1#32
  let arg20 : BitVec 32 := Scf.iv c0_i32_5 c1_i32 k0_t1
  let c16_i32_464 : BitVec 32 := 16#32
  let v937 : BitVec 32 := Scalar.muli arg20 c16_i32_464
  let v939 : Index := Scalar.indexCast v937
  ![6, v939.toNat]
def k0_off9 (k0_t1 : Fin k0_t1_loop.trips) : Fin 2 → Nat :=
  let c7_i32 : BitVec 32 := 7#32
  let v942 : Index := Scalar.indexCast c7_i32
  let c0_i32_5 : BitVec 32 := 0#32
  let c1_i32 : BitVec 32 := 1#32
  let arg20 : BitVec 32 := Scf.iv c0_i32_5 c1_i32 k0_t1
  let c16_i32_465 : BitVec 32 := 16#32
  let v941 : BitVec 32 := Scalar.muli arg20 c16_i32_465
  let v943 : Index := Scalar.indexCast v941
  ![7, v943.toNat]
def k0_off10 (k0_t1 : Fin k0_t1_loop.trips) : Fin 2 → Nat :=
  let c8_i32 : BitVec 32 := 8#32
  let v946 : Index := Scalar.indexCast c8_i32
  let c0_i32_5 : BitVec 32 := 0#32
  let c1_i32 : BitVec 32 := 1#32
  let arg20 : BitVec 32 := Scf.iv c0_i32_5 c1_i32 k0_t1
  let c16_i32_466 : BitVec 32 := 16#32
  let v945 : BitVec 32 := Scalar.muli arg20 c16_i32_466
  let v947 : Index := Scalar.indexCast v945
  ![8, v947.toNat]
def k0_off11 (k0_t1 : Fin k0_t1_loop.trips) : Fin 2 → Nat :=
  let c9_i32 : BitVec 32 := 9#32
  let v950 : Index := Scalar.indexCast c9_i32
  let c0_i32_5 : BitVec 32 := 0#32
  let c1_i32 : BitVec 32 := 1#32
  let arg20 : BitVec 32 := Scf.iv c0_i32_5 c1_i32 k0_t1
  let c16_i32_467 : BitVec 32 := 16#32
  let v949 : BitVec 32 := Scalar.muli arg20 c16_i32_467
  let v951 : Index := Scalar.indexCast v949
  ![9, v951.toNat]
def k0_off12 (k0_t1 : Fin k0_t1_loop.trips) : Fin 2 → Nat :=
  let c10_i32 : BitVec 32 := 10#32
  let v954 : Index := Scalar.indexCast c10_i32
  let c0_i32_5 : BitVec 32 := 0#32
  let c1_i32 : BitVec 32 := 1#32
  let arg20 : BitVec 32 := Scf.iv c0_i32_5 c1_i32 k0_t1
  let c16_i32_468 : BitVec 32 := 16#32
  let v953 : BitVec 32 := Scalar.muli arg20 c16_i32_468
  let v955 : Index := Scalar.indexCast v953
  ![10, v955.toNat]
def k0_off13 (k0_t1 : Fin k0_t1_loop.trips) : Fin 2 → Nat :=
  let c11_i32 : BitVec 32 := 11#32
  let v958 : Index := Scalar.indexCast c11_i32
  let c0_i32_5 : BitVec 32 := 0#32
  let c1_i32 : BitVec 32 := 1#32
  let arg20 : BitVec 32 := Scf.iv c0_i32_5 c1_i32 k0_t1
  let c16_i32_469 : BitVec 32 := 16#32
  let v957 : BitVec 32 := Scalar.muli arg20 c16_i32_469
  let v959 : Index := Scalar.indexCast v957
  ![11, v959.toNat]
def k0_off14 (k0_t1 : Fin k0_t1_loop.trips) : Fin 2 → Nat :=
  let c12_i32 : BitVec 32 := 12#32
  let v962 : Index := Scalar.indexCast c12_i32
  let c0_i32_5 : BitVec 32 := 0#32
  let c1_i32 : BitVec 32 := 1#32
  let arg20 : BitVec 32 := Scf.iv c0_i32_5 c1_i32 k0_t1
  let c16_i32_470 : BitVec 32 := 16#32
  let v961 : BitVec 32 := Scalar.muli arg20 c16_i32_470
  let v963 : Index := Scalar.indexCast v961
  ![12, v963.toNat]
def k0_off15 (k0_t1 : Fin k0_t1_loop.trips) : Fin 2 → Nat :=
  let c13_i32 : BitVec 32 := 13#32
  let v966 : Index := Scalar.indexCast c13_i32
  let c0_i32_5 : BitVec 32 := 0#32
  let c1_i32 : BitVec 32 := 1#32
  let arg20 : BitVec 32 := Scf.iv c0_i32_5 c1_i32 k0_t1
  let c16_i32_471 : BitVec 32 := 16#32
  let v965 : BitVec 32 := Scalar.muli arg20 c16_i32_471
  let v967 : Index := Scalar.indexCast v965
  ![13, v967.toNat]
def k0_off16 (k0_t1 : Fin k0_t1_loop.trips) : Fin 2 → Nat :=
  let c14_i32 : BitVec 32 := 14#32
  let v970 : Index := Scalar.indexCast c14_i32
  let c0_i32_5 : BitVec 32 := 0#32
  let c1_i32 : BitVec 32 := 1#32
  let arg20 : BitVec 32 := Scf.iv c0_i32_5 c1_i32 k0_t1
  let c16_i32_472 : BitVec 32 := 16#32
  let v969 : BitVec 32 := Scalar.muli arg20 c16_i32_472
  let v971 : Index := Scalar.indexCast v969
  ![14, v971.toNat]
def k0_off17 (k0_t1 : Fin k0_t1_loop.trips) : Fin 2 → Nat :=
  let c15_i32 : BitVec 32 := 15#32
  let v974 : Index := Scalar.indexCast c15_i32
  let c0_i32_5 : BitVec 32 := 0#32
  let c1_i32 : BitVec 32 := 1#32
  let arg20 : BitVec 32 := Scf.iv c0_i32_5 c1_i32 k0_t1
  let c16_i32_473 : BitVec 32 := 16#32
  let v973 : BitVec 32 := Scalar.muli arg20 c16_i32_473
  let v975 : Index := Scalar.indexCast v973
  ![15, v975.toNat]
@[reducible] def k0_t2_loop : Scf.Loop 32 :=
  let c0_i32_22 : BitVec 32 := 0#32
  let c25_i32 : BitVec 32 := 25#32
  let v63 : BitVec 32 := Scalar.addi c0_i32_22 c25_i32
  let c1_i32_23 : BitVec 32 := 1#32
  ⟨c0_i32_22, v63, c1_i32_23⟩
def k0_off18 (k0_t2 : Fin k0_t2_loop.trips) (c0_i32_456 : BitVec 32) : Fin 1 → Nat :=
  let c0_i32_22 : BitVec 32 := 0#32
  let c1_i32_23 : BitVec 32 := 1#32
  let arg20 : BitVec 32 := Scf.iv c0_i32_22 c1_i32_23 k0_t2
  let c80_i32 : BitVec 32 := 80#32
  let v913 : BitVec 32 := Scalar.muli arg20 c80_i32
  let v914 : BitVec 32 := Scalar.addi v913 c0_i32_456
  let v915 : Index := Scalar.indexCast v914
  ![v915.toNat]
def k0_off19 (k0_t2 : Fin k0_t2_loop.trips) (c2000_i32_457 : BitVec 32) (c0_i32_456 : BitVec 32) : Fin 1 → Nat :=
  let c0_i32_22 : BitVec 32 := 0#32
  let c1_i32_23 : BitVec 32 := 1#32
  let arg20 : BitVec 32 := Scf.iv c0_i32_22 c1_i32_23 k0_t2
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off20 (k0_t2 : Fin k0_t2_loop.trips) (c0_i32_456 : BitVec 32) : Fin 1 → Nat :=
  let c0_i32_22 : BitVec 32 := 0#32
  let c1_i32_23 : BitVec 32 := 1#32
  let arg20 : BitVec 32 := Scf.iv c0_i32_22 c1_i32_23 k0_t2
  let c80_i32 : BitVec 32 := 80#32
  let v913 : BitVec 32 := Scalar.muli arg20 c80_i32
  let v914 : BitVec 32 := Scalar.addi v913 c0_i32_456
  let v923 : Index := Scalar.indexCast v914
  ![v923.toNat]

def k0_chk1 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx1_inb : ∀ (v2 : IVec S16 32) (v926 : IVec S16 32) (k0_hw1 : k0_chk1 v2 v926), ∀ a x, ((![v2, v926] : Fin 2 → IVec S16 32) a x).toNat < S16x4096.size a := fun v2 v926 k0_hw1 => k0_hw1.1
theorem k0_idx2_inb : ∀ (v2 : IVec S16 32) (v926 : IVec S16 32) (k0_hw1 : k0_chk1 v2 v926), ∀ a x, ((![v2, v926] : Fin 2 → IVec S16 32) a x).toNat < S16x4096.size a := fun v2 v926 k0_hw1 => k0_hw1.2

def k0_chk2 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx3_inb : ∀ (v2 : IVec S16 32) (v948 : IVec S16 32) (k0_hw2 : k0_chk2 v2 v948), ∀ a x, ((![v2, v948] : Fin 2 → IVec S16 32) a x).toNat < S16x4096.size a := fun v2 v948 k0_hw2 => k0_hw2.1
theorem k0_idx4_inb : ∀ (v2 : IVec S16 32) (v948 : IVec S16 32) (k0_hw2 : k0_chk2 v2 v948), ∀ a x, ((![v2, v948] : Fin 2 → IVec S16 32) a x).toNat < S16x4096.size a := fun v2 v948 k0_hw2 => k0_hw2.2

def k0_chk3 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx5_inb : ∀ (v2 : IVec S16 32) (v970 : IVec S16 32) (k0_hw3 : k0_chk3 v2 v970), ∀ a x, ((![v2, v970] : Fin 2 → IVec S16 32) a x).toNat < S16x4096.size a := fun v2 v970 k0_hw3 => k0_hw3.1
theorem k0_idx6_inb : ∀ (v2 : IVec S16 32) (v970 : IVec S16 32) (k0_hw3 : k0_chk3 v2 v970), ∀ a x, ((![v2, v970] : Fin 2 → IVec S16 32) a x).toNat < S16x4096.size a := fun v2 v970 k0_hw3 => k0_hw3.2

def k0_chk4 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx7_inb : ∀ (v2 : IVec S16 32) (v992 : IVec S16 32) (k0_hw4 : k0_chk4 v2 v992), ∀ a x, ((![v2, v992] : Fin 2 → IVec S16 32) a x).toNat < S16x4096.size a := fun v2 v992 k0_hw4 => k0_hw4.1
theorem k0_idx8_inb : ∀ (v2 : IVec S16 32) (v992 : IVec S16 32) (k0_hw4 : k0_chk4 v2 v992), ∀ a x, ((![v2, v992] : Fin 2 → IVec S16 32) a x).toNat < S16x4096.size a := fun v2 v992 k0_hw4 => k0_hw4.2

def k0_chk5 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx9_inb : ∀ (v2 : IVec S16 32) (v1014 : IVec S16 32) (k0_hw5 : k0_chk5 v2 v1014), ∀ a x, ((![v2, v1014] : Fin 2 → IVec S16 32) a x).toNat < S16x4096.size a := fun v2 v1014 k0_hw5 => k0_hw5.1
theorem k0_idx10_inb : ∀ (v2 : IVec S16 32) (v1014 : IVec S16 32) (k0_hw5 : k0_chk5 v2 v1014), ∀ a x, ((![v2, v1014] : Fin 2 → IVec S16 32) a x).toNat < S16x4096.size a := fun v2 v1014 k0_hw5 => k0_hw5.2
def k0_off21 (i : grid0.Coords) (c4000_i32_26 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32_25 : BitVec 32 := 50000#32
  let v65 : BitVec 32 := Scalar.muli v1 c50000_i32_25
  let v66 : BitVec 32 := Scalar.addi v65 c4000_i32_26
  ![v66.toNat]
@[reducible] def k0_t3_loop : Scf.Loop 32 :=
  let c0_i32_40 : BitVec 32 := 0#32
  let c25_i32_41 : BitVec 32 := 25#32
  let v99 : BitVec 32 := Scalar.addi c0_i32_40 c25_i32_41
  let c1_i32_42 : BitVec 32 := 1#32
  ⟨c0_i32_40, v99, c1_i32_42⟩
def k0_off22 (k0_t3 : Fin k0_t3_loop.trips) (c0_i32_456 : BitVec 32) : Fin 1 → Nat :=
  let c0_i32_40 : BitVec 32 := 0#32
  let c1_i32_42 : BitVec 32 := 1#32
  let arg20 : BitVec 32 := Scf.iv c0_i32_40 c1_i32_42 k0_t3
  let c80_i32 : BitVec 32 := 80#32
  let v913 : BitVec 32 := Scalar.muli arg20 c80_i32
  let v914 : BitVec 32 := Scalar.addi v913 c0_i32_456
  let v915 : Index := Scalar.indexCast v914
  ![v915.toNat]
def k0_off23 (k0_t3 : Fin k0_t3_loop.trips) (c2000_i32_457 : BitVec 32) (c0_i32_456 : BitVec 32) : Fin 1 → Nat :=
  let c0_i32_40 : BitVec 32 := 0#32
  let c1_i32_42 : BitVec 32 := 1#32
  let arg20 : BitVec 32 := Scf.iv c0_i32_40 c1_i32_42 k0_t3
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off24 (k0_t3 : Fin k0_t3_loop.trips) (c0_i32_456 : BitVec 32) : Fin 1 → Nat :=
  let c0_i32_40 : BitVec 32 := 0#32
  let c1_i32_42 : BitVec 32 := 1#32
  let arg20 : BitVec 32 := Scf.iv c0_i32_40 c1_i32_42 k0_t3
  let c80_i32 : BitVec 32 := 80#32
  let v913 : BitVec 32 := Scalar.muli arg20 c80_i32
  let v914 : BitVec 32 := Scalar.addi v913 c0_i32_456
  let v923 : Index := Scalar.indexCast v914
  ![v923.toNat]

def k0_chk6 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx11_inb : ∀ (v2 : IVec S16 32) (v926 : IVec S16 32) (k0_hw6 : k0_chk6 v2 v926), ∀ a x, ((![v2, v926] : Fin 2 → IVec S16 32) a x).toNat < S16x4096.size a := fun v2 v926 k0_hw6 => k0_hw6.1
theorem k0_idx12_inb : ∀ (v2 : IVec S16 32) (v926 : IVec S16 32) (k0_hw6 : k0_chk6 v2 v926), ∀ a x, ((![v2, v926] : Fin 2 → IVec S16 32) a x).toNat < S16x4096.size a := fun v2 v926 k0_hw6 => k0_hw6.2

def k0_chk7 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx13_inb : ∀ (v2 : IVec S16 32) (v948 : IVec S16 32) (k0_hw7 : k0_chk7 v2 v948), ∀ a x, ((![v2, v948] : Fin 2 → IVec S16 32) a x).toNat < S16x4096.size a := fun v2 v948 k0_hw7 => k0_hw7.1
theorem k0_idx14_inb : ∀ (v2 : IVec S16 32) (v948 : IVec S16 32) (k0_hw7 : k0_chk7 v2 v948), ∀ a x, ((![v2, v948] : Fin 2 → IVec S16 32) a x).toNat < S16x4096.size a := fun v2 v948 k0_hw7 => k0_hw7.2

def k0_chk8 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx15_inb : ∀ (v2 : IVec S16 32) (v970 : IVec S16 32) (k0_hw8 : k0_chk8 v2 v970), ∀ a x, ((![v2, v970] : Fin 2 → IVec S16 32) a x).toNat < S16x4096.size a := fun v2 v970 k0_hw8 => k0_hw8.1
theorem k0_idx16_inb : ∀ (v2 : IVec S16 32) (v970 : IVec S16 32) (k0_hw8 : k0_chk8 v2 v970), ∀ a x, ((![v2, v970] : Fin 2 → IVec S16 32) a x).toNat < S16x4096.size a := fun v2 v970 k0_hw8 => k0_hw8.2

def k0_chk9 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx17_inb : ∀ (v2 : IVec S16 32) (v992 : IVec S16 32) (k0_hw9 : k0_chk9 v2 v992), ∀ a x, ((![v2, v992] : Fin 2 → IVec S16 32) a x).toNat < S16x4096.size a := fun v2 v992 k0_hw9 => k0_hw9.1
theorem k0_idx18_inb : ∀ (v2 : IVec S16 32) (v992 : IVec S16 32) (k0_hw9 : k0_chk9 v2 v992), ∀ a x, ((![v2, v992] : Fin 2 → IVec S16 32) a x).toNat < S16x4096.size a := fun v2 v992 k0_hw9 => k0_hw9.2

def k0_chk10 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx19_inb : ∀ (v2 : IVec S16 32) (v1014 : IVec S16 32) (k0_hw10 : k0_chk10 v2 v1014), ∀ a x, ((![v2, v1014] : Fin 2 → IVec S16 32) a x).toNat < S16x4096.size a := fun v2 v1014 k0_hw10 => k0_hw10.1
theorem k0_idx20_inb : ∀ (v2 : IVec S16 32) (v1014 : IVec S16 32) (k0_hw10 : k0_chk10 v2 v1014), ∀ a x, ((![v2, v1014] : Fin 2 → IVec S16 32) a x).toNat < S16x4096.size a := fun v2 v1014 k0_hw10 => k0_hw10.2
@[reducible] def k0_t4_loop : Scf.Loop 32 :=
  let c0_i32_58 : BitVec 32 := 0#32
  let c25_i32_59 : BitVec 32 := 25#32
  let v135 : BitVec 32 := Scalar.addi c0_i32_58 c25_i32_59
  let c1_i32_60 : BitVec 32 := 1#32
  ⟨c0_i32_58, v135, c1_i32_60⟩
def k0_off25 (k0_t4 : Fin k0_t4_loop.trips) (c0_i32_456 : BitVec 32) : Fin 1 → Nat :=
  let c0_i32_58 : BitVec 32 := 0#32
  let c1_i32_60 : BitVec 32 := 1#32
  let arg20 : BitVec 32 := Scf.iv c0_i32_58 c1_i32_60 k0_t4
  let c80_i32 : BitVec 32 := 80#32
  let v913 : BitVec 32 := Scalar.muli arg20 c80_i32
  let v914 : BitVec 32 := Scalar.addi v913 c0_i32_456
  let v915 : Index := Scalar.indexCast v914
  ![v915.toNat]
def k0_off26 (k0_t4 : Fin k0_t4_loop.trips) (c2000_i32_457 : BitVec 32) (c0_i32_456 : BitVec 32) : Fin 1 → Nat :=
  let c0_i32_58 : BitVec 32 := 0#32
  let c1_i32_60 : BitVec 32 := 1#32
  let arg20 : BitVec 32 := Scf.iv c0_i32_58 c1_i32_60 k0_t4
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off27 (k0_t4 : Fin k0_t4_loop.trips) (c0_i32_456 : BitVec 32) : Fin 1 → Nat :=
  let c0_i32_58 : BitVec 32 := 0#32
  let c1_i32_60 : BitVec 32 := 1#32
  let arg20 : BitVec 32 := Scf.iv c0_i32_58 c1_i32_60 k0_t4
  let c80_i32 : BitVec 32 := 80#32
  let v913 : BitVec 32 := Scalar.muli arg20 c80_i32
  let v914 : BitVec 32 := Scalar.addi v913 c0_i32_456
  let v923 : Index := Scalar.indexCast v914
  ![v923.toNat]

def k0_chk11 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx21_inb : ∀ (v2 : IVec S16 32) (v926 : IVec S16 32) (k0_hw11 : k0_chk11 v2 v926), ∀ a x, ((![v2, v926] : Fin 2 → IVec S16 32) a x).toNat < S16x4096.size a := fun v2 v926 k0_hw11 => k0_hw11.1
theorem k0_idx22_inb : ∀ (v2 : IVec S16 32) (v926 : IVec S16 32) (k0_hw11 : k0_chk11 v2 v926), ∀ a x, ((![v2, v926] : Fin 2 → IVec S16 32) a x).toNat < S16x4096.size a := fun v2 v926 k0_hw11 => k0_hw11.2

def k0_chk12 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx23_inb : ∀ (v2 : IVec S16 32) (v948 : IVec S16 32) (k0_hw12 : k0_chk12 v2 v948), ∀ a x, ((![v2, v948] : Fin 2 → IVec S16 32) a x).toNat < S16x4096.size a := fun v2 v948 k0_hw12 => k0_hw12.1
theorem k0_idx24_inb : ∀ (v2 : IVec S16 32) (v948 : IVec S16 32) (k0_hw12 : k0_chk12 v2 v948), ∀ a x, ((![v2, v948] : Fin 2 → IVec S16 32) a x).toNat < S16x4096.size a := fun v2 v948 k0_hw12 => k0_hw12.2

def k0_chk13 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx25_inb : ∀ (v2 : IVec S16 32) (v970 : IVec S16 32) (k0_hw13 : k0_chk13 v2 v970), ∀ a x, ((![v2, v970] : Fin 2 → IVec S16 32) a x).toNat < S16x4096.size a := fun v2 v970 k0_hw13 => k0_hw13.1
theorem k0_idx26_inb : ∀ (v2 : IVec S16 32) (v970 : IVec S16 32) (k0_hw13 : k0_chk13 v2 v970), ∀ a x, ((![v2, v970] : Fin 2 → IVec S16 32) a x).toNat < S16x4096.size a := fun v2 v970 k0_hw13 => k0_hw13.2

def k0_chk14 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx27_inb : ∀ (v2 : IVec S16 32) (v992 : IVec S16 32) (k0_hw14 : k0_chk14 v2 v992), ∀ a x, ((![v2, v992] : Fin 2 → IVec S16 32) a x).toNat < S16x4096.size a := fun v2 v992 k0_hw14 => k0_hw14.1
theorem k0_idx28_inb : ∀ (v2 : IVec S16 32) (v992 : IVec S16 32) (k0_hw14 : k0_chk14 v2 v992), ∀ a x, ((![v2, v992] : Fin 2 → IVec S16 32) a x).toNat < S16x4096.size a := fun v2 v992 k0_hw14 => k0_hw14.2

def k0_chk15 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx29_inb : ∀ (v2 : IVec S16 32) (v1014 : IVec S16 32) (k0_hw15 : k0_chk15 v2 v1014), ∀ a x, ((![v2, v1014] : Fin 2 → IVec S16 32) a x).toNat < S16x4096.size a := fun v2 v1014 k0_hw15 => k0_hw15.1
theorem k0_idx30_inb : ∀ (v2 : IVec S16 32) (v1014 : IVec S16 32) (k0_hw15 : k0_chk15 v2 v1014), ∀ a x, ((![v2, v1014] : Fin 2 → IVec S16 32) a x).toNat < S16x4096.size a := fun v2 v1014 k0_hw15 => k0_hw15.2
@[reducible] def k0_t5_loop : Scf.Loop 32 :=
  let c0_i32_76 : BitVec 32 := 0#32
  let c25_i32_77 : BitVec 32 := 25#32
  let v171 : BitVec 32 := Scalar.addi c0_i32_76 c25_i32_77
  let c1_i32_78 : BitVec 32 := 1#32
  ⟨c0_i32_76, v171, c1_i32_78⟩
def k0_off28 (k0_t5 : Fin k0_t5_loop.trips) (c0_i32_456 : BitVec 32) : Fin 1 → Nat :=
  let c0_i32_76 : BitVec 32 := 0#32
  let c1_i32_78 : BitVec 32 := 1#32
  let arg20 : BitVec 32 := Scf.iv c0_i32_76 c1_i32_78 k0_t5
  let c80_i32 : BitVec 32 := 80#32
  let v913 : BitVec 32 := Scalar.muli arg20 c80_i32
  let v914 : BitVec 32 := Scalar.addi v913 c0_i32_456
  let v915 : Index := Scalar.indexCast v914
  ![v915.toNat]
def k0_off29 (k0_t5 : Fin k0_t5_loop.trips) (c2000_i32_457 : BitVec 32) (c0_i32_456 : BitVec 32) : Fin 1 → Nat :=
  let c0_i32_76 : BitVec 32 := 0#32
  let c1_i32_78 : BitVec 32 := 1#32
  let arg20 : BitVec 32 := Scf.iv c0_i32_76 c1_i32_78 k0_t5
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off30 (k0_t5 : Fin k0_t5_loop.trips) (c0_i32_456 : BitVec 32) : Fin 1 → Nat :=
  let c0_i32_76 : BitVec 32 := 0#32
  let c1_i32_78 : BitVec 32 := 1#32
  let arg20 : BitVec 32 := Scf.iv c0_i32_76 c1_i32_78 k0_t5
  let c80_i32 : BitVec 32 := 80#32
  let v913 : BitVec 32 := Scalar.muli arg20 c80_i32
  let v914 : BitVec 32 := Scalar.addi v913 c0_i32_456
  let v923 : Index := Scalar.indexCast v914
  ![v923.toNat]

def k0_chk16 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx31_inb : ∀ (v2 : IVec S16 32) (v926 : IVec S16 32) (k0_hw16 : k0_chk16 v2 v926), ∀ a x, ((![v2, v926] : Fin 2 → IVec S16 32) a x).toNat < S16x4096.size a := fun v2 v926 k0_hw16 => k0_hw16.1
theorem k0_idx32_inb : ∀ (v2 : IVec S16 32) (v926 : IVec S16 32) (k0_hw16 : k0_chk16 v2 v926), ∀ a x, ((![v2, v926] : Fin 2 → IVec S16 32) a x).toNat < S16x4096.size a := fun v2 v926 k0_hw16 => k0_hw16.2

def k0_chk17 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx33_inb : ∀ (v2 : IVec S16 32) (v948 : IVec S16 32) (k0_hw17 : k0_chk17 v2 v948), ∀ a x, ((![v2, v948] : Fin 2 → IVec S16 32) a x).toNat < S16x4096.size a := fun v2 v948 k0_hw17 => k0_hw17.1
theorem k0_idx34_inb : ∀ (v2 : IVec S16 32) (v948 : IVec S16 32) (k0_hw17 : k0_chk17 v2 v948), ∀ a x, ((![v2, v948] : Fin 2 → IVec S16 32) a x).toNat < S16x4096.size a := fun v2 v948 k0_hw17 => k0_hw17.2

def k0_chk18 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx35_inb : ∀ (v2 : IVec S16 32) (v970 : IVec S16 32) (k0_hw18 : k0_chk18 v2 v970), ∀ a x, ((![v2, v970] : Fin 2 → IVec S16 32) a x).toNat < S16x4096.size a := fun v2 v970 k0_hw18 => k0_hw18.1
theorem k0_idx36_inb : ∀ (v2 : IVec S16 32) (v970 : IVec S16 32) (k0_hw18 : k0_chk18 v2 v970), ∀ a x, ((![v2, v970] : Fin 2 → IVec S16 32) a x).toNat < S16x4096.size a := fun v2 v970 k0_hw18 => k0_hw18.2

def k0_chk19 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx37_inb : ∀ (v2 : IVec S16 32) (v992 : IVec S16 32) (k0_hw19 : k0_chk19 v2 v992), ∀ a x, ((![v2, v992] : Fin 2 → IVec S16 32) a x).toNat < S16x4096.size a := fun v2 v992 k0_hw19 => k0_hw19.1
theorem k0_idx38_inb : ∀ (v2 : IVec S16 32) (v992 : IVec S16 32) (k0_hw19 : k0_chk19 v2 v992), ∀ a x, ((![v2, v992] : Fin 2 → IVec S16 32) a x).toNat < S16x4096.size a := fun v2 v992 k0_hw19 => k0_hw19.2

def k0_chk20 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx39_inb : ∀ (v2 : IVec S16 32) (v1014 : IVec S16 32) (k0_hw20 : k0_chk20 v2 v1014), ∀ a x, ((![v2, v1014] : Fin 2 → IVec S16 32) a x).toNat < S16x4096.size a := fun v2 v1014 k0_hw20 => k0_hw20.1
theorem k0_idx40_inb : ∀ (v2 : IVec S16 32) (v1014 : IVec S16 32) (k0_hw20 : k0_chk20 v2 v1014), ∀ a x, ((![v2, v1014] : Fin 2 → IVec S16 32) a x).toNat < S16x4096.size a := fun v2 v1014 k0_hw20 => k0_hw20.2
@[reducible] def k0_t6_loop : Scf.Loop 32 :=
  let c0_i32_94 : BitVec 32 := 0#32
  let c25_i32_95 : BitVec 32 := 25#32
  let v207 : BitVec 32 := Scalar.addi c0_i32_94 c25_i32_95
  let c1_i32_96 : BitVec 32 := 1#32
  ⟨c0_i32_94, v207, c1_i32_96⟩
def k0_off31 (k0_t6 : Fin k0_t6_loop.trips) (c0_i32_456 : BitVec 32) : Fin 1 → Nat :=
  let c0_i32_94 : BitVec 32 := 0#32
  let c1_i32_96 : BitVec 32 := 1#32
  let arg20 : BitVec 32 := Scf.iv c0_i32_94 c1_i32_96 k0_t6
  let c80_i32 : BitVec 32 := 80#32
  let v913 : BitVec 32 := Scalar.muli arg20 c80_i32
  let v914 : BitVec 32 := Scalar.addi v913 c0_i32_456
  let v915 : Index := Scalar.indexCast v914
  ![v915.toNat]
def k0_off32 (k0_t6 : Fin k0_t6_loop.trips) (c2000_i32_457 : BitVec 32) (c0_i32_456 : BitVec 32) : Fin 1 → Nat :=
  let c0_i32_94 : BitVec 32 := 0#32
  let c1_i32_96 : BitVec 32 := 1#32
  let arg20 : BitVec 32 := Scf.iv c0_i32_94 c1_i32_96 k0_t6
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off33 (k0_t6 : Fin k0_t6_loop.trips) (c0_i32_456 : BitVec 32) : Fin 1 → Nat :=
  let c0_i32_94 : BitVec 32 := 0#32
  let c1_i32_96 : BitVec 32 := 1#32
  let arg20 : BitVec 32 := Scf.iv c0_i32_94 c1_i32_96 k0_t6
  let c80_i32 : BitVec 32 := 80#32
  let v913 : BitVec 32 := Scalar.muli arg20 c80_i32
  let v914 : BitVec 32 := Scalar.addi v913 c0_i32_456
  let v923 : Index := Scalar.indexCast v914
  ![v923.toNat]

def k0_chk21 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx41_inb : ∀ (v2 : IVec S16 32) (v926 : IVec S16 32) (k0_hw21 : k0_chk21 v2 v926), ∀ a x, ((![v2, v926] : Fin 2 → IVec S16 32) a x).toNat < S16x4096.size a := fun v2 v926 k0_hw21 => k0_hw21.1
theorem k0_idx42_inb : ∀ (v2 : IVec S16 32) (v926 : IVec S16 32) (k0_hw21 : k0_chk21 v2 v926), ∀ a x, ((![v2, v926] : Fin 2 → IVec S16 32) a x).toNat < S16x4096.size a := fun v2 v926 k0_hw21 => k0_hw21.2

def k0_chk22 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx43_inb : ∀ (v2 : IVec S16 32) (v948 : IVec S16 32) (k0_hw22 : k0_chk22 v2 v948), ∀ a x, ((![v2, v948] : Fin 2 → IVec S16 32) a x).toNat < S16x4096.size a := fun v2 v948 k0_hw22 => k0_hw22.1
theorem k0_idx44_inb : ∀ (v2 : IVec S16 32) (v948 : IVec S16 32) (k0_hw22 : k0_chk22 v2 v948), ∀ a x, ((![v2, v948] : Fin 2 → IVec S16 32) a x).toNat < S16x4096.size a := fun v2 v948 k0_hw22 => k0_hw22.2

def k0_chk23 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx45_inb : ∀ (v2 : IVec S16 32) (v970 : IVec S16 32) (k0_hw23 : k0_chk23 v2 v970), ∀ a x, ((![v2, v970] : Fin 2 → IVec S16 32) a x).toNat < S16x4096.size a := fun v2 v970 k0_hw23 => k0_hw23.1
theorem k0_idx46_inb : ∀ (v2 : IVec S16 32) (v970 : IVec S16 32) (k0_hw23 : k0_chk23 v2 v970), ∀ a x, ((![v2, v970] : Fin 2 → IVec S16 32) a x).toNat < S16x4096.size a := fun v2 v970 k0_hw23 => k0_hw23.2

def k0_chk24 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx47_inb : ∀ (v2 : IVec S16 32) (v992 : IVec S16 32) (k0_hw24 : k0_chk24 v2 v992), ∀ a x, ((![v2, v992] : Fin 2 → IVec S16 32) a x).toNat < S16x4096.size a := fun v2 v992 k0_hw24 => k0_hw24.1
theorem k0_idx48_inb : ∀ (v2 : IVec S16 32) (v992 : IVec S16 32) (k0_hw24 : k0_chk24 v2 v992), ∀ a x, ((![v2, v992] : Fin 2 → IVec S16 32) a x).toNat < S16x4096.size a := fun v2 v992 k0_hw24 => k0_hw24.2

def k0_chk25 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx49_inb : ∀ (v2 : IVec S16 32) (v1014 : IVec S16 32) (k0_hw25 : k0_chk25 v2 v1014), ∀ a x, ((![v2, v1014] : Fin 2 → IVec S16 32) a x).toNat < S16x4096.size a := fun v2 v1014 k0_hw25 => k0_hw25.1
theorem k0_idx50_inb : ∀ (v2 : IVec S16 32) (v1014 : IVec S16 32) (k0_hw25 : k0_chk25 v2 v1014), ∀ a x, ((![v2, v1014] : Fin 2 → IVec S16 32) a x).toNat < S16x4096.size a := fun v2 v1014 k0_hw25 => k0_hw25.2
@[reducible] def k0_t7_loop : Scf.Loop 32 :=
  let c0_i32_112 : BitVec 32 := 0#32
  let c25_i32_113 : BitVec 32 := 25#32
  let v243 : BitVec 32 := Scalar.addi c0_i32_112 c25_i32_113
  let c1_i32_114 : BitVec 32 := 1#32
  ⟨c0_i32_112, v243, c1_i32_114⟩
def k0_off34 (k0_t7 : Fin k0_t7_loop.trips) (c0_i32_456 : BitVec 32) : Fin 1 → Nat :=
  let c0_i32_112 : BitVec 32 := 0#32
  let c1_i32_114 : BitVec 32 := 1#32
  let arg20 : BitVec 32 := Scf.iv c0_i32_112 c1_i32_114 k0_t7
  let c80_i32 : BitVec 32 := 80#32
  let v913 : BitVec 32 := Scalar.muli arg20 c80_i32
  let v914 : BitVec 32 := Scalar.addi v913 c0_i32_456
  let v915 : Index := Scalar.indexCast v914
  ![v915.toNat]
def k0_off35 (k0_t7 : Fin k0_t7_loop.trips) (c2000_i32_457 : BitVec 32) (c0_i32_456 : BitVec 32) : Fin 1 → Nat :=
  let c0_i32_112 : BitVec 32 := 0#32
  let c1_i32_114 : BitVec 32 := 1#32
  let arg20 : BitVec 32 := Scf.iv c0_i32_112 c1_i32_114 k0_t7
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off36 (k0_t7 : Fin k0_t7_loop.trips) (c0_i32_456 : BitVec 32) : Fin 1 → Nat :=
  let c0_i32_112 : BitVec 32 := 0#32
  let c1_i32_114 : BitVec 32 := 1#32
  let arg20 : BitVec 32 := Scf.iv c0_i32_112 c1_i32_114 k0_t7
  let c80_i32 : BitVec 32 := 80#32
  let v913 : BitVec 32 := Scalar.muli arg20 c80_i32
  let v914 : BitVec 32 := Scalar.addi v913 c0_i32_456
  let v923 : Index := Scalar.indexCast v914
  ![v923.toNat]

def k0_chk26 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx51_inb : ∀ (v2 : IVec S16 32) (v926 : IVec S16 32) (k0_hw26 : k0_chk26 v2 v926), ∀ a x, ((![v2, v926] : Fin 2 → IVec S16 32) a x).toNat < S16x4096.size a := fun v2 v926 k0_hw26 => k0_hw26.1
theorem k0_idx52_inb : ∀ (v2 : IVec S16 32) (v926 : IVec S16 32) (k0_hw26 : k0_chk26 v2 v926), ∀ a x, ((![v2, v926] : Fin 2 → IVec S16 32) a x).toNat < S16x4096.size a := fun v2 v926 k0_hw26 => k0_hw26.2

def k0_chk27 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx53_inb : ∀ (v2 : IVec S16 32) (v948 : IVec S16 32) (k0_hw27 : k0_chk27 v2 v948), ∀ a x, ((![v2, v948] : Fin 2 → IVec S16 32) a x).toNat < S16x4096.size a := fun v2 v948 k0_hw27 => k0_hw27.1
theorem k0_idx54_inb : ∀ (v2 : IVec S16 32) (v948 : IVec S16 32) (k0_hw27 : k0_chk27 v2 v948), ∀ a x, ((![v2, v948] : Fin 2 → IVec S16 32) a x).toNat < S16x4096.size a := fun v2 v948 k0_hw27 => k0_hw27.2

def k0_chk28 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx55_inb : ∀ (v2 : IVec S16 32) (v970 : IVec S16 32) (k0_hw28 : k0_chk28 v2 v970), ∀ a x, ((![v2, v970] : Fin 2 → IVec S16 32) a x).toNat < S16x4096.size a := fun v2 v970 k0_hw28 => k0_hw28.1
theorem k0_idx56_inb : ∀ (v2 : IVec S16 32) (v970 : IVec S16 32) (k0_hw28 : k0_chk28 v2 v970), ∀ a x, ((![v2, v970] : Fin 2 → IVec S16 32) a x).toNat < S16x4096.size a := fun v2 v970 k0_hw28 => k0_hw28.2

def k0_chk29 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx57_inb : ∀ (v2 : IVec S16 32) (v992 : IVec S16 32) (k0_hw29 : k0_chk29 v2 v992), ∀ a x, ((![v2, v992] : Fin 2 → IVec S16 32) a x).toNat < S16x4096.size a := fun v2 v992 k0_hw29 => k0_hw29.1
theorem k0_idx58_inb : ∀ (v2 : IVec S16 32) (v992 : IVec S16 32) (k0_hw29 : k0_chk29 v2 v992), ∀ a x, ((![v2, v992] : Fin 2 → IVec S16 32) a x).toNat < S16x4096.size a := fun v2 v992 k0_hw29 => k0_hw29.2

def k0_chk30 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx59_inb : ∀ (v2 : IVec S16 32) (v1014 : IVec S16 32) (k0_hw30 : k0_chk30 v2 v1014), ∀ a x, ((![v2, v1014] : Fin 2 → IVec S16 32) a x).toNat < S16x4096.size a := fun v2 v1014 k0_hw30 => k0_hw30.1
theorem k0_idx60_inb : ∀ (v2 : IVec S16 32) (v1014 : IVec S16 32) (k0_hw30 : k0_chk30 v2 v1014), ∀ a x, ((![v2, v1014] : Fin 2 → IVec S16 32) a x).toNat < S16x4096.size a := fun v2 v1014 k0_hw30 => k0_hw30.2
@[reducible] def k0_t8_loop : Scf.Loop 32 :=
  let c0_i32_130 : BitVec 32 := 0#32
  let c25_i32_131 : BitVec 32 := 25#32
  let v279 : BitVec 32 := Scalar.addi c0_i32_130 c25_i32_131
  let c1_i32_132 : BitVec 32 := 1#32
  ⟨c0_i32_130, v279, c1_i32_132⟩
def k0_off37 (k0_t8 : Fin k0_t8_loop.trips) (c0_i32_456 : BitVec 32) : Fin 1 → Nat :=
  let c0_i32_130 : BitVec 32 := 0#32
  let c1_i32_132 : BitVec 32 := 1#32
  let arg20 : BitVec 32 := Scf.iv c0_i32_130 c1_i32_132 k0_t8
  let c80_i32 : BitVec 32 := 80#32
  let v913 : BitVec 32 := Scalar.muli arg20 c80_i32
  let v914 : BitVec 32 := Scalar.addi v913 c0_i32_456
  let v915 : Index := Scalar.indexCast v914
  ![v915.toNat]
def k0_off38 (k0_t8 : Fin k0_t8_loop.trips) (c2000_i32_457 : BitVec 32) (c0_i32_456 : BitVec 32) : Fin 1 → Nat :=
  let c0_i32_130 : BitVec 32 := 0#32
  let c1_i32_132 : BitVec 32 := 1#32
  let arg20 : BitVec 32 := Scf.iv c0_i32_130 c1_i32_132 k0_t8
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off39 (k0_t8 : Fin k0_t8_loop.trips) (c0_i32_456 : BitVec 32) : Fin 1 → Nat :=
  let c0_i32_130 : BitVec 32 := 0#32
  let c1_i32_132 : BitVec 32 := 1#32
  let arg20 : BitVec 32 := Scf.iv c0_i32_130 c1_i32_132 k0_t8
  let c80_i32 : BitVec 32 := 80#32
  let v913 : BitVec 32 := Scalar.muli arg20 c80_i32
  let v914 : BitVec 32 := Scalar.addi v913 c0_i32_456
  let v923 : Index := Scalar.indexCast v914
  ![v923.toNat]

def k0_chk31 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx61_inb : ∀ (v2 : IVec S16 32) (v926 : IVec S16 32) (k0_hw31 : k0_chk31 v2 v926), ∀ a x, ((![v2, v926] : Fin 2 → IVec S16 32) a x).toNat < S16x4096.size a := fun v2 v926 k0_hw31 => k0_hw31.1
theorem k0_idx62_inb : ∀ (v2 : IVec S16 32) (v926 : IVec S16 32) (k0_hw31 : k0_chk31 v2 v926), ∀ a x, ((![v2, v926] : Fin 2 → IVec S16 32) a x).toNat < S16x4096.size a := fun v2 v926 k0_hw31 => k0_hw31.2

def k0_chk32 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx63_inb : ∀ (v2 : IVec S16 32) (v948 : IVec S16 32) (k0_hw32 : k0_chk32 v2 v948), ∀ a x, ((![v2, v948] : Fin 2 → IVec S16 32) a x).toNat < S16x4096.size a := fun v2 v948 k0_hw32 => k0_hw32.1
theorem k0_idx64_inb : ∀ (v2 : IVec S16 32) (v948 : IVec S16 32) (k0_hw32 : k0_chk32 v2 v948), ∀ a x, ((![v2, v948] : Fin 2 → IVec S16 32) a x).toNat < S16x4096.size a := fun v2 v948 k0_hw32 => k0_hw32.2

def k0_chk33 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx65_inb : ∀ (v2 : IVec S16 32) (v970 : IVec S16 32) (k0_hw33 : k0_chk33 v2 v970), ∀ a x, ((![v2, v970] : Fin 2 → IVec S16 32) a x).toNat < S16x4096.size a := fun v2 v970 k0_hw33 => k0_hw33.1
theorem k0_idx66_inb : ∀ (v2 : IVec S16 32) (v970 : IVec S16 32) (k0_hw33 : k0_chk33 v2 v970), ∀ a x, ((![v2, v970] : Fin 2 → IVec S16 32) a x).toNat < S16x4096.size a := fun v2 v970 k0_hw33 => k0_hw33.2

def k0_chk34 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx67_inb : ∀ (v2 : IVec S16 32) (v992 : IVec S16 32) (k0_hw34 : k0_chk34 v2 v992), ∀ a x, ((![v2, v992] : Fin 2 → IVec S16 32) a x).toNat < S16x4096.size a := fun v2 v992 k0_hw34 => k0_hw34.1
theorem k0_idx68_inb : ∀ (v2 : IVec S16 32) (v992 : IVec S16 32) (k0_hw34 : k0_chk34 v2 v992), ∀ a x, ((![v2, v992] : Fin 2 → IVec S16 32) a x).toNat < S16x4096.size a := fun v2 v992 k0_hw34 => k0_hw34.2

def k0_chk35 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx69_inb : ∀ (v2 : IVec S16 32) (v1014 : IVec S16 32) (k0_hw35 : k0_chk35 v2 v1014), ∀ a x, ((![v2, v1014] : Fin 2 → IVec S16 32) a x).toNat < S16x4096.size a := fun v2 v1014 k0_hw35 => k0_hw35.1
theorem k0_idx70_inb : ∀ (v2 : IVec S16 32) (v1014 : IVec S16 32) (k0_hw35 : k0_chk35 v2 v1014), ∀ a x, ((![v2, v1014] : Fin 2 → IVec S16 32) a x).toNat < S16x4096.size a := fun v2 v1014 k0_hw35 => k0_hw35.2
@[reducible] def k0_t9_loop : Scf.Loop 32 :=
  let c0_i32_148 : BitVec 32 := 0#32
  let c25_i32_149 : BitVec 32 := 25#32
  let v315 : BitVec 32 := Scalar.addi c0_i32_148 c25_i32_149
  let c1_i32_150 : BitVec 32 := 1#32
  ⟨c0_i32_148, v315, c1_i32_150⟩
def k0_off40 (k0_t9 : Fin k0_t9_loop.trips) (c0_i32_456 : BitVec 32) : Fin 1 → Nat :=
  let c0_i32_148 : BitVec 32 := 0#32
  let c1_i32_150 : BitVec 32 := 1#32
  let arg20 : BitVec 32 := Scf.iv c0_i32_148 c1_i32_150 k0_t9
  let c80_i32 : BitVec 32 := 80#32
  let v913 : BitVec 32 := Scalar.muli arg20 c80_i32
  let v914 : BitVec 32 := Scalar.addi v913 c0_i32_456
  let v915 : Index := Scalar.indexCast v914
  ![v915.toNat]
def k0_off41 (k0_t9 : Fin k0_t9_loop.trips) (c2000_i32_457 : BitVec 32) (c0_i32_456 : BitVec 32) : Fin 1 → Nat :=
  let c0_i32_148 : BitVec 32 := 0#32
  let c1_i32_150 : BitVec 32 := 1#32
  let arg20 : BitVec 32 := Scf.iv c0_i32_148 c1_i32_150 k0_t9
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off42 (k0_t9 : Fin k0_t9_loop.trips) (c0_i32_456 : BitVec 32) : Fin 1 → Nat :=
  let c0_i32_148 : BitVec 32 := 0#32
  let c1_i32_150 : BitVec 32 := 1#32
  let arg20 : BitVec 32 := Scf.iv c0_i32_148 c1_i32_150 k0_t9
  let c80_i32 : BitVec 32 := 80#32
  let v913 : BitVec 32 := Scalar.muli arg20 c80_i32
  let v914 : BitVec 32 := Scalar.addi v913 c0_i32_456
  let v923 : Index := Scalar.indexCast v914
  ![v923.toNat]

def k0_chk36 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx71_inb : ∀ (v2 : IVec S16 32) (v926 : IVec S16 32) (k0_hw36 : k0_chk36 v2 v926), ∀ a x, ((![v2, v926] : Fin 2 → IVec S16 32) a x).toNat < S16x4096.size a := fun v2 v926 k0_hw36 => k0_hw36.1
theorem k0_idx72_inb : ∀ (v2 : IVec S16 32) (v926 : IVec S16 32) (k0_hw36 : k0_chk36 v2 v926), ∀ a x, ((![v2, v926] : Fin 2 → IVec S16 32) a x).toNat < S16x4096.size a := fun v2 v926 k0_hw36 => k0_hw36.2

def k0_chk37 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx73_inb : ∀ (v2 : IVec S16 32) (v948 : IVec S16 32) (k0_hw37 : k0_chk37 v2 v948), ∀ a x, ((![v2, v948] : Fin 2 → IVec S16 32) a x).toNat < S16x4096.size a := fun v2 v948 k0_hw37 => k0_hw37.1
theorem k0_idx74_inb : ∀ (v2 : IVec S16 32) (v948 : IVec S16 32) (k0_hw37 : k0_chk37 v2 v948), ∀ a x, ((![v2, v948] : Fin 2 → IVec S16 32) a x).toNat < S16x4096.size a := fun v2 v948 k0_hw37 => k0_hw37.2

def k0_chk38 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx75_inb : ∀ (v2 : IVec S16 32) (v970 : IVec S16 32) (k0_hw38 : k0_chk38 v2 v970), ∀ a x, ((![v2, v970] : Fin 2 → IVec S16 32) a x).toNat < S16x4096.size a := fun v2 v970 k0_hw38 => k0_hw38.1
theorem k0_idx76_inb : ∀ (v2 : IVec S16 32) (v970 : IVec S16 32) (k0_hw38 : k0_chk38 v2 v970), ∀ a x, ((![v2, v970] : Fin 2 → IVec S16 32) a x).toNat < S16x4096.size a := fun v2 v970 k0_hw38 => k0_hw38.2

def k0_chk39 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx77_inb : ∀ (v2 : IVec S16 32) (v992 : IVec S16 32) (k0_hw39 : k0_chk39 v2 v992), ∀ a x, ((![v2, v992] : Fin 2 → IVec S16 32) a x).toNat < S16x4096.size a := fun v2 v992 k0_hw39 => k0_hw39.1
theorem k0_idx78_inb : ∀ (v2 : IVec S16 32) (v992 : IVec S16 32) (k0_hw39 : k0_chk39 v2 v992), ∀ a x, ((![v2, v992] : Fin 2 → IVec S16 32) a x).toNat < S16x4096.size a := fun v2 v992 k0_hw39 => k0_hw39.2

def k0_chk40 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx79_inb : ∀ (v2 : IVec S16 32) (v1014 : IVec S16 32) (k0_hw40 : k0_chk40 v2 v1014), ∀ a x, ((![v2, v1014] : Fin 2 → IVec S16 32) a x).toNat < S16x4096.size a := fun v2 v1014 k0_hw40 => k0_hw40.1
theorem k0_idx80_inb : ∀ (v2 : IVec S16 32) (v1014 : IVec S16 32) (k0_hw40 : k0_chk40 v2 v1014), ∀ a x, ((![v2, v1014] : Fin 2 → IVec S16 32) a x).toNat < S16x4096.size a := fun v2 v1014 k0_hw40 => k0_hw40.2
@[reducible] def k0_t10_loop : Scf.Loop 32 :=
  let c0_i32_166 : BitVec 32 := 0#32
  let c25_i32_167 : BitVec 32 := 25#32
  let v351 : BitVec 32 := Scalar.addi c0_i32_166 c25_i32_167
  let c1_i32_168 : BitVec 32 := 1#32
  ⟨c0_i32_166, v351, c1_i32_168⟩
def k0_off43 (k0_t10 : Fin k0_t10_loop.trips) (c0_i32_456 : BitVec 32) : Fin 1 → Nat :=
  let c0_i32_166 : BitVec 32 := 0#32
  let c1_i32_168 : BitVec 32 := 1#32
  let arg20 : BitVec 32 := Scf.iv c0_i32_166 c1_i32_168 k0_t10
  let c80_i32 : BitVec 32 := 80#32
  let v913 : BitVec 32 := Scalar.muli arg20 c80_i32
  let v914 : BitVec 32 := Scalar.addi v913 c0_i32_456
  let v915 : Index := Scalar.indexCast v914
  ![v915.toNat]
def k0_off44 (k0_t10 : Fin k0_t10_loop.trips) (c2000_i32_457 : BitVec 32) (c0_i32_456 : BitVec 32) : Fin 1 → Nat :=
  let c0_i32_166 : BitVec 32 := 0#32
  let c1_i32_168 : BitVec 32 := 1#32
  let arg20 : BitVec 32 := Scf.iv c0_i32_166 c1_i32_168 k0_t10
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off45 (k0_t10 : Fin k0_t10_loop.trips) (c0_i32_456 : BitVec 32) : Fin 1 → Nat :=
  let c0_i32_166 : BitVec 32 := 0#32
  let c1_i32_168 : BitVec 32 := 1#32
  let arg20 : BitVec 32 := Scf.iv c0_i32_166 c1_i32_168 k0_t10
  let c80_i32 : BitVec 32 := 80#32
  let v913 : BitVec 32 := Scalar.muli arg20 c80_i32
  let v914 : BitVec 32 := Scalar.addi v913 c0_i32_456
  let v923 : Index := Scalar.indexCast v914
  ![v923.toNat]

def k0_chk41 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx81_inb : ∀ (v2 : IVec S16 32) (v926 : IVec S16 32) (k0_hw41 : k0_chk41 v2 v926), ∀ a x, ((![v2, v926] : Fin 2 → IVec S16 32) a x).toNat < S16x4096.size a := fun v2 v926 k0_hw41 => k0_hw41.1
theorem k0_idx82_inb : ∀ (v2 : IVec S16 32) (v926 : IVec S16 32) (k0_hw41 : k0_chk41 v2 v926), ∀ a x, ((![v2, v926] : Fin 2 → IVec S16 32) a x).toNat < S16x4096.size a := fun v2 v926 k0_hw41 => k0_hw41.2

def k0_chk42 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx83_inb : ∀ (v2 : IVec S16 32) (v948 : IVec S16 32) (k0_hw42 : k0_chk42 v2 v948), ∀ a x, ((![v2, v948] : Fin 2 → IVec S16 32) a x).toNat < S16x4096.size a := fun v2 v948 k0_hw42 => k0_hw42.1
theorem k0_idx84_inb : ∀ (v2 : IVec S16 32) (v948 : IVec S16 32) (k0_hw42 : k0_chk42 v2 v948), ∀ a x, ((![v2, v948] : Fin 2 → IVec S16 32) a x).toNat < S16x4096.size a := fun v2 v948 k0_hw42 => k0_hw42.2

def k0_chk43 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx85_inb : ∀ (v2 : IVec S16 32) (v970 : IVec S16 32) (k0_hw43 : k0_chk43 v2 v970), ∀ a x, ((![v2, v970] : Fin 2 → IVec S16 32) a x).toNat < S16x4096.size a := fun v2 v970 k0_hw43 => k0_hw43.1
theorem k0_idx86_inb : ∀ (v2 : IVec S16 32) (v970 : IVec S16 32) (k0_hw43 : k0_chk43 v2 v970), ∀ a x, ((![v2, v970] : Fin 2 → IVec S16 32) a x).toNat < S16x4096.size a := fun v2 v970 k0_hw43 => k0_hw43.2

def k0_chk44 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx87_inb : ∀ (v2 : IVec S16 32) (v992 : IVec S16 32) (k0_hw44 : k0_chk44 v2 v992), ∀ a x, ((![v2, v992] : Fin 2 → IVec S16 32) a x).toNat < S16x4096.size a := fun v2 v992 k0_hw44 => k0_hw44.1
theorem k0_idx88_inb : ∀ (v2 : IVec S16 32) (v992 : IVec S16 32) (k0_hw44 : k0_chk44 v2 v992), ∀ a x, ((![v2, v992] : Fin 2 → IVec S16 32) a x).toNat < S16x4096.size a := fun v2 v992 k0_hw44 => k0_hw44.2

def k0_chk45 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx89_inb : ∀ (v2 : IVec S16 32) (v1014 : IVec S16 32) (k0_hw45 : k0_chk45 v2 v1014), ∀ a x, ((![v2, v1014] : Fin 2 → IVec S16 32) a x).toNat < S16x4096.size a := fun v2 v1014 k0_hw45 => k0_hw45.1
theorem k0_idx90_inb : ∀ (v2 : IVec S16 32) (v1014 : IVec S16 32) (k0_hw45 : k0_chk45 v2 v1014), ∀ a x, ((![v2, v1014] : Fin 2 → IVec S16 32) a x).toNat < S16x4096.size a := fun v2 v1014 k0_hw45 => k0_hw45.2
@[reducible] def k0_t11_loop : Scf.Loop 32 :=
  let c0_i32_184 : BitVec 32 := 0#32
  let c25_i32_185 : BitVec 32 := 25#32
  let v387 : BitVec 32 := Scalar.addi c0_i32_184 c25_i32_185
  let c1_i32_186 : BitVec 32 := 1#32
  ⟨c0_i32_184, v387, c1_i32_186⟩
def k0_off46 (k0_t11 : Fin k0_t11_loop.trips) (c0_i32_456 : BitVec 32) : Fin 1 → Nat :=
  let c0_i32_184 : BitVec 32 := 0#32
  let c1_i32_186 : BitVec 32 := 1#32
  let arg20 : BitVec 32 := Scf.iv c0_i32_184 c1_i32_186 k0_t11
  let c80_i32 : BitVec 32 := 80#32
  let v913 : BitVec 32 := Scalar.muli arg20 c80_i32
  let v914 : BitVec 32 := Scalar.addi v913 c0_i32_456
  let v915 : Index := Scalar.indexCast v914
  ![v915.toNat]
def k0_off47 (k0_t11 : Fin k0_t11_loop.trips) (c2000_i32_457 : BitVec 32) (c0_i32_456 : BitVec 32) : Fin 1 → Nat :=
  let c0_i32_184 : BitVec 32 := 0#32
  let c1_i32_186 : BitVec 32 := 1#32
  let arg20 : BitVec 32 := Scf.iv c0_i32_184 c1_i32_186 k0_t11
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off48 (k0_t11 : Fin k0_t11_loop.trips) (c0_i32_456 : BitVec 32) : Fin 1 → Nat :=
  let c0_i32_184 : BitVec 32 := 0#32
  let c1_i32_186 : BitVec 32 := 1#32
  let arg20 : BitVec 32 := Scf.iv c0_i32_184 c1_i32_186 k0_t11
  let c80_i32 : BitVec 32 := 80#32
  let v913 : BitVec 32 := Scalar.muli arg20 c80_i32
  let v914 : BitVec 32 := Scalar.addi v913 c0_i32_456
  let v923 : Index := Scalar.indexCast v914
  ![v923.toNat]

def k0_chk46 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx91_inb : ∀ (v2 : IVec S16 32) (v926 : IVec S16 32) (k0_hw46 : k0_chk46 v2 v926), ∀ a x, ((![v2, v926] : Fin 2 → IVec S16 32) a x).toNat < S16x4096.size a := fun v2 v926 k0_hw46 => k0_hw46.1
theorem k0_idx92_inb : ∀ (v2 : IVec S16 32) (v926 : IVec S16 32) (k0_hw46 : k0_chk46 v2 v926), ∀ a x, ((![v2, v926] : Fin 2 → IVec S16 32) a x).toNat < S16x4096.size a := fun v2 v926 k0_hw46 => k0_hw46.2

def k0_chk47 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx93_inb : ∀ (v2 : IVec S16 32) (v948 : IVec S16 32) (k0_hw47 : k0_chk47 v2 v948), ∀ a x, ((![v2, v948] : Fin 2 → IVec S16 32) a x).toNat < S16x4096.size a := fun v2 v948 k0_hw47 => k0_hw47.1
theorem k0_idx94_inb : ∀ (v2 : IVec S16 32) (v948 : IVec S16 32) (k0_hw47 : k0_chk47 v2 v948), ∀ a x, ((![v2, v948] : Fin 2 → IVec S16 32) a x).toNat < S16x4096.size a := fun v2 v948 k0_hw47 => k0_hw47.2

def k0_chk48 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx95_inb : ∀ (v2 : IVec S16 32) (v970 : IVec S16 32) (k0_hw48 : k0_chk48 v2 v970), ∀ a x, ((![v2, v970] : Fin 2 → IVec S16 32) a x).toNat < S16x4096.size a := fun v2 v970 k0_hw48 => k0_hw48.1
theorem k0_idx96_inb : ∀ (v2 : IVec S16 32) (v970 : IVec S16 32) (k0_hw48 : k0_chk48 v2 v970), ∀ a x, ((![v2, v970] : Fin 2 → IVec S16 32) a x).toNat < S16x4096.size a := fun v2 v970 k0_hw48 => k0_hw48.2

def k0_chk49 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx97_inb : ∀ (v2 : IVec S16 32) (v992 : IVec S16 32) (k0_hw49 : k0_chk49 v2 v992), ∀ a x, ((![v2, v992] : Fin 2 → IVec S16 32) a x).toNat < S16x4096.size a := fun v2 v992 k0_hw49 => k0_hw49.1
theorem k0_idx98_inb : ∀ (v2 : IVec S16 32) (v992 : IVec S16 32) (k0_hw49 : k0_chk49 v2 v992), ∀ a x, ((![v2, v992] : Fin 2 → IVec S16 32) a x).toNat < S16x4096.size a := fun v2 v992 k0_hw49 => k0_hw49.2

def k0_chk50 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx99_inb : ∀ (v2 : IVec S16 32) (v1014 : IVec S16 32) (k0_hw50 : k0_chk50 v2 v1014), ∀ a x, ((![v2, v1014] : Fin 2 → IVec S16 32) a x).toNat < S16x4096.size a := fun v2 v1014 k0_hw50 => k0_hw50.1
theorem k0_idx100_inb : ∀ (v2 : IVec S16 32) (v1014 : IVec S16 32) (k0_hw50 : k0_chk50 v2 v1014), ∀ a x, ((![v2, v1014] : Fin 2 → IVec S16 32) a x).toNat < S16x4096.size a := fun v2 v1014 k0_hw50 => k0_hw50.2
@[reducible] def k0_t12_loop : Scf.Loop 32 :=
  let c0_i32_202 : BitVec 32 := 0#32
  let c25_i32_203 : BitVec 32 := 25#32
  let v423 : BitVec 32 := Scalar.addi c0_i32_202 c25_i32_203
  let c1_i32_204 : BitVec 32 := 1#32
  ⟨c0_i32_202, v423, c1_i32_204⟩
def k0_off49 (k0_t12 : Fin k0_t12_loop.trips) (c0_i32_456 : BitVec 32) : Fin 1 → Nat :=
  let c0_i32_202 : BitVec 32 := 0#32
  let c1_i32_204 : BitVec 32 := 1#32
  let arg20 : BitVec 32 := Scf.iv c0_i32_202 c1_i32_204 k0_t12
  let c80_i32 : BitVec 32 := 80#32
  let v913 : BitVec 32 := Scalar.muli arg20 c80_i32
  let v914 : BitVec 32 := Scalar.addi v913 c0_i32_456
  let v915 : Index := Scalar.indexCast v914
  ![v915.toNat]
def k0_off50 (k0_t12 : Fin k0_t12_loop.trips) (c2000_i32_457 : BitVec 32) (c0_i32_456 : BitVec 32) : Fin 1 → Nat :=
  let c0_i32_202 : BitVec 32 := 0#32
  let c1_i32_204 : BitVec 32 := 1#32
  let arg20 : BitVec 32 := Scf.iv c0_i32_202 c1_i32_204 k0_t12
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off51 (k0_t12 : Fin k0_t12_loop.trips) (c0_i32_456 : BitVec 32) : Fin 1 → Nat :=
  let c0_i32_202 : BitVec 32 := 0#32
  let c1_i32_204 : BitVec 32 := 1#32
  let arg20 : BitVec 32 := Scf.iv c0_i32_202 c1_i32_204 k0_t12
  let c80_i32 : BitVec 32 := 80#32
  let v913 : BitVec 32 := Scalar.muli arg20 c80_i32
  let v914 : BitVec 32 := Scalar.addi v913 c0_i32_456
  let v923 : Index := Scalar.indexCast v914
  ![v923.toNat]

def k0_chk51 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx101_inb : ∀ (v2 : IVec S16 32) (v926 : IVec S16 32) (k0_hw51 : k0_chk51 v2 v926), ∀ a x, ((![v2, v926] : Fin 2 → IVec S16 32) a x).toNat < S16x4096.size a := fun v2 v926 k0_hw51 => k0_hw51.1
theorem k0_idx102_inb : ∀ (v2 : IVec S16 32) (v926 : IVec S16 32) (k0_hw51 : k0_chk51 v2 v926), ∀ a x, ((![v2, v926] : Fin 2 → IVec S16 32) a x).toNat < S16x4096.size a := fun v2 v926 k0_hw51 => k0_hw51.2

def k0_chk52 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx103_inb : ∀ (v2 : IVec S16 32) (v948 : IVec S16 32) (k0_hw52 : k0_chk52 v2 v948), ∀ a x, ((![v2, v948] : Fin 2 → IVec S16 32) a x).toNat < S16x4096.size a := fun v2 v948 k0_hw52 => k0_hw52.1
theorem k0_idx104_inb : ∀ (v2 : IVec S16 32) (v948 : IVec S16 32) (k0_hw52 : k0_chk52 v2 v948), ∀ a x, ((![v2, v948] : Fin 2 → IVec S16 32) a x).toNat < S16x4096.size a := fun v2 v948 k0_hw52 => k0_hw52.2

def k0_chk53 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx105_inb : ∀ (v2 : IVec S16 32) (v970 : IVec S16 32) (k0_hw53 : k0_chk53 v2 v970), ∀ a x, ((![v2, v970] : Fin 2 → IVec S16 32) a x).toNat < S16x4096.size a := fun v2 v970 k0_hw53 => k0_hw53.1
theorem k0_idx106_inb : ∀ (v2 : IVec S16 32) (v970 : IVec S16 32) (k0_hw53 : k0_chk53 v2 v970), ∀ a x, ((![v2, v970] : Fin 2 → IVec S16 32) a x).toNat < S16x4096.size a := fun v2 v970 k0_hw53 => k0_hw53.2

def k0_chk54 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx107_inb : ∀ (v2 : IVec S16 32) (v992 : IVec S16 32) (k0_hw54 : k0_chk54 v2 v992), ∀ a x, ((![v2, v992] : Fin 2 → IVec S16 32) a x).toNat < S16x4096.size a := fun v2 v992 k0_hw54 => k0_hw54.1
theorem k0_idx108_inb : ∀ (v2 : IVec S16 32) (v992 : IVec S16 32) (k0_hw54 : k0_chk54 v2 v992), ∀ a x, ((![v2, v992] : Fin 2 → IVec S16 32) a x).toNat < S16x4096.size a := fun v2 v992 k0_hw54 => k0_hw54.2

def k0_chk55 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx109_inb : ∀ (v2 : IVec S16 32) (v1014 : IVec S16 32) (k0_hw55 : k0_chk55 v2 v1014), ∀ a x, ((![v2, v1014] : Fin 2 → IVec S16 32) a x).toNat < S16x4096.size a := fun v2 v1014 k0_hw55 => k0_hw55.1
theorem k0_idx110_inb : ∀ (v2 : IVec S16 32) (v1014 : IVec S16 32) (k0_hw55 : k0_chk55 v2 v1014), ∀ a x, ((![v2, v1014] : Fin 2 → IVec S16 32) a x).toNat < S16x4096.size a := fun v2 v1014 k0_hw55 => k0_hw55.2
@[reducible] def k0_t13_loop : Scf.Loop 32 :=
  let c0_i32_220 : BitVec 32 := 0#32
  let c25_i32_221 : BitVec 32 := 25#32
  let v459 : BitVec 32 := Scalar.addi c0_i32_220 c25_i32_221
  let c1_i32_222 : BitVec 32 := 1#32
  ⟨c0_i32_220, v459, c1_i32_222⟩
def k0_off52 (k0_t13 : Fin k0_t13_loop.trips) (c0_i32_456 : BitVec 32) : Fin 1 → Nat :=
  let c0_i32_220 : BitVec 32 := 0#32
  let c1_i32_222 : BitVec 32 := 1#32
  let arg20 : BitVec 32 := Scf.iv c0_i32_220 c1_i32_222 k0_t13
  let c80_i32 : BitVec 32 := 80#32
  let v913 : BitVec 32 := Scalar.muli arg20 c80_i32
  let v914 : BitVec 32 := Scalar.addi v913 c0_i32_456
  let v915 : Index := Scalar.indexCast v914
  ![v915.toNat]
def k0_off53 (k0_t13 : Fin k0_t13_loop.trips) (c2000_i32_457 : BitVec 32) (c0_i32_456 : BitVec 32) : Fin 1 → Nat :=
  let c0_i32_220 : BitVec 32 := 0#32
  let c1_i32_222 : BitVec 32 := 1#32
  let arg20 : BitVec 32 := Scf.iv c0_i32_220 c1_i32_222 k0_t13
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off54 (k0_t13 : Fin k0_t13_loop.trips) (c0_i32_456 : BitVec 32) : Fin 1 → Nat :=
  let c0_i32_220 : BitVec 32 := 0#32
  let c1_i32_222 : BitVec 32 := 1#32
  let arg20 : BitVec 32 := Scf.iv c0_i32_220 c1_i32_222 k0_t13
  let c80_i32 : BitVec 32 := 80#32
  let v913 : BitVec 32 := Scalar.muli arg20 c80_i32
  let v914 : BitVec 32 := Scalar.addi v913 c0_i32_456
  let v923 : Index := Scalar.indexCast v914
  ![v923.toNat]

def k0_chk56 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx111_inb : ∀ (v2 : IVec S16 32) (v926 : IVec S16 32) (k0_hw56 : k0_chk56 v2 v926), ∀ a x, ((![v2, v926] : Fin 2 → IVec S16 32) a x).toNat < S16x4096.size a := fun v2 v926 k0_hw56 => k0_hw56.1
theorem k0_idx112_inb : ∀ (v2 : IVec S16 32) (v926 : IVec S16 32) (k0_hw56 : k0_chk56 v2 v926), ∀ a x, ((![v2, v926] : Fin 2 → IVec S16 32) a x).toNat < S16x4096.size a := fun v2 v926 k0_hw56 => k0_hw56.2

def k0_chk57 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx113_inb : ∀ (v2 : IVec S16 32) (v948 : IVec S16 32) (k0_hw57 : k0_chk57 v2 v948), ∀ a x, ((![v2, v948] : Fin 2 → IVec S16 32) a x).toNat < S16x4096.size a := fun v2 v948 k0_hw57 => k0_hw57.1
theorem k0_idx114_inb : ∀ (v2 : IVec S16 32) (v948 : IVec S16 32) (k0_hw57 : k0_chk57 v2 v948), ∀ a x, ((![v2, v948] : Fin 2 → IVec S16 32) a x).toNat < S16x4096.size a := fun v2 v948 k0_hw57 => k0_hw57.2

def k0_chk58 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx115_inb : ∀ (v2 : IVec S16 32) (v970 : IVec S16 32) (k0_hw58 : k0_chk58 v2 v970), ∀ a x, ((![v2, v970] : Fin 2 → IVec S16 32) a x).toNat < S16x4096.size a := fun v2 v970 k0_hw58 => k0_hw58.1
theorem k0_idx116_inb : ∀ (v2 : IVec S16 32) (v970 : IVec S16 32) (k0_hw58 : k0_chk58 v2 v970), ∀ a x, ((![v2, v970] : Fin 2 → IVec S16 32) a x).toNat < S16x4096.size a := fun v2 v970 k0_hw58 => k0_hw58.2

def k0_chk59 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx117_inb : ∀ (v2 : IVec S16 32) (v992 : IVec S16 32) (k0_hw59 : k0_chk59 v2 v992), ∀ a x, ((![v2, v992] : Fin 2 → IVec S16 32) a x).toNat < S16x4096.size a := fun v2 v992 k0_hw59 => k0_hw59.1
theorem k0_idx118_inb : ∀ (v2 : IVec S16 32) (v992 : IVec S16 32) (k0_hw59 : k0_chk59 v2 v992), ∀ a x, ((![v2, v992] : Fin 2 → IVec S16 32) a x).toNat < S16x4096.size a := fun v2 v992 k0_hw59 => k0_hw59.2

def k0_chk60 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx119_inb : ∀ (v2 : IVec S16 32) (v1014 : IVec S16 32) (k0_hw60 : k0_chk60 v2 v1014), ∀ a x, ((![v2, v1014] : Fin 2 → IVec S16 32) a x).toNat < S16x4096.size a := fun v2 v1014 k0_hw60 => k0_hw60.1
theorem k0_idx120_inb : ∀ (v2 : IVec S16 32) (v1014 : IVec S16 32) (k0_hw60 : k0_chk60 v2 v1014), ∀ a x, ((![v2, v1014] : Fin 2 → IVec S16 32) a x).toNat < S16x4096.size a := fun v2 v1014 k0_hw60 => k0_hw60.2
@[reducible] def k0_t14_loop : Scf.Loop 32 :=
  let c0_i32_238 : BitVec 32 := 0#32
  let c25_i32_239 : BitVec 32 := 25#32
  let v495 : BitVec 32 := Scalar.addi c0_i32_238 c25_i32_239
  let c1_i32_240 : BitVec 32 := 1#32
  ⟨c0_i32_238, v495, c1_i32_240⟩
def k0_off55 (k0_t14 : Fin k0_t14_loop.trips) (c0_i32_456 : BitVec 32) : Fin 1 → Nat :=
  let c0_i32_238 : BitVec 32 := 0#32
  let c1_i32_240 : BitVec 32 := 1#32
  let arg20 : BitVec 32 := Scf.iv c0_i32_238 c1_i32_240 k0_t14
  let c80_i32 : BitVec 32 := 80#32
  let v913 : BitVec 32 := Scalar.muli arg20 c80_i32
  let v914 : BitVec 32 := Scalar.addi v913 c0_i32_456
  let v915 : Index := Scalar.indexCast v914
  ![v915.toNat]
def k0_off56 (k0_t14 : Fin k0_t14_loop.trips) (c2000_i32_457 : BitVec 32) (c0_i32_456 : BitVec 32) : Fin 1 → Nat :=
  let c0_i32_238 : BitVec 32 := 0#32
  let c1_i32_240 : BitVec 32 := 1#32
  let arg20 : BitVec 32 := Scf.iv c0_i32_238 c1_i32_240 k0_t14
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off57 (k0_t14 : Fin k0_t14_loop.trips) (c0_i32_456 : BitVec 32) : Fin 1 → Nat :=
  let c0_i32_238 : BitVec 32 := 0#32
  let c1_i32_240 : BitVec 32 := 1#32
  let arg20 : BitVec 32 := Scf.iv c0_i32_238 c1_i32_240 k0_t14
  let c80_i32 : BitVec 32 := 80#32
  let v913 : BitVec 32 := Scalar.muli arg20 c80_i32
  let v914 : BitVec 32 := Scalar.addi v913 c0_i32_456
  let v923 : Index := Scalar.indexCast v914
  ![v923.toNat]

def k0_chk61 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx121_inb : ∀ (v2 : IVec S16 32) (v926 : IVec S16 32) (k0_hw61 : k0_chk61 v2 v926), ∀ a x, ((![v2, v926] : Fin 2 → IVec S16 32) a x).toNat < S16x4096.size a := fun v2 v926 k0_hw61 => k0_hw61.1
theorem k0_idx122_inb : ∀ (v2 : IVec S16 32) (v926 : IVec S16 32) (k0_hw61 : k0_chk61 v2 v926), ∀ a x, ((![v2, v926] : Fin 2 → IVec S16 32) a x).toNat < S16x4096.size a := fun v2 v926 k0_hw61 => k0_hw61.2

def k0_chk62 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx123_inb : ∀ (v2 : IVec S16 32) (v948 : IVec S16 32) (k0_hw62 : k0_chk62 v2 v948), ∀ a x, ((![v2, v948] : Fin 2 → IVec S16 32) a x).toNat < S16x4096.size a := fun v2 v948 k0_hw62 => k0_hw62.1
theorem k0_idx124_inb : ∀ (v2 : IVec S16 32) (v948 : IVec S16 32) (k0_hw62 : k0_chk62 v2 v948), ∀ a x, ((![v2, v948] : Fin 2 → IVec S16 32) a x).toNat < S16x4096.size a := fun v2 v948 k0_hw62 => k0_hw62.2

def k0_chk63 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx125_inb : ∀ (v2 : IVec S16 32) (v970 : IVec S16 32) (k0_hw63 : k0_chk63 v2 v970), ∀ a x, ((![v2, v970] : Fin 2 → IVec S16 32) a x).toNat < S16x4096.size a := fun v2 v970 k0_hw63 => k0_hw63.1
theorem k0_idx126_inb : ∀ (v2 : IVec S16 32) (v970 : IVec S16 32) (k0_hw63 : k0_chk63 v2 v970), ∀ a x, ((![v2, v970] : Fin 2 → IVec S16 32) a x).toNat < S16x4096.size a := fun v2 v970 k0_hw63 => k0_hw63.2

def k0_chk64 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx127_inb : ∀ (v2 : IVec S16 32) (v992 : IVec S16 32) (k0_hw64 : k0_chk64 v2 v992), ∀ a x, ((![v2, v992] : Fin 2 → IVec S16 32) a x).toNat < S16x4096.size a := fun v2 v992 k0_hw64 => k0_hw64.1
theorem k0_idx128_inb : ∀ (v2 : IVec S16 32) (v992 : IVec S16 32) (k0_hw64 : k0_chk64 v2 v992), ∀ a x, ((![v2, v992] : Fin 2 → IVec S16 32) a x).toNat < S16x4096.size a := fun v2 v992 k0_hw64 => k0_hw64.2

def k0_chk65 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx129_inb : ∀ (v2 : IVec S16 32) (v1014 : IVec S16 32) (k0_hw65 : k0_chk65 v2 v1014), ∀ a x, ((![v2, v1014] : Fin 2 → IVec S16 32) a x).toNat < S16x4096.size a := fun v2 v1014 k0_hw65 => k0_hw65.1
theorem k0_idx130_inb : ∀ (v2 : IVec S16 32) (v1014 : IVec S16 32) (k0_hw65 : k0_chk65 v2 v1014), ∀ a x, ((![v2, v1014] : Fin 2 → IVec S16 32) a x).toNat < S16x4096.size a := fun v2 v1014 k0_hw65 => k0_hw65.2
@[reducible] def k0_t15_loop : Scf.Loop 32 :=
  let c0_i32_256 : BitVec 32 := 0#32
  let c25_i32_257 : BitVec 32 := 25#32
  let v531 : BitVec 32 := Scalar.addi c0_i32_256 c25_i32_257
  let c1_i32_258 : BitVec 32 := 1#32
  ⟨c0_i32_256, v531, c1_i32_258⟩
def k0_off58 (k0_t15 : Fin k0_t15_loop.trips) (c0_i32_456 : BitVec 32) : Fin 1 → Nat :=
  let c0_i32_256 : BitVec 32 := 0#32
  let c1_i32_258 : BitVec 32 := 1#32
  let arg20 : BitVec 32 := Scf.iv c0_i32_256 c1_i32_258 k0_t15
  let c80_i32 : BitVec 32 := 80#32
  let v913 : BitVec 32 := Scalar.muli arg20 c80_i32
  let v914 : BitVec 32 := Scalar.addi v913 c0_i32_456
  let v915 : Index := Scalar.indexCast v914
  ![v915.toNat]
def k0_off59 (k0_t15 : Fin k0_t15_loop.trips) (c2000_i32_457 : BitVec 32) (c0_i32_456 : BitVec 32) : Fin 1 → Nat :=
  let c0_i32_256 : BitVec 32 := 0#32
  let c1_i32_258 : BitVec 32 := 1#32
  let arg20 : BitVec 32 := Scf.iv c0_i32_256 c1_i32_258 k0_t15
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off60 (k0_t15 : Fin k0_t15_loop.trips) (c0_i32_456 : BitVec 32) : Fin 1 → Nat :=
  let c0_i32_256 : BitVec 32 := 0#32
  let c1_i32_258 : BitVec 32 := 1#32
  let arg20 : BitVec 32 := Scf.iv c0_i32_256 c1_i32_258 k0_t15
  let c80_i32 : BitVec 32 := 80#32
  let v913 : BitVec 32 := Scalar.muli arg20 c80_i32
  let v914 : BitVec 32 := Scalar.addi v913 c0_i32_456
  let v923 : Index := Scalar.indexCast v914
  ![v923.toNat]

def k0_chk66 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx131_inb : ∀ (v2 : IVec S16 32) (v926 : IVec S16 32) (k0_hw66 : k0_chk66 v2 v926), ∀ a x, ((![v2, v926] : Fin 2 → IVec S16 32) a x).toNat < S16x4096.size a := fun v2 v926 k0_hw66 => k0_hw66.1
theorem k0_idx132_inb : ∀ (v2 : IVec S16 32) (v926 : IVec S16 32) (k0_hw66 : k0_chk66 v2 v926), ∀ a x, ((![v2, v926] : Fin 2 → IVec S16 32) a x).toNat < S16x4096.size a := fun v2 v926 k0_hw66 => k0_hw66.2

def k0_chk67 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx133_inb : ∀ (v2 : IVec S16 32) (v948 : IVec S16 32) (k0_hw67 : k0_chk67 v2 v948), ∀ a x, ((![v2, v948] : Fin 2 → IVec S16 32) a x).toNat < S16x4096.size a := fun v2 v948 k0_hw67 => k0_hw67.1
theorem k0_idx134_inb : ∀ (v2 : IVec S16 32) (v948 : IVec S16 32) (k0_hw67 : k0_chk67 v2 v948), ∀ a x, ((![v2, v948] : Fin 2 → IVec S16 32) a x).toNat < S16x4096.size a := fun v2 v948 k0_hw67 => k0_hw67.2

def k0_chk68 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx135_inb : ∀ (v2 : IVec S16 32) (v970 : IVec S16 32) (k0_hw68 : k0_chk68 v2 v970), ∀ a x, ((![v2, v970] : Fin 2 → IVec S16 32) a x).toNat < S16x4096.size a := fun v2 v970 k0_hw68 => k0_hw68.1
theorem k0_idx136_inb : ∀ (v2 : IVec S16 32) (v970 : IVec S16 32) (k0_hw68 : k0_chk68 v2 v970), ∀ a x, ((![v2, v970] : Fin 2 → IVec S16 32) a x).toNat < S16x4096.size a := fun v2 v970 k0_hw68 => k0_hw68.2

def k0_chk69 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx137_inb : ∀ (v2 : IVec S16 32) (v992 : IVec S16 32) (k0_hw69 : k0_chk69 v2 v992), ∀ a x, ((![v2, v992] : Fin 2 → IVec S16 32) a x).toNat < S16x4096.size a := fun v2 v992 k0_hw69 => k0_hw69.1
theorem k0_idx138_inb : ∀ (v2 : IVec S16 32) (v992 : IVec S16 32) (k0_hw69 : k0_chk69 v2 v992), ∀ a x, ((![v2, v992] : Fin 2 → IVec S16 32) a x).toNat < S16x4096.size a := fun v2 v992 k0_hw69 => k0_hw69.2

def k0_chk70 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx139_inb : ∀ (v2 : IVec S16 32) (v1014 : IVec S16 32) (k0_hw70 : k0_chk70 v2 v1014), ∀ a x, ((![v2, v1014] : Fin 2 → IVec S16 32) a x).toNat < S16x4096.size a := fun v2 v1014 k0_hw70 => k0_hw70.1
theorem k0_idx140_inb : ∀ (v2 : IVec S16 32) (v1014 : IVec S16 32) (k0_hw70 : k0_chk70 v2 v1014), ∀ a x, ((![v2, v1014] : Fin 2 → IVec S16 32) a x).toNat < S16x4096.size a := fun v2 v1014 k0_hw70 => k0_hw70.2
@[reducible] def k0_t16_loop : Scf.Loop 32 :=
  let c0_i32_274 : BitVec 32 := 0#32
  let c25_i32_275 : BitVec 32 := 25#32
  let v567 : BitVec 32 := Scalar.addi c0_i32_274 c25_i32_275
  let c1_i32_276 : BitVec 32 := 1#32
  ⟨c0_i32_274, v567, c1_i32_276⟩
def k0_off61 (k0_t16 : Fin k0_t16_loop.trips) (c0_i32_456 : BitVec 32) : Fin 1 → Nat :=
  let c0_i32_274 : BitVec 32 := 0#32
  let c1_i32_276 : BitVec 32 := 1#32
  let arg20 : BitVec 32 := Scf.iv c0_i32_274 c1_i32_276 k0_t16
  let c80_i32 : BitVec 32 := 80#32
  let v913 : BitVec 32 := Scalar.muli arg20 c80_i32
  let v914 : BitVec 32 := Scalar.addi v913 c0_i32_456
  let v915 : Index := Scalar.indexCast v914
  ![v915.toNat]
def k0_off62 (k0_t16 : Fin k0_t16_loop.trips) (c2000_i32_457 : BitVec 32) (c0_i32_456 : BitVec 32) : Fin 1 → Nat :=
  let c0_i32_274 : BitVec 32 := 0#32
  let c1_i32_276 : BitVec 32 := 1#32
  let arg20 : BitVec 32 := Scf.iv c0_i32_274 c1_i32_276 k0_t16
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off63 (k0_t16 : Fin k0_t16_loop.trips) (c0_i32_456 : BitVec 32) : Fin 1 → Nat :=
  let c0_i32_274 : BitVec 32 := 0#32
  let c1_i32_276 : BitVec 32 := 1#32
  let arg20 : BitVec 32 := Scf.iv c0_i32_274 c1_i32_276 k0_t16
  let c80_i32 : BitVec 32 := 80#32
  let v913 : BitVec 32 := Scalar.muli arg20 c80_i32
  let v914 : BitVec 32 := Scalar.addi v913 c0_i32_456
  let v923 : Index := Scalar.indexCast v914
  ![v923.toNat]

def k0_chk71 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx141_inb : ∀ (v2 : IVec S16 32) (v926 : IVec S16 32) (k0_hw71 : k0_chk71 v2 v926), ∀ a x, ((![v2, v926] : Fin 2 → IVec S16 32) a x).toNat < S16x4096.size a := fun v2 v926 k0_hw71 => k0_hw71.1
theorem k0_idx142_inb : ∀ (v2 : IVec S16 32) (v926 : IVec S16 32) (k0_hw71 : k0_chk71 v2 v926), ∀ a x, ((![v2, v926] : Fin 2 → IVec S16 32) a x).toNat < S16x4096.size a := fun v2 v926 k0_hw71 => k0_hw71.2

def k0_chk72 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx143_inb : ∀ (v2 : IVec S16 32) (v948 : IVec S16 32) (k0_hw72 : k0_chk72 v2 v948), ∀ a x, ((![v2, v948] : Fin 2 → IVec S16 32) a x).toNat < S16x4096.size a := fun v2 v948 k0_hw72 => k0_hw72.1
theorem k0_idx144_inb : ∀ (v2 : IVec S16 32) (v948 : IVec S16 32) (k0_hw72 : k0_chk72 v2 v948), ∀ a x, ((![v2, v948] : Fin 2 → IVec S16 32) a x).toNat < S16x4096.size a := fun v2 v948 k0_hw72 => k0_hw72.2

def k0_chk73 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx145_inb : ∀ (v2 : IVec S16 32) (v970 : IVec S16 32) (k0_hw73 : k0_chk73 v2 v970), ∀ a x, ((![v2, v970] : Fin 2 → IVec S16 32) a x).toNat < S16x4096.size a := fun v2 v970 k0_hw73 => k0_hw73.1
theorem k0_idx146_inb : ∀ (v2 : IVec S16 32) (v970 : IVec S16 32) (k0_hw73 : k0_chk73 v2 v970), ∀ a x, ((![v2, v970] : Fin 2 → IVec S16 32) a x).toNat < S16x4096.size a := fun v2 v970 k0_hw73 => k0_hw73.2

def k0_chk74 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx147_inb : ∀ (v2 : IVec S16 32) (v992 : IVec S16 32) (k0_hw74 : k0_chk74 v2 v992), ∀ a x, ((![v2, v992] : Fin 2 → IVec S16 32) a x).toNat < S16x4096.size a := fun v2 v992 k0_hw74 => k0_hw74.1
theorem k0_idx148_inb : ∀ (v2 : IVec S16 32) (v992 : IVec S16 32) (k0_hw74 : k0_chk74 v2 v992), ∀ a x, ((![v2, v992] : Fin 2 → IVec S16 32) a x).toNat < S16x4096.size a := fun v2 v992 k0_hw74 => k0_hw74.2

def k0_chk75 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx149_inb : ∀ (v2 : IVec S16 32) (v1014 : IVec S16 32) (k0_hw75 : k0_chk75 v2 v1014), ∀ a x, ((![v2, v1014] : Fin 2 → IVec S16 32) a x).toNat < S16x4096.size a := fun v2 v1014 k0_hw75 => k0_hw75.1
theorem k0_idx150_inb : ∀ (v2 : IVec S16 32) (v1014 : IVec S16 32) (k0_hw75 : k0_chk75 v2 v1014), ∀ a x, ((![v2, v1014] : Fin 2 → IVec S16 32) a x).toNat < S16x4096.size a := fun v2 v1014 k0_hw75 => k0_hw75.2
@[reducible] def k0_t17_loop : Scf.Loop 32 :=
  let c0_i32_292 : BitVec 32 := 0#32
  let c25_i32_293 : BitVec 32 := 25#32
  let v603 : BitVec 32 := Scalar.addi c0_i32_292 c25_i32_293
  let c1_i32_294 : BitVec 32 := 1#32
  ⟨c0_i32_292, v603, c1_i32_294⟩
def k0_off64 (k0_t17 : Fin k0_t17_loop.trips) (c0_i32_456 : BitVec 32) : Fin 1 → Nat :=
  let c0_i32_292 : BitVec 32 := 0#32
  let c1_i32_294 : BitVec 32 := 1#32
  let arg20 : BitVec 32 := Scf.iv c0_i32_292 c1_i32_294 k0_t17
  let c80_i32 : BitVec 32 := 80#32
  let v913 : BitVec 32 := Scalar.muli arg20 c80_i32
  let v914 : BitVec 32 := Scalar.addi v913 c0_i32_456
  let v915 : Index := Scalar.indexCast v914
  ![v915.toNat]
def k0_off65 (k0_t17 : Fin k0_t17_loop.trips) (c2000_i32_457 : BitVec 32) (c0_i32_456 : BitVec 32) : Fin 1 → Nat :=
  let c0_i32_292 : BitVec 32 := 0#32
  let c1_i32_294 : BitVec 32 := 1#32
  let arg20 : BitVec 32 := Scf.iv c0_i32_292 c1_i32_294 k0_t17
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off66 (k0_t17 : Fin k0_t17_loop.trips) (c0_i32_456 : BitVec 32) : Fin 1 → Nat :=
  let c0_i32_292 : BitVec 32 := 0#32
  let c1_i32_294 : BitVec 32 := 1#32
  let arg20 : BitVec 32 := Scf.iv c0_i32_292 c1_i32_294 k0_t17
  let c80_i32 : BitVec 32 := 80#32
  let v913 : BitVec 32 := Scalar.muli arg20 c80_i32
  let v914 : BitVec 32 := Scalar.addi v913 c0_i32_456
  let v923 : Index := Scalar.indexCast v914
  ![v923.toNat]

def k0_chk76 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx151_inb : ∀ (v2 : IVec S16 32) (v926 : IVec S16 32) (k0_hw76 : k0_chk76 v2 v926), ∀ a x, ((![v2, v926] : Fin 2 → IVec S16 32) a x).toNat < S16x4096.size a := fun v2 v926 k0_hw76 => k0_hw76.1
theorem k0_idx152_inb : ∀ (v2 : IVec S16 32) (v926 : IVec S16 32) (k0_hw76 : k0_chk76 v2 v926), ∀ a x, ((![v2, v926] : Fin 2 → IVec S16 32) a x).toNat < S16x4096.size a := fun v2 v926 k0_hw76 => k0_hw76.2

def k0_chk77 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx153_inb : ∀ (v2 : IVec S16 32) (v948 : IVec S16 32) (k0_hw77 : k0_chk77 v2 v948), ∀ a x, ((![v2, v948] : Fin 2 → IVec S16 32) a x).toNat < S16x4096.size a := fun v2 v948 k0_hw77 => k0_hw77.1
theorem k0_idx154_inb : ∀ (v2 : IVec S16 32) (v948 : IVec S16 32) (k0_hw77 : k0_chk77 v2 v948), ∀ a x, ((![v2, v948] : Fin 2 → IVec S16 32) a x).toNat < S16x4096.size a := fun v2 v948 k0_hw77 => k0_hw77.2

def k0_chk78 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx155_inb : ∀ (v2 : IVec S16 32) (v970 : IVec S16 32) (k0_hw78 : k0_chk78 v2 v970), ∀ a x, ((![v2, v970] : Fin 2 → IVec S16 32) a x).toNat < S16x4096.size a := fun v2 v970 k0_hw78 => k0_hw78.1
theorem k0_idx156_inb : ∀ (v2 : IVec S16 32) (v970 : IVec S16 32) (k0_hw78 : k0_chk78 v2 v970), ∀ a x, ((![v2, v970] : Fin 2 → IVec S16 32) a x).toNat < S16x4096.size a := fun v2 v970 k0_hw78 => k0_hw78.2

def k0_chk79 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx157_inb : ∀ (v2 : IVec S16 32) (v992 : IVec S16 32) (k0_hw79 : k0_chk79 v2 v992), ∀ a x, ((![v2, v992] : Fin 2 → IVec S16 32) a x).toNat < S16x4096.size a := fun v2 v992 k0_hw79 => k0_hw79.1
theorem k0_idx158_inb : ∀ (v2 : IVec S16 32) (v992 : IVec S16 32) (k0_hw79 : k0_chk79 v2 v992), ∀ a x, ((![v2, v992] : Fin 2 → IVec S16 32) a x).toNat < S16x4096.size a := fun v2 v992 k0_hw79 => k0_hw79.2

def k0_chk80 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx159_inb : ∀ (v2 : IVec S16 32) (v1014 : IVec S16 32) (k0_hw80 : k0_chk80 v2 v1014), ∀ a x, ((![v2, v1014] : Fin 2 → IVec S16 32) a x).toNat < S16x4096.size a := fun v2 v1014 k0_hw80 => k0_hw80.1
theorem k0_idx160_inb : ∀ (v2 : IVec S16 32) (v1014 : IVec S16 32) (k0_hw80 : k0_chk80 v2 v1014), ∀ a x, ((![v2, v1014] : Fin 2 → IVec S16 32) a x).toNat < S16x4096.size a := fun v2 v1014 k0_hw80 => k0_hw80.2
@[reducible] def k0_t18_loop : Scf.Loop 32 :=
  let c0_i32_310 : BitVec 32 := 0#32
  let c25_i32_311 : BitVec 32 := 25#32
  let v639 : BitVec 32 := Scalar.addi c0_i32_310 c25_i32_311
  let c1_i32_312 : BitVec 32 := 1#32
  ⟨c0_i32_310, v639, c1_i32_312⟩
def k0_off67 (k0_t18 : Fin k0_t18_loop.trips) (c0_i32_456 : BitVec 32) : Fin 1 → Nat :=
  let c0_i32_310 : BitVec 32 := 0#32
  let c1_i32_312 : BitVec 32 := 1#32
  let arg20 : BitVec 32 := Scf.iv c0_i32_310 c1_i32_312 k0_t18
  let c80_i32 : BitVec 32 := 80#32
  let v913 : BitVec 32 := Scalar.muli arg20 c80_i32
  let v914 : BitVec 32 := Scalar.addi v913 c0_i32_456
  let v915 : Index := Scalar.indexCast v914
  ![v915.toNat]
def k0_off68 (k0_t18 : Fin k0_t18_loop.trips) (c2000_i32_457 : BitVec 32) (c0_i32_456 : BitVec 32) : Fin 1 → Nat :=
  let c0_i32_310 : BitVec 32 := 0#32
  let c1_i32_312 : BitVec 32 := 1#32
  let arg20 : BitVec 32 := Scf.iv c0_i32_310 c1_i32_312 k0_t18
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off69 (k0_t18 : Fin k0_t18_loop.trips) (c0_i32_456 : BitVec 32) : Fin 1 → Nat :=
  let c0_i32_310 : BitVec 32 := 0#32
  let c1_i32_312 : BitVec 32 := 1#32
  let arg20 : BitVec 32 := Scf.iv c0_i32_310 c1_i32_312 k0_t18
  let c80_i32 : BitVec 32 := 80#32
  let v913 : BitVec 32 := Scalar.muli arg20 c80_i32
  let v914 : BitVec 32 := Scalar.addi v913 c0_i32_456
  let v923 : Index := Scalar.indexCast v914
  ![v923.toNat]

def k0_chk81 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx161_inb : ∀ (v2 : IVec S16 32) (v926 : IVec S16 32) (k0_hw81 : k0_chk81 v2 v926), ∀ a x, ((![v2, v926] : Fin 2 → IVec S16 32) a x).toNat < S16x4096.size a := fun v2 v926 k0_hw81 => k0_hw81.1
theorem k0_idx162_inb : ∀ (v2 : IVec S16 32) (v926 : IVec S16 32) (k0_hw81 : k0_chk81 v2 v926), ∀ a x, ((![v2, v926] : Fin 2 → IVec S16 32) a x).toNat < S16x4096.size a := fun v2 v926 k0_hw81 => k0_hw81.2

def k0_chk82 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx163_inb : ∀ (v2 : IVec S16 32) (v948 : IVec S16 32) (k0_hw82 : k0_chk82 v2 v948), ∀ a x, ((![v2, v948] : Fin 2 → IVec S16 32) a x).toNat < S16x4096.size a := fun v2 v948 k0_hw82 => k0_hw82.1
theorem k0_idx164_inb : ∀ (v2 : IVec S16 32) (v948 : IVec S16 32) (k0_hw82 : k0_chk82 v2 v948), ∀ a x, ((![v2, v948] : Fin 2 → IVec S16 32) a x).toNat < S16x4096.size a := fun v2 v948 k0_hw82 => k0_hw82.2

def k0_chk83 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx165_inb : ∀ (v2 : IVec S16 32) (v970 : IVec S16 32) (k0_hw83 : k0_chk83 v2 v970), ∀ a x, ((![v2, v970] : Fin 2 → IVec S16 32) a x).toNat < S16x4096.size a := fun v2 v970 k0_hw83 => k0_hw83.1
theorem k0_idx166_inb : ∀ (v2 : IVec S16 32) (v970 : IVec S16 32) (k0_hw83 : k0_chk83 v2 v970), ∀ a x, ((![v2, v970] : Fin 2 → IVec S16 32) a x).toNat < S16x4096.size a := fun v2 v970 k0_hw83 => k0_hw83.2

def k0_chk84 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx167_inb : ∀ (v2 : IVec S16 32) (v992 : IVec S16 32) (k0_hw84 : k0_chk84 v2 v992), ∀ a x, ((![v2, v992] : Fin 2 → IVec S16 32) a x).toNat < S16x4096.size a := fun v2 v992 k0_hw84 => k0_hw84.1
theorem k0_idx168_inb : ∀ (v2 : IVec S16 32) (v992 : IVec S16 32) (k0_hw84 : k0_chk84 v2 v992), ∀ a x, ((![v2, v992] : Fin 2 → IVec S16 32) a x).toNat < S16x4096.size a := fun v2 v992 k0_hw84 => k0_hw84.2

def k0_chk85 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx169_inb : ∀ (v2 : IVec S16 32) (v1014 : IVec S16 32) (k0_hw85 : k0_chk85 v2 v1014), ∀ a x, ((![v2, v1014] : Fin 2 → IVec S16 32) a x).toNat < S16x4096.size a := fun v2 v1014 k0_hw85 => k0_hw85.1
theorem k0_idx170_inb : ∀ (v2 : IVec S16 32) (v1014 : IVec S16 32) (k0_hw85 : k0_chk85 v2 v1014), ∀ a x, ((![v2, v1014] : Fin 2 → IVec S16 32) a x).toNat < S16x4096.size a := fun v2 v1014 k0_hw85 => k0_hw85.2
@[reducible] def k0_t19_loop : Scf.Loop 32 :=
  let c0_i32_328 : BitVec 32 := 0#32
  let c25_i32_329 : BitVec 32 := 25#32
  let v675 : BitVec 32 := Scalar.addi c0_i32_328 c25_i32_329
  let c1_i32_330 : BitVec 32 := 1#32
  ⟨c0_i32_328, v675, c1_i32_330⟩
def k0_off70 (k0_t19 : Fin k0_t19_loop.trips) (c0_i32_456 : BitVec 32) : Fin 1 → Nat :=
  let c0_i32_328 : BitVec 32 := 0#32
  let c1_i32_330 : BitVec 32 := 1#32
  let arg20 : BitVec 32 := Scf.iv c0_i32_328 c1_i32_330 k0_t19
  let c80_i32 : BitVec 32 := 80#32
  let v913 : BitVec 32 := Scalar.muli arg20 c80_i32
  let v914 : BitVec 32 := Scalar.addi v913 c0_i32_456
  let v915 : Index := Scalar.indexCast v914
  ![v915.toNat]
def k0_off71 (k0_t19 : Fin k0_t19_loop.trips) (c2000_i32_457 : BitVec 32) (c0_i32_456 : BitVec 32) : Fin 1 → Nat :=
  let c0_i32_328 : BitVec 32 := 0#32
  let c1_i32_330 : BitVec 32 := 1#32
  let arg20 : BitVec 32 := Scf.iv c0_i32_328 c1_i32_330 k0_t19
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off72 (k0_t19 : Fin k0_t19_loop.trips) (c0_i32_456 : BitVec 32) : Fin 1 → Nat :=
  let c0_i32_328 : BitVec 32 := 0#32
  let c1_i32_330 : BitVec 32 := 1#32
  let arg20 : BitVec 32 := Scf.iv c0_i32_328 c1_i32_330 k0_t19
  let c80_i32 : BitVec 32 := 80#32
  let v913 : BitVec 32 := Scalar.muli arg20 c80_i32
  let v914 : BitVec 32 := Scalar.addi v913 c0_i32_456
  let v923 : Index := Scalar.indexCast v914
  ![v923.toNat]

def k0_chk86 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx171_inb : ∀ (v2 : IVec S16 32) (v926 : IVec S16 32) (k0_hw86 : k0_chk86 v2 v926), ∀ a x, ((![v2, v926] : Fin 2 → IVec S16 32) a x).toNat < S16x4096.size a := fun v2 v926 k0_hw86 => k0_hw86.1
theorem k0_idx172_inb : ∀ (v2 : IVec S16 32) (v926 : IVec S16 32) (k0_hw86 : k0_chk86 v2 v926), ∀ a x, ((![v2, v926] : Fin 2 → IVec S16 32) a x).toNat < S16x4096.size a := fun v2 v926 k0_hw86 => k0_hw86.2

def k0_chk87 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx173_inb : ∀ (v2 : IVec S16 32) (v948 : IVec S16 32) (k0_hw87 : k0_chk87 v2 v948), ∀ a x, ((![v2, v948] : Fin 2 → IVec S16 32) a x).toNat < S16x4096.size a := fun v2 v948 k0_hw87 => k0_hw87.1
theorem k0_idx174_inb : ∀ (v2 : IVec S16 32) (v948 : IVec S16 32) (k0_hw87 : k0_chk87 v2 v948), ∀ a x, ((![v2, v948] : Fin 2 → IVec S16 32) a x).toNat < S16x4096.size a := fun v2 v948 k0_hw87 => k0_hw87.2

def k0_chk88 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx175_inb : ∀ (v2 : IVec S16 32) (v970 : IVec S16 32) (k0_hw88 : k0_chk88 v2 v970), ∀ a x, ((![v2, v970] : Fin 2 → IVec S16 32) a x).toNat < S16x4096.size a := fun v2 v970 k0_hw88 => k0_hw88.1
theorem k0_idx176_inb : ∀ (v2 : IVec S16 32) (v970 : IVec S16 32) (k0_hw88 : k0_chk88 v2 v970), ∀ a x, ((![v2, v970] : Fin 2 → IVec S16 32) a x).toNat < S16x4096.size a := fun v2 v970 k0_hw88 => k0_hw88.2

def k0_chk89 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx177_inb : ∀ (v2 : IVec S16 32) (v992 : IVec S16 32) (k0_hw89 : k0_chk89 v2 v992), ∀ a x, ((![v2, v992] : Fin 2 → IVec S16 32) a x).toNat < S16x4096.size a := fun v2 v992 k0_hw89 => k0_hw89.1
theorem k0_idx178_inb : ∀ (v2 : IVec S16 32) (v992 : IVec S16 32) (k0_hw89 : k0_chk89 v2 v992), ∀ a x, ((![v2, v992] : Fin 2 → IVec S16 32) a x).toNat < S16x4096.size a := fun v2 v992 k0_hw89 => k0_hw89.2

def k0_chk90 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx179_inb : ∀ (v2 : IVec S16 32) (v1014 : IVec S16 32) (k0_hw90 : k0_chk90 v2 v1014), ∀ a x, ((![v2, v1014] : Fin 2 → IVec S16 32) a x).toNat < S16x4096.size a := fun v2 v1014 k0_hw90 => k0_hw90.1
theorem k0_idx180_inb : ∀ (v2 : IVec S16 32) (v1014 : IVec S16 32) (k0_hw90 : k0_chk90 v2 v1014), ∀ a x, ((![v2, v1014] : Fin 2 → IVec S16 32) a x).toNat < S16x4096.size a := fun v2 v1014 k0_hw90 => k0_hw90.2
@[reducible] def k0_t20_loop : Scf.Loop 32 :=
  let c0_i32_346 : BitVec 32 := 0#32
  let c25_i32_347 : BitVec 32 := 25#32
  let v711 : BitVec 32 := Scalar.addi c0_i32_346 c25_i32_347
  let c1_i32_348 : BitVec 32 := 1#32
  ⟨c0_i32_346, v711, c1_i32_348⟩
def k0_off73 (k0_t20 : Fin k0_t20_loop.trips) (c0_i32_456 : BitVec 32) : Fin 1 → Nat :=
  let c0_i32_346 : BitVec 32 := 0#32
  let c1_i32_348 : BitVec 32 := 1#32
  let arg20 : BitVec 32 := Scf.iv c0_i32_346 c1_i32_348 k0_t20
  let c80_i32 : BitVec 32 := 80#32
  let v913 : BitVec 32 := Scalar.muli arg20 c80_i32
  let v914 : BitVec 32 := Scalar.addi v913 c0_i32_456
  let v915 : Index := Scalar.indexCast v914
  ![v915.toNat]
def k0_off74 (k0_t20 : Fin k0_t20_loop.trips) (c2000_i32_457 : BitVec 32) (c0_i32_456 : BitVec 32) : Fin 1 → Nat :=
  let c0_i32_346 : BitVec 32 := 0#32
  let c1_i32_348 : BitVec 32 := 1#32
  let arg20 : BitVec 32 := Scf.iv c0_i32_346 c1_i32_348 k0_t20
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off75 (k0_t20 : Fin k0_t20_loop.trips) (c0_i32_456 : BitVec 32) : Fin 1 → Nat :=
  let c0_i32_346 : BitVec 32 := 0#32
  let c1_i32_348 : BitVec 32 := 1#32
  let arg20 : BitVec 32 := Scf.iv c0_i32_346 c1_i32_348 k0_t20
  let c80_i32 : BitVec 32 := 80#32
  let v913 : BitVec 32 := Scalar.muli arg20 c80_i32
  let v914 : BitVec 32 := Scalar.addi v913 c0_i32_456
  let v923 : Index := Scalar.indexCast v914
  ![v923.toNat]

def k0_chk91 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx181_inb : ∀ (v2 : IVec S16 32) (v926 : IVec S16 32) (k0_hw91 : k0_chk91 v2 v926), ∀ a x, ((![v2, v926] : Fin 2 → IVec S16 32) a x).toNat < S16x4096.size a := fun v2 v926 k0_hw91 => k0_hw91.1
theorem k0_idx182_inb : ∀ (v2 : IVec S16 32) (v926 : IVec S16 32) (k0_hw91 : k0_chk91 v2 v926), ∀ a x, ((![v2, v926] : Fin 2 → IVec S16 32) a x).toNat < S16x4096.size a := fun v2 v926 k0_hw91 => k0_hw91.2

def k0_chk92 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx183_inb : ∀ (v2 : IVec S16 32) (v948 : IVec S16 32) (k0_hw92 : k0_chk92 v2 v948), ∀ a x, ((![v2, v948] : Fin 2 → IVec S16 32) a x).toNat < S16x4096.size a := fun v2 v948 k0_hw92 => k0_hw92.1
theorem k0_idx184_inb : ∀ (v2 : IVec S16 32) (v948 : IVec S16 32) (k0_hw92 : k0_chk92 v2 v948), ∀ a x, ((![v2, v948] : Fin 2 → IVec S16 32) a x).toNat < S16x4096.size a := fun v2 v948 k0_hw92 => k0_hw92.2

def k0_chk93 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx185_inb : ∀ (v2 : IVec S16 32) (v970 : IVec S16 32) (k0_hw93 : k0_chk93 v2 v970), ∀ a x, ((![v2, v970] : Fin 2 → IVec S16 32) a x).toNat < S16x4096.size a := fun v2 v970 k0_hw93 => k0_hw93.1
theorem k0_idx186_inb : ∀ (v2 : IVec S16 32) (v970 : IVec S16 32) (k0_hw93 : k0_chk93 v2 v970), ∀ a x, ((![v2, v970] : Fin 2 → IVec S16 32) a x).toNat < S16x4096.size a := fun v2 v970 k0_hw93 => k0_hw93.2

def k0_chk94 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx187_inb : ∀ (v2 : IVec S16 32) (v992 : IVec S16 32) (k0_hw94 : k0_chk94 v2 v992), ∀ a x, ((![v2, v992] : Fin 2 → IVec S16 32) a x).toNat < S16x4096.size a := fun v2 v992 k0_hw94 => k0_hw94.1
theorem k0_idx188_inb : ∀ (v2 : IVec S16 32) (v992 : IVec S16 32) (k0_hw94 : k0_chk94 v2 v992), ∀ a x, ((![v2, v992] : Fin 2 → IVec S16 32) a x).toNat < S16x4096.size a := fun v2 v992 k0_hw94 => k0_hw94.2

def k0_chk95 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx189_inb : ∀ (v2 : IVec S16 32) (v1014 : IVec S16 32) (k0_hw95 : k0_chk95 v2 v1014), ∀ a x, ((![v2, v1014] : Fin 2 → IVec S16 32) a x).toNat < S16x4096.size a := fun v2 v1014 k0_hw95 => k0_hw95.1
theorem k0_idx190_inb : ∀ (v2 : IVec S16 32) (v1014 : IVec S16 32) (k0_hw95 : k0_chk95 v2 v1014), ∀ a x, ((![v2, v1014] : Fin 2 → IVec S16 32) a x).toNat < S16x4096.size a := fun v2 v1014 k0_hw95 => k0_hw95.2
@[reducible] def k0_t21_loop : Scf.Loop 32 :=
  let c0_i32_364 : BitVec 32 := 0#32
  let c25_i32_365 : BitVec 32 := 25#32
  let v747 : BitVec 32 := Scalar.addi c0_i32_364 c25_i32_365
  let c1_i32_366 : BitVec 32 := 1#32
  ⟨c0_i32_364, v747, c1_i32_366⟩
def k0_off76 (k0_t21 : Fin k0_t21_loop.trips) (c0_i32_456 : BitVec 32) : Fin 1 → Nat :=
  let c0_i32_364 : BitVec 32 := 0#32
  let c1_i32_366 : BitVec 32 := 1#32
  let arg20 : BitVec 32 := Scf.iv c0_i32_364 c1_i32_366 k0_t21
  let c80_i32 : BitVec 32 := 80#32
  let v913 : BitVec 32 := Scalar.muli arg20 c80_i32
  let v914 : BitVec 32 := Scalar.addi v913 c0_i32_456
  let v915 : Index := Scalar.indexCast v914
  ![v915.toNat]
def k0_off77 (k0_t21 : Fin k0_t21_loop.trips) (c2000_i32_457 : BitVec 32) (c0_i32_456 : BitVec 32) : Fin 1 → Nat :=
  let c0_i32_364 : BitVec 32 := 0#32
  let c1_i32_366 : BitVec 32 := 1#32
  let arg20 : BitVec 32 := Scf.iv c0_i32_364 c1_i32_366 k0_t21
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off78 (k0_t21 : Fin k0_t21_loop.trips) (c0_i32_456 : BitVec 32) : Fin 1 → Nat :=
  let c0_i32_364 : BitVec 32 := 0#32
  let c1_i32_366 : BitVec 32 := 1#32
  let arg20 : BitVec 32 := Scf.iv c0_i32_364 c1_i32_366 k0_t21
  let c80_i32 : BitVec 32 := 80#32
  let v913 : BitVec 32 := Scalar.muli arg20 c80_i32
  let v914 : BitVec 32 := Scalar.addi v913 c0_i32_456
  let v923 : Index := Scalar.indexCast v914
  ![v923.toNat]

def k0_chk96 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx191_inb : ∀ (v2 : IVec S16 32) (v926 : IVec S16 32) (k0_hw96 : k0_chk96 v2 v926), ∀ a x, ((![v2, v926] : Fin 2 → IVec S16 32) a x).toNat < S16x4096.size a := fun v2 v926 k0_hw96 => k0_hw96.1
theorem k0_idx192_inb : ∀ (v2 : IVec S16 32) (v926 : IVec S16 32) (k0_hw96 : k0_chk96 v2 v926), ∀ a x, ((![v2, v926] : Fin 2 → IVec S16 32) a x).toNat < S16x4096.size a := fun v2 v926 k0_hw96 => k0_hw96.2

def k0_chk97 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx193_inb : ∀ (v2 : IVec S16 32) (v948 : IVec S16 32) (k0_hw97 : k0_chk97 v2 v948), ∀ a x, ((![v2, v948] : Fin 2 → IVec S16 32) a x).toNat < S16x4096.size a := fun v2 v948 k0_hw97 => k0_hw97.1
theorem k0_idx194_inb : ∀ (v2 : IVec S16 32) (v948 : IVec S16 32) (k0_hw97 : k0_chk97 v2 v948), ∀ a x, ((![v2, v948] : Fin 2 → IVec S16 32) a x).toNat < S16x4096.size a := fun v2 v948 k0_hw97 => k0_hw97.2

def k0_chk98 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx195_inb : ∀ (v2 : IVec S16 32) (v970 : IVec S16 32) (k0_hw98 : k0_chk98 v2 v970), ∀ a x, ((![v2, v970] : Fin 2 → IVec S16 32) a x).toNat < S16x4096.size a := fun v2 v970 k0_hw98 => k0_hw98.1
theorem k0_idx196_inb : ∀ (v2 : IVec S16 32) (v970 : IVec S16 32) (k0_hw98 : k0_chk98 v2 v970), ∀ a x, ((![v2, v970] : Fin 2 → IVec S16 32) a x).toNat < S16x4096.size a := fun v2 v970 k0_hw98 => k0_hw98.2

def k0_chk99 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx197_inb : ∀ (v2 : IVec S16 32) (v992 : IVec S16 32) (k0_hw99 : k0_chk99 v2 v992), ∀ a x, ((![v2, v992] : Fin 2 → IVec S16 32) a x).toNat < S16x4096.size a := fun v2 v992 k0_hw99 => k0_hw99.1
theorem k0_idx198_inb : ∀ (v2 : IVec S16 32) (v992 : IVec S16 32) (k0_hw99 : k0_chk99 v2 v992), ∀ a x, ((![v2, v992] : Fin 2 → IVec S16 32) a x).toNat < S16x4096.size a := fun v2 v992 k0_hw99 => k0_hw99.2

def k0_chk100 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx199_inb : ∀ (v2 : IVec S16 32) (v1014 : IVec S16 32) (k0_hw100 : k0_chk100 v2 v1014), ∀ a x, ((![v2, v1014] : Fin 2 → IVec S16 32) a x).toNat < S16x4096.size a := fun v2 v1014 k0_hw100 => k0_hw100.1
theorem k0_idx200_inb : ∀ (v2 : IVec S16 32) (v1014 : IVec S16 32) (k0_hw100 : k0_chk100 v2 v1014), ∀ a x, ((![v2, v1014] : Fin 2 → IVec S16 32) a x).toNat < S16x4096.size a := fun v2 v1014 k0_hw100 => k0_hw100.2
@[reducible] def k0_t22_loop : Scf.Loop 32 :=
  let c0_i32_382 : BitVec 32 := 0#32
  let c25_i32_383 : BitVec 32 := 25#32
  let v783 : BitVec 32 := Scalar.addi c0_i32_382 c25_i32_383
  let c1_i32_384 : BitVec 32 := 1#32
  ⟨c0_i32_382, v783, c1_i32_384⟩
def k0_off79 (k0_t22 : Fin k0_t22_loop.trips) (c0_i32_456 : BitVec 32) : Fin 1 → Nat :=
  let c0_i32_382 : BitVec 32 := 0#32
  let c1_i32_384 : BitVec 32 := 1#32
  let arg20 : BitVec 32 := Scf.iv c0_i32_382 c1_i32_384 k0_t22
  let c80_i32 : BitVec 32 := 80#32
  let v913 : BitVec 32 := Scalar.muli arg20 c80_i32
  let v914 : BitVec 32 := Scalar.addi v913 c0_i32_456
  let v915 : Index := Scalar.indexCast v914
  ![v915.toNat]
def k0_off80 (k0_t22 : Fin k0_t22_loop.trips) (c2000_i32_457 : BitVec 32) (c0_i32_456 : BitVec 32) : Fin 1 → Nat :=
  let c0_i32_382 : BitVec 32 := 0#32
  let c1_i32_384 : BitVec 32 := 1#32
  let arg20 : BitVec 32 := Scf.iv c0_i32_382 c1_i32_384 k0_t22
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off81 (k0_t22 : Fin k0_t22_loop.trips) (c0_i32_456 : BitVec 32) : Fin 1 → Nat :=
  let c0_i32_382 : BitVec 32 := 0#32
  let c1_i32_384 : BitVec 32 := 1#32
  let arg20 : BitVec 32 := Scf.iv c0_i32_382 c1_i32_384 k0_t22
  let c80_i32 : BitVec 32 := 80#32
  let v913 : BitVec 32 := Scalar.muli arg20 c80_i32
  let v914 : BitVec 32 := Scalar.addi v913 c0_i32_456
  let v923 : Index := Scalar.indexCast v914
  ![v923.toNat]

def k0_chk101 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx201_inb : ∀ (v2 : IVec S16 32) (v926 : IVec S16 32) (k0_hw101 : k0_chk101 v2 v926), ∀ a x, ((![v2, v926] : Fin 2 → IVec S16 32) a x).toNat < S16x4096.size a := fun v2 v926 k0_hw101 => k0_hw101.1
theorem k0_idx202_inb : ∀ (v2 : IVec S16 32) (v926 : IVec S16 32) (k0_hw101 : k0_chk101 v2 v926), ∀ a x, ((![v2, v926] : Fin 2 → IVec S16 32) a x).toNat < S16x4096.size a := fun v2 v926 k0_hw101 => k0_hw101.2

def k0_chk102 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx203_inb : ∀ (v2 : IVec S16 32) (v948 : IVec S16 32) (k0_hw102 : k0_chk102 v2 v948), ∀ a x, ((![v2, v948] : Fin 2 → IVec S16 32) a x).toNat < S16x4096.size a := fun v2 v948 k0_hw102 => k0_hw102.1
theorem k0_idx204_inb : ∀ (v2 : IVec S16 32) (v948 : IVec S16 32) (k0_hw102 : k0_chk102 v2 v948), ∀ a x, ((![v2, v948] : Fin 2 → IVec S16 32) a x).toNat < S16x4096.size a := fun v2 v948 k0_hw102 => k0_hw102.2

def k0_chk103 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx205_inb : ∀ (v2 : IVec S16 32) (v970 : IVec S16 32) (k0_hw103 : k0_chk103 v2 v970), ∀ a x, ((![v2, v970] : Fin 2 → IVec S16 32) a x).toNat < S16x4096.size a := fun v2 v970 k0_hw103 => k0_hw103.1
theorem k0_idx206_inb : ∀ (v2 : IVec S16 32) (v970 : IVec S16 32) (k0_hw103 : k0_chk103 v2 v970), ∀ a x, ((![v2, v970] : Fin 2 → IVec S16 32) a x).toNat < S16x4096.size a := fun v2 v970 k0_hw103 => k0_hw103.2

def k0_chk104 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx207_inb : ∀ (v2 : IVec S16 32) (v992 : IVec S16 32) (k0_hw104 : k0_chk104 v2 v992), ∀ a x, ((![v2, v992] : Fin 2 → IVec S16 32) a x).toNat < S16x4096.size a := fun v2 v992 k0_hw104 => k0_hw104.1
theorem k0_idx208_inb : ∀ (v2 : IVec S16 32) (v992 : IVec S16 32) (k0_hw104 : k0_chk104 v2 v992), ∀ a x, ((![v2, v992] : Fin 2 → IVec S16 32) a x).toNat < S16x4096.size a := fun v2 v992 k0_hw104 => k0_hw104.2

def k0_chk105 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx209_inb : ∀ (v2 : IVec S16 32) (v1014 : IVec S16 32) (k0_hw105 : k0_chk105 v2 v1014), ∀ a x, ((![v2, v1014] : Fin 2 → IVec S16 32) a x).toNat < S16x4096.size a := fun v2 v1014 k0_hw105 => k0_hw105.1
theorem k0_idx210_inb : ∀ (v2 : IVec S16 32) (v1014 : IVec S16 32) (k0_hw105 : k0_chk105 v2 v1014), ∀ a x, ((![v2, v1014] : Fin 2 → IVec S16 32) a x).toNat < S16x4096.size a := fun v2 v1014 k0_hw105 => k0_hw105.2
@[reducible] def k0_t23_loop : Scf.Loop 32 :=
  let c0_i32_400 : BitVec 32 := 0#32
  let c25_i32_401 : BitVec 32 := 25#32
  let v819 : BitVec 32 := Scalar.addi c0_i32_400 c25_i32_401
  let c1_i32_402 : BitVec 32 := 1#32
  ⟨c0_i32_400, v819, c1_i32_402⟩
def k0_off82 (k0_t23 : Fin k0_t23_loop.trips) (c0_i32_456 : BitVec 32) : Fin 1 → Nat :=
  let c0_i32_400 : BitVec 32 := 0#32
  let c1_i32_402 : BitVec 32 := 1#32
  let arg20 : BitVec 32 := Scf.iv c0_i32_400 c1_i32_402 k0_t23
  let c80_i32 : BitVec 32 := 80#32
  let v913 : BitVec 32 := Scalar.muli arg20 c80_i32
  let v914 : BitVec 32 := Scalar.addi v913 c0_i32_456
  let v915 : Index := Scalar.indexCast v914
  ![v915.toNat]
def k0_off83 (k0_t23 : Fin k0_t23_loop.trips) (c2000_i32_457 : BitVec 32) (c0_i32_456 : BitVec 32) : Fin 1 → Nat :=
  let c0_i32_400 : BitVec 32 := 0#32
  let c1_i32_402 : BitVec 32 := 1#32
  let arg20 : BitVec 32 := Scf.iv c0_i32_400 c1_i32_402 k0_t23
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off84 (k0_t23 : Fin k0_t23_loop.trips) (c0_i32_456 : BitVec 32) : Fin 1 → Nat :=
  let c0_i32_400 : BitVec 32 := 0#32
  let c1_i32_402 : BitVec 32 := 1#32
  let arg20 : BitVec 32 := Scf.iv c0_i32_400 c1_i32_402 k0_t23
  let c80_i32 : BitVec 32 := 80#32
  let v913 : BitVec 32 := Scalar.muli arg20 c80_i32
  let v914 : BitVec 32 := Scalar.addi v913 c0_i32_456
  let v923 : Index := Scalar.indexCast v914
  ![v923.toNat]

def k0_chk106 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx211_inb : ∀ (v2 : IVec S16 32) (v926 : IVec S16 32) (k0_hw106 : k0_chk106 v2 v926), ∀ a x, ((![v2, v926] : Fin 2 → IVec S16 32) a x).toNat < S16x4096.size a := fun v2 v926 k0_hw106 => k0_hw106.1
theorem k0_idx212_inb : ∀ (v2 : IVec S16 32) (v926 : IVec S16 32) (k0_hw106 : k0_chk106 v2 v926), ∀ a x, ((![v2, v926] : Fin 2 → IVec S16 32) a x).toNat < S16x4096.size a := fun v2 v926 k0_hw106 => k0_hw106.2

def k0_chk107 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx213_inb : ∀ (v2 : IVec S16 32) (v948 : IVec S16 32) (k0_hw107 : k0_chk107 v2 v948), ∀ a x, ((![v2, v948] : Fin 2 → IVec S16 32) a x).toNat < S16x4096.size a := fun v2 v948 k0_hw107 => k0_hw107.1
theorem k0_idx214_inb : ∀ (v2 : IVec S16 32) (v948 : IVec S16 32) (k0_hw107 : k0_chk107 v2 v948), ∀ a x, ((![v2, v948] : Fin 2 → IVec S16 32) a x).toNat < S16x4096.size a := fun v2 v948 k0_hw107 => k0_hw107.2

def k0_chk108 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx215_inb : ∀ (v2 : IVec S16 32) (v970 : IVec S16 32) (k0_hw108 : k0_chk108 v2 v970), ∀ a x, ((![v2, v970] : Fin 2 → IVec S16 32) a x).toNat < S16x4096.size a := fun v2 v970 k0_hw108 => k0_hw108.1
theorem k0_idx216_inb : ∀ (v2 : IVec S16 32) (v970 : IVec S16 32) (k0_hw108 : k0_chk108 v2 v970), ∀ a x, ((![v2, v970] : Fin 2 → IVec S16 32) a x).toNat < S16x4096.size a := fun v2 v970 k0_hw108 => k0_hw108.2

def k0_chk109 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx217_inb : ∀ (v2 : IVec S16 32) (v992 : IVec S16 32) (k0_hw109 : k0_chk109 v2 v992), ∀ a x, ((![v2, v992] : Fin 2 → IVec S16 32) a x).toNat < S16x4096.size a := fun v2 v992 k0_hw109 => k0_hw109.1
theorem k0_idx218_inb : ∀ (v2 : IVec S16 32) (v992 : IVec S16 32) (k0_hw109 : k0_chk109 v2 v992), ∀ a x, ((![v2, v992] : Fin 2 → IVec S16 32) a x).toNat < S16x4096.size a := fun v2 v992 k0_hw109 => k0_hw109.2

def k0_chk110 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx219_inb : ∀ (v2 : IVec S16 32) (v1014 : IVec S16 32) (k0_hw110 : k0_chk110 v2 v1014), ∀ a x, ((![v2, v1014] : Fin 2 → IVec S16 32) a x).toNat < S16x4096.size a := fun v2 v1014 k0_hw110 => k0_hw110.1
theorem k0_idx220_inb : ∀ (v2 : IVec S16 32) (v1014 : IVec S16 32) (k0_hw110 : k0_chk110 v2 v1014), ∀ a x, ((![v2, v1014] : Fin 2 → IVec S16 32) a x).toNat < S16x4096.size a := fun v2 v1014 k0_hw110 => k0_hw110.2
@[reducible] def k0_t24_loop : Scf.Loop 32 :=
  let c0_i32_418 : BitVec 32 := 0#32
  let c25_i32_419 : BitVec 32 := 25#32
  let v855 : BitVec 32 := Scalar.addi c0_i32_418 c25_i32_419
  let c1_i32_420 : BitVec 32 := 1#32
  ⟨c0_i32_418, v855, c1_i32_420⟩
def k0_off85 (k0_t24 : Fin k0_t24_loop.trips) (c0_i32_456 : BitVec 32) : Fin 1 → Nat :=
  let c0_i32_418 : BitVec 32 := 0#32
  let c1_i32_420 : BitVec 32 := 1#32
  let arg20 : BitVec 32 := Scf.iv c0_i32_418 c1_i32_420 k0_t24
  let c80_i32 : BitVec 32 := 80#32
  let v913 : BitVec 32 := Scalar.muli arg20 c80_i32
  let v914 : BitVec 32 := Scalar.addi v913 c0_i32_456
  let v915 : Index := Scalar.indexCast v914
  ![v915.toNat]
def k0_off86 (k0_t24 : Fin k0_t24_loop.trips) (c2000_i32_457 : BitVec 32) (c0_i32_456 : BitVec 32) : Fin 1 → Nat :=
  let c0_i32_418 : BitVec 32 := 0#32
  let c1_i32_420 : BitVec 32 := 1#32
  let arg20 : BitVec 32 := Scf.iv c0_i32_418 c1_i32_420 k0_t24
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off87 (k0_t24 : Fin k0_t24_loop.trips) (c0_i32_456 : BitVec 32) : Fin 1 → Nat :=
  let c0_i32_418 : BitVec 32 := 0#32
  let c1_i32_420 : BitVec 32 := 1#32
  let arg20 : BitVec 32 := Scf.iv c0_i32_418 c1_i32_420 k0_t24
  let c80_i32 : BitVec 32 := 80#32
  let v913 : BitVec 32 := Scalar.muli arg20 c80_i32
  let v914 : BitVec 32 := Scalar.addi v913 c0_i32_456
  let v923 : Index := Scalar.indexCast v914
  ![v923.toNat]

def k0_chk111 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx221_inb : ∀ (v2 : IVec S16 32) (v926 : IVec S16 32) (k0_hw111 : k0_chk111 v2 v926), ∀ a x, ((![v2, v926] : Fin 2 → IVec S16 32) a x).toNat < S16x4096.size a := fun v2 v926 k0_hw111 => k0_hw111.1
theorem k0_idx222_inb : ∀ (v2 : IVec S16 32) (v926 : IVec S16 32) (k0_hw111 : k0_chk111 v2 v926), ∀ a x, ((![v2, v926] : Fin 2 → IVec S16 32) a x).toNat < S16x4096.size a := fun v2 v926 k0_hw111 => k0_hw111.2

def k0_chk112 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx223_inb : ∀ (v2 : IVec S16 32) (v948 : IVec S16 32) (k0_hw112 : k0_chk112 v2 v948), ∀ a x, ((![v2, v948] : Fin 2 → IVec S16 32) a x).toNat < S16x4096.size a := fun v2 v948 k0_hw112 => k0_hw112.1
theorem k0_idx224_inb : ∀ (v2 : IVec S16 32) (v948 : IVec S16 32) (k0_hw112 : k0_chk112 v2 v948), ∀ a x, ((![v2, v948] : Fin 2 → IVec S16 32) a x).toNat < S16x4096.size a := fun v2 v948 k0_hw112 => k0_hw112.2

def k0_chk113 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx225_inb : ∀ (v2 : IVec S16 32) (v970 : IVec S16 32) (k0_hw113 : k0_chk113 v2 v970), ∀ a x, ((![v2, v970] : Fin 2 → IVec S16 32) a x).toNat < S16x4096.size a := fun v2 v970 k0_hw113 => k0_hw113.1
theorem k0_idx226_inb : ∀ (v2 : IVec S16 32) (v970 : IVec S16 32) (k0_hw113 : k0_chk113 v2 v970), ∀ a x, ((![v2, v970] : Fin 2 → IVec S16 32) a x).toNat < S16x4096.size a := fun v2 v970 k0_hw113 => k0_hw113.2

def k0_chk114 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx227_inb : ∀ (v2 : IVec S16 32) (v992 : IVec S16 32) (k0_hw114 : k0_chk114 v2 v992), ∀ a x, ((![v2, v992] : Fin 2 → IVec S16 32) a x).toNat < S16x4096.size a := fun v2 v992 k0_hw114 => k0_hw114.1
theorem k0_idx228_inb : ∀ (v2 : IVec S16 32) (v992 : IVec S16 32) (k0_hw114 : k0_chk114 v2 v992), ∀ a x, ((![v2, v992] : Fin 2 → IVec S16 32) a x).toNat < S16x4096.size a := fun v2 v992 k0_hw114 => k0_hw114.2

def k0_chk115 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx229_inb : ∀ (v2 : IVec S16 32) (v1014 : IVec S16 32) (k0_hw115 : k0_chk115 v2 v1014), ∀ a x, ((![v2, v1014] : Fin 2 → IVec S16 32) a x).toNat < S16x4096.size a := fun v2 v1014 k0_hw115 => k0_hw115.1
theorem k0_idx230_inb : ∀ (v2 : IVec S16 32) (v1014 : IVec S16 32) (k0_hw115 : k0_chk115 v2 v1014), ∀ a x, ((![v2, v1014] : Fin 2 → IVec S16 32) a x).toNat < S16x4096.size a := fun v2 v1014 k0_hw115 => k0_hw115.2
@[reducible] def k0_t25_loop : Scf.Loop 32 :=
  let c0_i32_436 : BitVec 32 := 0#32
  let c25_i32_437 : BitVec 32 := 25#32
  let v891 : BitVec 32 := Scalar.addi c0_i32_436 c25_i32_437
  let c1_i32_438 : BitVec 32 := 1#32
  ⟨c0_i32_436, v891, c1_i32_438⟩
def k0_off88 (k0_t25 : Fin k0_t25_loop.trips) (c0_i32_456 : BitVec 32) : Fin 1 → Nat :=
  let c0_i32_436 : BitVec 32 := 0#32
  let c1_i32_438 : BitVec 32 := 1#32
  let arg20 : BitVec 32 := Scf.iv c0_i32_436 c1_i32_438 k0_t25
  let c80_i32 : BitVec 32 := 80#32
  let v913 : BitVec 32 := Scalar.muli arg20 c80_i32
  let v914 : BitVec 32 := Scalar.addi v913 c0_i32_456
  let v915 : Index := Scalar.indexCast v914
  ![v915.toNat]
def k0_off89 (k0_t25 : Fin k0_t25_loop.trips) (c2000_i32_457 : BitVec 32) (c0_i32_456 : BitVec 32) : Fin 1 → Nat :=
  let c0_i32_436 : BitVec 32 := 0#32
  let c1_i32_438 : BitVec 32 := 1#32
  let arg20 : BitVec 32 := Scf.iv c0_i32_436 c1_i32_438 k0_t25
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off90 (k0_t25 : Fin k0_t25_loop.trips) (c0_i32_456 : BitVec 32) : Fin 1 → Nat :=
  let c0_i32_436 : BitVec 32 := 0#32
  let c1_i32_438 : BitVec 32 := 1#32
  let arg20 : BitVec 32 := Scf.iv c0_i32_436 c1_i32_438 k0_t25
  let c80_i32 : BitVec 32 := 80#32
  let v913 : BitVec 32 := Scalar.muli arg20 c80_i32
  let v914 : BitVec 32 := Scalar.addi v913 c0_i32_456
  let v923 : Index := Scalar.indexCast v914
  ![v923.toNat]

def k0_chk116 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx231_inb : ∀ (v2 : IVec S16 32) (v926 : IVec S16 32) (k0_hw116 : k0_chk116 v2 v926), ∀ a x, ((![v2, v926] : Fin 2 → IVec S16 32) a x).toNat < S16x4096.size a := fun v2 v926 k0_hw116 => k0_hw116.1
theorem k0_idx232_inb : ∀ (v2 : IVec S16 32) (v926 : IVec S16 32) (k0_hw116 : k0_chk116 v2 v926), ∀ a x, ((![v2, v926] : Fin 2 → IVec S16 32) a x).toNat < S16x4096.size a := fun v2 v926 k0_hw116 => k0_hw116.2

def k0_chk117 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx233_inb : ∀ (v2 : IVec S16 32) (v948 : IVec S16 32) (k0_hw117 : k0_chk117 v2 v948), ∀ a x, ((![v2, v948] : Fin 2 → IVec S16 32) a x).toNat < S16x4096.size a := fun v2 v948 k0_hw117 => k0_hw117.1
theorem k0_idx234_inb : ∀ (v2 : IVec S16 32) (v948 : IVec S16 32) (k0_hw117 : k0_chk117 v2 v948), ∀ a x, ((![v2, v948] : Fin 2 → IVec S16 32) a x).toNat < S16x4096.size a := fun v2 v948 k0_hw117 => k0_hw117.2

def k0_chk118 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx235_inb : ∀ (v2 : IVec S16 32) (v970 : IVec S16 32) (k0_hw118 : k0_chk118 v2 v970), ∀ a x, ((![v2, v970] : Fin 2 → IVec S16 32) a x).toNat < S16x4096.size a := fun v2 v970 k0_hw118 => k0_hw118.1
theorem k0_idx236_inb : ∀ (v2 : IVec S16 32) (v970 : IVec S16 32) (k0_hw118 : k0_chk118 v2 v970), ∀ a x, ((![v2, v970] : Fin 2 → IVec S16 32) a x).toNat < S16x4096.size a := fun v2 v970 k0_hw118 => k0_hw118.2

def k0_chk119 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx237_inb : ∀ (v2 : IVec S16 32) (v992 : IVec S16 32) (k0_hw119 : k0_chk119 v2 v992), ∀ a x, ((![v2, v992] : Fin 2 → IVec S16 32) a x).toNat < S16x4096.size a := fun v2 v992 k0_hw119 => k0_hw119.1
theorem k0_idx238_inb : ∀ (v2 : IVec S16 32) (v992 : IVec S16 32) (k0_hw119 : k0_chk119 v2 v992), ∀ a x, ((![v2, v992] : Fin 2 → IVec S16 32) a x).toNat < S16x4096.size a := fun v2 v992 k0_hw119 => k0_hw119.2

def k0_chk120 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx239_inb : ∀ (v2 : IVec S16 32) (v1014 : IVec S16 32) (k0_hw120 : k0_chk120 v2 v1014), ∀ a x, ((![v2, v1014] : Fin 2 → IVec S16 32) a x).toNat < S16x4096.size a := fun v2 v1014 k0_hw120 => k0_hw120.1
theorem k0_idx240_inb : ∀ (v2 : IVec S16 32) (v1014 : IVec S16 32) (k0_hw120 : k0_chk120 v2 v1014), ∀ a x, ((![v2, v1014] : Fin 2 → IVec S16 32) a x).toNat < S16x4096.size a := fun v2 v1014 k0_hw120 => k0_hw120.2
@[reducible] def k0_t26_loop : Scf.Loop 32 :=
  let c0_i32_447 : BitVec 32 := 0#32
  let c25_i32_448 : BitVec 32 := 25#32
  let v909 : BitVec 32 := Scalar.addi c0_i32_447 c25_i32_448
  let c1_i32_449 : BitVec 32 := 1#32
  ⟨c0_i32_447, v909, c1_i32_449⟩
def k0_off91 (k0_t26 : Fin k0_t26_loop.trips) (c0_i32_456 : BitVec 32) : Fin 1 → Nat :=
  let c0_i32_447 : BitVec 32 := 0#32
  let c1_i32_449 : BitVec 32 := 1#32
  let arg20 : BitVec 32 := Scf.iv c0_i32_447 c1_i32_449 k0_t26
  let c80_i32 : BitVec 32 := 80#32
  let v913 : BitVec 32 := Scalar.muli arg20 c80_i32
  let v914 : BitVec 32 := Scalar.addi v913 c0_i32_456
  let v915 : Index := Scalar.indexCast v914
  ![v915.toNat]
def k0_off92 (k0_t26 : Fin k0_t26_loop.trips) (c2000_i32_457 : BitVec 32) (c0_i32_456 : BitVec 32) : Fin 1 → Nat :=
  let c0_i32_447 : BitVec 32 := 0#32
  let c1_i32_449 : BitVec 32 := 1#32
  let arg20 : BitVec 32 := Scf.iv c0_i32_447 c1_i32_449 k0_t26
  let c80_i32 : BitVec 32 := 80#32
  let v913 : BitVec 32 := Scalar.muli arg20 c80_i32
  let v914 : BitVec 32 := Scalar.addi v913 c0_i32_456
  let v917 : BitVec 32 := Scalar.addi c2000_i32_457 v914
  let v918 : Index := Scalar.indexCast v917
  ![v918.toNat]
def k0_off93 (k0_t26 : Fin k0_t26_loop.trips) (c0_i32_456 : BitVec 32) : Fin 1 → Nat :=
  let c0_i32_447 : BitVec 32 := 0#32
  let c1_i32_449 : BitVec 32 := 1#32
  let arg20 : BitVec 32 := Scf.iv c0_i32_447 c1_i32_449 k0_t26
  let c80_i32 : BitVec 32 := 80#32
  let v913 : BitVec 32 := Scalar.muli arg20 c80_i32
  let v914 : BitVec 32 := Scalar.addi v913 c0_i32_456
  let v923 : Index := Scalar.indexCast v914
  ![v923.toNat]

def k0_chk121 (v2 : IVec S16 32) (v926 : IVec S16 32) : Prop :=
  (∀ a x, ((![v2, v926] : Fin 2 → IVec S16 32) a x).toNat < S16x4096.size a) ∧
  (∀ a x, ((![v2, v926] : Fin 2 → IVec S16 32) a x).toNat < S16x4096.size a)
theorem k0_idx241_inb : ∀ (v2 : IVec S16 32) (v926 : IVec S16 32) (k0_hw121 : k0_chk121 v2 v926), ∀ a x, ((![v2, v926] : Fin 2 → IVec S16 32) a x).toNat < S16x4096.size a := fun v2 v926 k0_hw121 => k0_hw121.1
theorem k0_idx242_inb : ∀ (v2 : IVec S16 32) (v926 : IVec S16 32) (k0_hw121 : k0_chk121 v2 v926), ∀ a x, ((![v2, v926] : Fin 2 → IVec S16 32) a x).toNat < S16x4096.size a := fun v2 v926 k0_hw121 => k0_hw121.2

def k0_chk122 (v2 : IVec S16 32) (v948 : IVec S16 32) : Prop :=
  (∀ a x, ((![v2, v948] : Fin 2 → IVec S16 32) a x).toNat < S16x4096.size a) ∧
  (∀ a x, ((![v2, v948] : Fin 2 → IVec S16 32) a x).toNat < S16x4096.size a)
theorem k0_idx243_inb : ∀ (v2 : IVec S16 32) (v948 : IVec S16 32) (k0_hw122 : k0_chk122 v2 v948), ∀ a x, ((![v2, v948] : Fin 2 → IVec S16 32) a x).toNat < S16x4096.size a := fun v2 v948 k0_hw122 => k0_hw122.1
theorem k0_idx244_inb : ∀ (v2 : IVec S16 32) (v948 : IVec S16 32) (k0_hw122 : k0_chk122 v2 v948), ∀ a x, ((![v2, v948] : Fin 2 → IVec S16 32) a x).toNat < S16x4096.size a := fun v2 v948 k0_hw122 => k0_hw122.2

def k0_chk123 (v2 : IVec S16 32) (v970 : IVec S16 32) : Prop :=
  (∀ a x, ((![v2, v970] : Fin 2 → IVec S16 32) a x).toNat < S16x4096.size a) ∧
  (∀ a x, ((![v2, v970] : Fin 2 → IVec S16 32) a x).toNat < S16x4096.size a)
theorem k0_idx245_inb : ∀ (v2 : IVec S16 32) (v970 : IVec S16 32) (k0_hw123 : k0_chk123 v2 v970), ∀ a x, ((![v2, v970] : Fin 2 → IVec S16 32) a x).toNat < S16x4096.size a := fun v2 v970 k0_hw123 => k0_hw123.1
theorem k0_idx246_inb : ∀ (v2 : IVec S16 32) (v970 : IVec S16 32) (k0_hw123 : k0_chk123 v2 v970), ∀ a x, ((![v2, v970] : Fin 2 → IVec S16 32) a x).toNat < S16x4096.size a := fun v2 v970 k0_hw123 => k0_hw123.2

def k0_chk124 (v2 : IVec S16 32) (v992 : IVec S16 32) : Prop :=
  (∀ a x, ((![v2, v992] : Fin 2 → IVec S16 32) a x).toNat < S16x4096.size a) ∧
  (∀ a x, ((![v2, v992] : Fin 2 → IVec S16 32) a x).toNat < S16x4096.size a)
theorem k0_idx247_inb : ∀ (v2 : IVec S16 32) (v992 : IVec S16 32) (k0_hw124 : k0_chk124 v2 v992), ∀ a x, ((![v2, v992] : Fin 2 → IVec S16 32) a x).toNat < S16x4096.size a := fun v2 v992 k0_hw124 => k0_hw124.1
theorem k0_idx248_inb : ∀ (v2 : IVec S16 32) (v992 : IVec S16 32) (k0_hw124 : k0_chk124 v2 v992), ∀ a x, ((![v2, v992] : Fin 2 → IVec S16 32) a x).toNat < S16x4096.size a := fun v2 v992 k0_hw124 => k0_hw124.2

def k0_chk125 (v2 : IVec S16 32) (v1014 : IVec S16 32) : Prop :=
  (∀ a x, ((![v2, v1014] : Fin 2 → IVec S16 32) a x).toNat < S16x4096.size a) ∧
  (∀ a x, ((![v2, v1014] : Fin 2 → IVec S16 32) a x).toNat < S16x4096.size a)
theorem k0_idx249_inb : ∀ (v2 : IVec S16 32) (v1014 : IVec S16 32) (k0_hw125 : k0_chk125 v2 v1014), ∀ a x, ((![v2, v1014] : Fin 2 → IVec S16 32) a x).toNat < S16x4096.size a := fun v2 v1014 k0_hw125 => k0_hw125.1
theorem k0_idx250_inb : ∀ (v2 : IVec S16 32) (v1014 : IVec S16 32) (k0_hw125 : k0_chk125 v2 v1014), ∀ a x, ((![v2, v1014] : Fin 2 → IVec S16 32) a x).toNat < S16x4096.size a := fun v2 v1014 k0_hw125 => k0_hw125.2
@[reducible] def k0_t27_loop : Scf.Loop 32 :=
  let c0_i32_452 : BitVec 32 := 0#32
  let c256_i32_453 : BitVec 32 := 256#32
  let v911 : BitVec 32 := Scalar.addi c0_i32_452 c256_i32_453
  let c1_i32_454 : BitVec 32 := 1#32
  ⟨c0_i32_452, v911, c1_i32_454⟩
def k0_off94 (k0_t27 : Fin k0_t27_loop.trips) : Fin 2 → Nat :=
  let c0_i32_456 : BitVec 32 := 0#32
  let v914 : Index := Scalar.indexCast c0_i32_456
  let c0_i32_452 : BitVec 32 := 0#32
  let c1_i32_454 : BitVec 32 := 1#32
  let arg20 : BitVec 32 := Scf.iv c0_i32_452 c1_i32_454 k0_t27
  let c16_i32 : BitVec 32 := 16#32
  let v913 : BitVec 32 := Scalar.muli arg20 c16_i32
  let v915 : Index := Scalar.indexCast v913
  ![0, v915.toNat]
def k0_off95 (k0_t27 : Fin k0_t27_loop.trips) : Fin 2 → Nat :=
  let c1_i32_458 : BitVec 32 := 1#32
  let v918 : Index := Scalar.indexCast c1_i32_458
  let c0_i32_452 : BitVec 32 := 0#32
  let c1_i32_454 : BitVec 32 := 1#32
  let arg20 : BitVec 32 := Scf.iv c0_i32_452 c1_i32_454 k0_t27
  let c16_i32_457 : BitVec 32 := 16#32
  let v917 : BitVec 32 := Scalar.muli arg20 c16_i32_457
  let v919 : Index := Scalar.indexCast v917
  ![1, v919.toNat]
def k0_off96 (k0_t27 : Fin k0_t27_loop.trips) : Fin 2 → Nat :=
  let c2_i32_460 : BitVec 32 := 2#32
  let v923 : Index := Scalar.indexCast c2_i32_460
  let c0_i32_452 : BitVec 32 := 0#32
  let c1_i32_454 : BitVec 32 := 1#32
  let arg20 : BitVec 32 := Scf.iv c0_i32_452 c1_i32_454 k0_t27
  let c16_i32_459 : BitVec 32 := 16#32
  let v922 : BitVec 32 := Scalar.muli arg20 c16_i32_459
  let v924 : Index := Scalar.indexCast v922
  ![2, v924.toNat]
def k0_off97 (k0_t27 : Fin k0_t27_loop.trips) : Fin 2 → Nat :=
  let c3_i32 : BitVec 32 := 3#32
  let v928 : Index := Scalar.indexCast c3_i32
  let c0_i32_452 : BitVec 32 := 0#32
  let c1_i32_454 : BitVec 32 := 1#32
  let arg20 : BitVec 32 := Scf.iv c0_i32_452 c1_i32_454 k0_t27
  let c16_i32_461 : BitVec 32 := 16#32
  let v927 : BitVec 32 := Scalar.muli arg20 c16_i32_461
  let v929 : Index := Scalar.indexCast v927
  ![3, v929.toNat]
def k0_off98 (k0_t27 : Fin k0_t27_loop.trips) : Fin 2 → Nat :=
  let c4_i32 : BitVec 32 := 4#32
  let v933 : Index := Scalar.indexCast c4_i32
  let c0_i32_452 : BitVec 32 := 0#32
  let c1_i32_454 : BitVec 32 := 1#32
  let arg20 : BitVec 32 := Scf.iv c0_i32_452 c1_i32_454 k0_t27
  let c16_i32_462 : BitVec 32 := 16#32
  let v932 : BitVec 32 := Scalar.muli arg20 c16_i32_462
  let v934 : Index := Scalar.indexCast v932
  ![4, v934.toNat]
def k0_off99 (k0_t27 : Fin k0_t27_loop.trips) : Fin 2 → Nat :=
  let c5_i32 : BitVec 32 := 5#32
  let v938 : Index := Scalar.indexCast c5_i32
  let c0_i32_452 : BitVec 32 := 0#32
  let c1_i32_454 : BitVec 32 := 1#32
  let arg20 : BitVec 32 := Scf.iv c0_i32_452 c1_i32_454 k0_t27
  let c16_i32_463 : BitVec 32 := 16#32
  let v937 : BitVec 32 := Scalar.muli arg20 c16_i32_463
  let v939 : Index := Scalar.indexCast v937
  ![5, v939.toNat]
def k0_off100 (k0_t27 : Fin k0_t27_loop.trips) : Fin 2 → Nat :=
  let c6_i32 : BitVec 32 := 6#32
  let v943 : Index := Scalar.indexCast c6_i32
  let c0_i32_452 : BitVec 32 := 0#32
  let c1_i32_454 : BitVec 32 := 1#32
  let arg20 : BitVec 32 := Scf.iv c0_i32_452 c1_i32_454 k0_t27
  let c16_i32_464 : BitVec 32 := 16#32
  let v942 : BitVec 32 := Scalar.muli arg20 c16_i32_464
  let v944 : Index := Scalar.indexCast v942
  ![6, v944.toNat]
def k0_off101 (k0_t27 : Fin k0_t27_loop.trips) : Fin 2 → Nat :=
  let c7_i32 : BitVec 32 := 7#32
  let v948 : Index := Scalar.indexCast c7_i32
  let c0_i32_452 : BitVec 32 := 0#32
  let c1_i32_454 : BitVec 32 := 1#32
  let arg20 : BitVec 32 := Scf.iv c0_i32_452 c1_i32_454 k0_t27
  let c16_i32_465 : BitVec 32 := 16#32
  let v947 : BitVec 32 := Scalar.muli arg20 c16_i32_465
  let v949 : Index := Scalar.indexCast v947
  ![7, v949.toNat]
def k0_off102 (k0_t27 : Fin k0_t27_loop.trips) : Fin 2 → Nat :=
  let c8_i32 : BitVec 32 := 8#32
  let v953 : Index := Scalar.indexCast c8_i32
  let c0_i32_452 : BitVec 32 := 0#32
  let c1_i32_454 : BitVec 32 := 1#32
  let arg20 : BitVec 32 := Scf.iv c0_i32_452 c1_i32_454 k0_t27
  let c16_i32_466 : BitVec 32 := 16#32
  let v952 : BitVec 32 := Scalar.muli arg20 c16_i32_466
  let v954 : Index := Scalar.indexCast v952
  ![8, v954.toNat]
def k0_off103 (k0_t27 : Fin k0_t27_loop.trips) : Fin 2 → Nat :=
  let c9_i32 : BitVec 32 := 9#32
  let v958 : Index := Scalar.indexCast c9_i32
  let c0_i32_452 : BitVec 32 := 0#32
  let c1_i32_454 : BitVec 32 := 1#32
  let arg20 : BitVec 32 := Scf.iv c0_i32_452 c1_i32_454 k0_t27
  let c16_i32_467 : BitVec 32 := 16#32
  let v957 : BitVec 32 := Scalar.muli arg20 c16_i32_467
  let v959 : Index := Scalar.indexCast v957
  ![9, v959.toNat]
def k0_off104 (k0_t27 : Fin k0_t27_loop.trips) : Fin 2 → Nat :=
  let c10_i32 : BitVec 32 := 10#32
  let v963 : Index := Scalar.indexCast c10_i32
  let c0_i32_452 : BitVec 32 := 0#32
  let c1_i32_454 : BitVec 32 := 1#32
  let arg20 : BitVec 32 := Scf.iv c0_i32_452 c1_i32_454 k0_t27
  let c16_i32_468 : BitVec 32 := 16#32
  let v962 : BitVec 32 := Scalar.muli arg20 c16_i32_468
  let v964 : Index := Scalar.indexCast v962
  ![10, v964.toNat]
def k0_off105 (k0_t27 : Fin k0_t27_loop.trips) : Fin 2 → Nat :=
  let c11_i32 : BitVec 32 := 11#32
  let v968 : Index := Scalar.indexCast c11_i32
  let c0_i32_452 : BitVec 32 := 0#32
  let c1_i32_454 : BitVec 32 := 1#32
  let arg20 : BitVec 32 := Scf.iv c0_i32_452 c1_i32_454 k0_t27
  let c16_i32_469 : BitVec 32 := 16#32
  let v967 : BitVec 32 := Scalar.muli arg20 c16_i32_469
  let v969 : Index := Scalar.indexCast v967
  ![11, v969.toNat]
def k0_off106 (k0_t27 : Fin k0_t27_loop.trips) : Fin 2 → Nat :=
  let c12_i32 : BitVec 32 := 12#32
  let v973 : Index := Scalar.indexCast c12_i32
  let c0_i32_452 : BitVec 32 := 0#32
  let c1_i32_454 : BitVec 32 := 1#32
  let arg20 : BitVec 32 := Scf.iv c0_i32_452 c1_i32_454 k0_t27
  let c16_i32_470 : BitVec 32 := 16#32
  let v972 : BitVec 32 := Scalar.muli arg20 c16_i32_470
  let v974 : Index := Scalar.indexCast v972
  ![12, v974.toNat]
def k0_off107 (k0_t27 : Fin k0_t27_loop.trips) : Fin 2 → Nat :=
  let c13_i32 : BitVec 32 := 13#32
  let v978 : Index := Scalar.indexCast c13_i32
  let c0_i32_452 : BitVec 32 := 0#32
  let c1_i32_454 : BitVec 32 := 1#32
  let arg20 : BitVec 32 := Scf.iv c0_i32_452 c1_i32_454 k0_t27
  let c16_i32_471 : BitVec 32 := 16#32
  let v977 : BitVec 32 := Scalar.muli arg20 c16_i32_471
  let v979 : Index := Scalar.indexCast v977
  ![13, v979.toNat]
def k0_off108 (k0_t27 : Fin k0_t27_loop.trips) : Fin 2 → Nat :=
  let c14_i32 : BitVec 32 := 14#32
  let v983 : Index := Scalar.indexCast c14_i32
  let c0_i32_452 : BitVec 32 := 0#32
  let c1_i32_454 : BitVec 32 := 1#32
  let arg20 : BitVec 32 := Scf.iv c0_i32_452 c1_i32_454 k0_t27
  let c16_i32_472 : BitVec 32 := 16#32
  let v982 : BitVec 32 := Scalar.muli arg20 c16_i32_472
  let v984 : Index := Scalar.indexCast v982
  ![14, v984.toNat]
def k0_off109 (k0_t27 : Fin k0_t27_loop.trips) : Fin 2 → Nat :=
  let c15_i32 : BitVec 32 := 15#32
  let v988 : Index := Scalar.indexCast c15_i32
  let c0_i32_452 : BitVec 32 := 0#32
  let c1_i32_454 : BitVec 32 := 1#32
  let arg20 : BitVec 32 := Scf.iv c0_i32_452 c1_i32_454 k0_t27
  let c16_i32_473 : BitVec 32 := 16#32
  let v987 : BitVec 32 := Scalar.muli arg20 c16_i32_473
  let v989 : Index := Scalar.indexCast v987
  ![15, v989.toNat]
def k0_off110 (k0_t27 : Fin k0_t27_loop.trips) : Fin 1 → Nat :=
  let c0_i32_452 : BitVec 32 := 0#32
  let c1_i32_454 : BitVec 32 := 1#32
  let arg20 : BitVec 32 := Scf.iv c0_i32_452 c1_i32_454 k0_t27
  let c16_i32_474 : BitVec 32 := 16#32
  let v992 : BitVec 32 := Scalar.muli arg20 c16_i32_474
  let v993 : Index := Scalar.indexCast v992
  ![v993.toNat]
def k0_off111 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_456_r1 : BitVec 32 := 0#32
  ![v1.toNat, 0]
abbrev grid1 : Pipeline.Grid := .none

abbrev stage1_0 : Fin 1 → Memref sig .tc .vmem S32x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1600000x3 : Shape := ⟨2, ![1600000, 3]⟩
abbrev S1600000x1 : Shape := ⟨2, ![1600000, 1]⟩
abbrev S1600000 : Shape := ⟨1, ![1600000]⟩
abbrev S4x1 : Shape := ⟨2, ![4, 1]⟩
abbrev S1 : Shape := ⟨1, ![1]⟩
abbrev S1600000x4 : Shape := ⟨2, ![1600000, 4]⟩
abbrev S1x1 : Shape := ⟨2, ![1, 1]⟩
abbrev S1600000x4096 : Shape := ⟨2, ![1600000, 4096]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S1600000x3, .f32⟩
  | .hbm, ⟨1, _⟩ => ⟨S1600000x1, .f32⟩
  | .hbm, ⟨2, _⟩ => ⟨S1600000, .i32⟩
  | .hbm, ⟨3, _⟩ => ⟨S4x1, .f32⟩
  | .hbm, ⟨4, _⟩ => ⟨S1, .f32⟩
  | .hbm, ⟨5, _⟩ => ⟨S1600000x4, .f32⟩
  | .hbm, ⟨6, _⟩ => ⟨S1600000x1, .f32⟩
  | .hbm, ⟨7, _⟩ => ⟨S1x1, .f32⟩
  | .hbm, ⟨8, _⟩ => ⟨S1600000x1, .f32⟩
  | .hbm, ⟨9, _⟩ => ⟨S1600000x1, .f32⟩
  | .hbm, ⟨10, _⟩ => ⟨S1600000x4096, .i32⟩
  | .hbm, ⟨11, _⟩ => ⟨S1600000x1, .i32⟩
  | .hbm, ⟨12, _⟩ => ⟨S1600000x4096, .i32⟩
  | .hbm, ⟨13, _⟩ => ⟨S1600000x4096, .i1⟩
  | .hbm, ⟨14, _⟩ => ⟨S_, .f32⟩
  | .hbm, ⟨15, _⟩ => ⟨S_, .f32⟩
  | .hbm, ⟨16, _⟩ => ⟨S1600000x4096, .f32⟩
  | .hbm, ⟨17, _⟩ => ⟨S1600000x4096, .f32⟩
  | .hbm, ⟨18, _⟩ => ⟨S1600000x4096, .f32⟩
  | .hbm, ⟨19, _⟩ => ⟨S_, .f32⟩
  | .hbm, ⟨20, _⟩ => ⟨S4096, .f32⟩
  | .hbm, ⟨21, _⟩ => ⟨S4096x1, .f32⟩
  | _, _ => ⟨S1600000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Steps.lean ====
module

public import proofs.«01_k».proof.KernelIdeal

@[expose] public section

noncomputable section

namespace Cert.Steps

open Idealize.ShloMosaic Idealize.SL Idealize.SL.Sem Cert.KernelIdeal
open Cert.KernelIdeal.Facts₀ Cert.KernelIdeal.Facts

variable {F : FTy → Type} [FloatOps F] [Facts]

/-- The operations of the tile at `i`. -/
abbrev TileEff (F : FTy → Type) [FloatOps F] [Facts] (i : grid0.Coords) :=
  TpuEff nD τ sig (Elt F) Λ₀ (.scVector ((i 0).castLE hcore0) ((i 1).castLE hsub0))

/-- One of the two sets of buffers that a block of rows is copied into: the three columns of the
    first matrix one after the other, the votes, the segments, and the copies' semaphore. -/
structure Slot where
  tv : Memref sig .scVector .vmem S6000 .f32
  vv : Memref sig .scVector .vmem S2000 .f32
  hvv : vv.IsWhole
  iv : Memref sig .scVector .vmem S2000 .i32
  hiv : iv.IsWhole
  sem : DmaSem sig

/-- The arrays in main memory that the tile reads row blocks of. -/
structure Srcs where
  t0 : Memref sig .scVector .hbm S1600000 .f32
  t1 : Memref sig .scVector .hbm S1600000 .f32
  t2 : Memref sig .scVector .hbm S1600000 .f32
  vo : Memref sig .scVector .hbm S1600000 .f32
  ix : Memref sig .scVector .hbm S1600000 .i32

/-- Where block `s` of the tile's rows starts. -/
def rowOff (i : grid0.Coords) (s : Nat) : Fin 1 → Nat := k0_off1 i (BitVec.ofNat 32 (2000 * s))

/-- Each block lies inside the arrays. -/
theorem rowOff_inb (i : grid0.Coords) (s : Nat) (hs : s < 25) : ∀ a, rowOff i s a + S2000.size a ≤ S1600000.size a := by
  rcases Nat.eq_zero_or_pos s with rfl | h
  · exact k0_off1_inb i 0
  · have := k0_off21_inb i ⟨s - 1, by omega⟩
    rw [show 2000 + 2000 * (s - 1) = 2000 * s by omega] at this
    exact this

/-- Block `s` of the tile's rows of one array. -/
abbrev blockOf {e : EltTy} (m : Memref sig .scVector .hbm S1600000 e) (i : grid0.Coords) (s : Nat) (hs : s < 25) :
    Memref sig .scVector .hbm S2000 e :=
  m.slice (Rect.unit (s := S1600000) (rowOff i s) S2000.size (rowOff_inb i s hs)) (fun _ => rfl)

/-- The first third of a block's columns. -/
abbrev tvPart0 (m : Memref sig .scVector .vmem S6000 .f32) : Memref sig .scVector .vmem S2000 .f32 :=
  m.slice (Rect.unit (s := S6000) ![0] S2000.size inb_S6000_S2000_0) (fun _ => rfl)
/-- The second third of a block's columns. -/
abbrev tvPart1 (m : Memref sig .scVector .vmem S6000 .f32) : Memref sig .scVector .vmem S2000 .f32 :=
  m.slice (Rect.unit (s := S6000) ![2000] S2000.size inb_S6000_S2000_2000) (fun _ => rfl)
/-- The last third of a block's columns. -/
abbrev tvPart2 (m : Memref sig .scVector .vmem S6000 .f32) : Memref sig .scVector .vmem S2000 .f32 :=
  m.slice (Rect.unit (s := S6000) ![4000] S2000.size inb_S6000_S2000_4000) (fun _ => rfl)

/-- Start the five copies of block `s` into the slot `b`. -/
def fire (i : grid0.Coords) (S : Srcs) (b : Slot) (s : Nat) (hs : s < 25) : Prog (TileEff F i) PUnit := do
  Prog.lift (.enqueueDma (blockOf S.t0 i s hs) (.here (tvPart0 b.tv)) (.dma b.sem) (View.wordExact_bits rfl) (View.wordExact_bits rfl) ⟨Or.inl rfl, trivial⟩)
  Prog.lift (.enqueueDma (blockOf S.t1 i s hs) (.here (tvPart1 b.tv)) (.dma b.sem) (View.wordExact_bits rfl) (View.wordExact_bits rfl) ⟨Or.inl rfl, trivial⟩)
  Prog.lift (.enqueueDma (blockOf S.t2 i s hs) (.here (tvPart2 b.tv)) (.dma b.sem) (View.wordExact_bits rfl) (View.wordExact_bits rfl) ⟨Or.inl rfl, trivial⟩)
  Prog.lift (.enqueueDma (blockOf S.vo i s hs) (.here b.vv) (.dma b.sem) (View.wordExact_bits rfl) b.hvv.wordExact ⟨Or.inl rfl, trivial⟩)
  Prog.lift (.enqueueDma (blockOf S.ix i s hs) (.here b.iv) (.dma b.sem) (View.wordExact_bits rfl) b.hiv.wordExact ⟨Or.inl rfl, trivial⟩)

/-- Wait for the five copies of block `s` into the slot `b`. -/
def drain (i : grid0.Coords) (S : Srcs) (b : Slot) (s : Nat) (hs : s < 25) : Prog (TileEff F i) PUnit := do
  Prog.lift (.waitDma2 b.sem (blockOf S.t0 i s hs) (tvPart0 b.tv) (View.wordExact_bits rfl) (View.wordExact_bits rfl))
  Prog.lift (.waitDma2 b.sem (blockOf S.t1 i s hs) (tvPart1 b.tv) (View.wordExact_bits rfl) (View.wordExact_bits rfl))
  Prog.lift (.waitDma2 b.sem (blockOf S.t2 i s hs) (tvPart2 b.tv) (View.wordExact_bits rfl) (View.wordExact_bits rfl))
  Prog.lift (.waitDma2 b.sem (blockOf S.vo i s hs) b.vv (View.wordExact_bits rfl) b.hvv.wordExact)
  Prog.lift (.waitDma2 b.sem (blockOf S.ix i s hs) b.iv (View.wordExact_bits rfl) b.hiv.wordExact)

/-- The five weights that every lane of a tile holds. -/
structure Weights (F : FTy → Type) where
  w0 : Vec F S16 .f32
  w1 : Vec F S16 .f32
  w2 : Vec F S16 .f32
  w3 : Vec F S16 .f32
  w4 : Vec F S16 .f32

/-- Sixteen rows' values from the four columns and the weights. -/
def rowsX (w : Weights F) (c0 c1 c2 v : Vec F S16 .f32) : FVec F S16 .f32 :=
  addf (addf (addf (addf (mulf c0 w.w0) (mulf c1 w.w1)) (mulf c2 w.w2)) (mulf v w.w3)) w.w4

/-- Read sixteen rows' segments and values. -/
def readRows (i : grid0.Coords) (b : Slot) (v2 : IVec S16 32) (w : Weights F) (u : Fin k0_t2_loop.trips) (q : Fin 5) :
    Prog (TileEff F i) (Σ' (ix : Vec F S16 .i32) (_ : k0_chk1 v2 ix), FVec F S16 .f32) := do
  let c0 : Vec F S16 .f32 ← Prog.lift (.load b.tv (Rect.unit (s := S6000) (k0_off18 u (BitVec.ofNat 32 (16 * q.val))) S16.size (k0_off18_inb u q)).toLoadRect (View.loadsAt_vmem h_S16))
  let c1 : Vec F S16 .f32 ← Prog.lift (.load b.tv (Rect.unit (s := S6000) (k0_off19 u 2000#32 (BitVec.ofNat 32 (16 * q.val))) S16.size (k0_off19_inb u 0 q)).toLoadRect (View.loadsAt_vmem h_S16))
  let c2 : Vec F S16 .f32 ← Prog.lift (.load b.tv (Rect.unit (s := S6000) (k0_off19 u 4000#32 (BitVec.ofNat 32 (16 * q.val))) S16.size (k0_off19_inb u 1 q)).toLoadRect (View.loadsAt_vmem h_S16))
  let v : Vec F S16 .f32 ← Prog.lift (.load b.vv (Rect.unit (s := S2000) (k0_off20 u (BitVec.ofNat 32 (16 * q.val))) S16.size (k0_off20_inb u q)).toLoadRect (View.loadsAt_vmem h_S16))
  let ix : Vec F S16 .i32 ← Prog.lift (.load b.iv (Rect.unit (s := S2000) (k0_off20 u (BitVec.ofNat 32 (16 * q.val))) S16.size (k0_off20_inb u q)).toLoadRect (View.loadsAt_vmem h_S16))
  have h : k0_chk1 v2 ix := (← Prog.lift (TpuEff.assume (k0_chk1 v2 ix) (k0_chk1.dec v2 ix))).down
  pure ⟨ix, h, rowsX w c0 c1 c2 v⟩

/-- Put sixteen rows' values into the table of maxima. -/
def putRows (i : grid0.Coords) (acc : Memref sig .scVector .vmem S16x4096 .f32) (v2 : IVec S16 32)
    (r : Σ' (ix : Vec F S16 .i32) (_ : k0_chk1 v2 ix), FVec F S16 .f32) : Prog (TileEff F i) PUnit := do
  let g : Vec F S16 .f32 ← SparseCore.vectorLoadIdx acc ![v2, r.1] (k0_idx1_inb v2 r.1 r.2.1) (View.loads_vmem h_S16x4096)
  SparseCore.vectorStoreIdx acc ![v2, r.1] (maximumf g r.2.2) (fun _ => 1#1) false (k0_idx2_inb v2 r.1 r.2.1) (View.stores_vmem_bits_univ h_S16x4096 rfl)

/-- One trip over a block: eighty rows. -/
def tripBody (i : grid0.Coords) (b : Slot) (acc : Memref sig .scVector .vmem S16x4096 .f32) (v2 : IVec S16 32) (w : Weights F)
    (u : Fin k0_t2_loop.trips) : Prog (TileEff F i) (BitVec 32) := do
  let r0 ← readRows i b v2 w u 0
  let r1 ← readRows i b v2 w u 1
  let r2 ← readRows i b v2 w u 2
  let r3 ← readRows i b v2 w u 3
  let r4 ← readRows i b v2 w u 4
  putRows i acc v2 r0
  putRows i acc v2 r1
  putRows i acc v2 r2
  putRows i acc v2 r3
  putRows i acc v2 r4
  pure 0#32

/-- The loop over one block. -/
def blockLoop (i : grid0.Coords) (b : Slot) (acc : Memref sig .scVector .vmem S16x4096 .f32) (v2 : IVec S16 32) (w : Weights F) :
    Prog (TileEff F i) (BitVec 32) :=
  Scf.Loop.for k0_t2_loop k0_t2_ok 0#32 fun u _ => tripBody i b acc v2 w u

/-- Blocks `s …` but the last: the next block's copies started, this block's waited for, and this block's loop. -/
def rounds (i : grid0.Coords) (S : Srcs) (acc : Memref sig .scVector .vmem S16x4096 .f32) (v2 : IVec S16 32) (w : Weights F) :
    (n s : Nat) → s + n = 24 → (cur nxt : Slot) → Prog (TileEff F i) PUnit
  | 0, _, _, _, _ => pure ⟨⟩
  | n + 1, s, h, cur, nxt => do
    fire i S nxt (s + 1) (by omega)
    drain i S cur s (by omega)
    let _ ← blockLoop i cur acc v2 w
    rounds i S acc v2 w n (s + 1) (by omega) nxt cur

/-- Columns `16 u …` of row `r` of the table of maxima. -/
def rowPart (u : Fin k0_t1_loop.trips) (r : Nat) : Fin 2 → Nat :=
  ![r, (Scalar.indexCast (Scalar.muli (Scf.iv 0#32 1#32 u) 16#32)).toNat]

/-- Sixteen words of a row lie inside the table. -/
theorem rowPart_inb (u : Fin k0_t1_loop.trips) (r : Nat) (hr : r < 16) : ∀ a, rowPart u r a + S1x16.size a ≤ S16x4096.size a := by
  have h := k0_off2_inb u
  intro a
  match a with
  | 0 => show r + 1 ≤ 16; omega
  | 1 => exact h 1

/-- Fill sixteen columns of rows `r …` of the table of maxima. -/
def fillRows (i : grid0.Coords) (acc : Memref sig .scVector .vmem S16x4096 .f32) (z : FVec F S16 .f32) (u : Fin k0_t1_loop.trips) :
    (n r : Nat) → r + n = 16 → Prog (TileEff F i) (BitVec 32)
  | 0, _, _ => pure 0#32
  | n + 1, r, h => do
    let _ ← Prog.lift (.load acc (Rect.unit (s := S16x4096) (rowPart u r) S1x16.size (rowPart_inb u r (by omega))).toLoadRect (View.loadsAt_vmem h_S1x16))
    Prog.lift (.store acc (Rect.unit (s := S16x4096) (rowPart u r) S1x16.size (rowPart_inb u r (by omega))) (shapeCast S1x16 z shapeCasts_S16_S1x16) Finset.univ (View.stores_vmem_bits_univ h_S1x16 rfl) (.inl rfl))
    fillRows i acc z u n (r + 1) (by omega)

/-- Fill the table of maxima. -/
def fillLoop (i : grid0.Coords) (acc : Memref sig .scVector .vmem S16x4096 .f32) (z : FVec F S16 .f32) : Prog (TileEff F i) (BitVec 32) :=
  Scf.Loop.for k0_t1_loop k0_t1_ok 0#32 fun u _ => fillRows i acc z u 16 0 rfl

/-- The maximum of sixteen columns over rows `r …` and what `m` holds already. -/
def maxRows (i : grid0.Coords) (acc : Memref sig .scVector .vmem S16x4096 .f32) (u : Fin k0_t1_loop.trips) :
    (n r : Nat) → r + n = 16 → FVec F S16 .f32 → Prog (TileEff F i) (FVec F S16 .f32)
  | 0, _, _, m => pure m
  | n + 1, r, h, m => do
    let x : Vec F S1x16 .f32 ← Prog.lift (.load acc (Rect.unit (s := S16x4096) (rowPart u r) S1x16.size (rowPart_inb u r (by omega))).toLoadRect (View.loadsAt_vmem h_S1x16))
    maxRows i acc u n (r + 1) (by omega) (maximumf m (shapeCast S16 x shapeCasts_S1x16_S16))

/-- Sixteen columns' maxima over the table's rows, stored. -/
def maxBody (i : grid0.Coords) (acc : Memref sig .scVector .vmem S16x4096 .f32) (red : Memref sig .scVector .vmem S4096 .f32)
    (u : Fin k0_t27_loop.trips) : Prog (TileEff F i) (BitVec 32) := do
  let x : Vec F S1x16 .f32 ← Prog.lift (.load acc (Rect.unit (s := S16x4096) (rowPart u 0) S1x16.size (rowPart_inb u 0 (by omega))).toLoadRect (View.loadsAt_vmem h_S1x16))
  let m ← maxRows i acc u 15 1 rfl (shapeCast S16 x shapeCasts_S1x16_S16)
  let _ ← Prog.lift (.load red (Rect.unit (s := S4096) (k0_off110 u) S16.size (k0_off110_inb u)).toLoadRect (View.loadsAt_vmem h_S16))
  Prog.lift (.store red (Rect.unit (s := S4096) (k0_off110 u) S16.size (k0_off110_inb u)) m Finset.univ (View.stores_vmem_bits_univ h_S16 rfl) (.inl rfl))
  pure 0#32

/-- All columns' maxima over the table's rows. -/
def maxLoop (i : grid0.Coords) (acc : Memref sig .scVector .vmem S16x4096 .f32) (red : Memref sig .scVector .vmem S4096 .f32) :
    Prog (TileEff F i) (BitVec 32) :=
  Scf.Loop.for k0_t27_loop k0_t27_ok 0#32 fun u _ => maxBody i acc red u

/-- Lane numbers. -/
abbrev lanes : IVec S16 32 := iota .scVector S16 32 [0] iota_S16_d0_w32_scVector

/-- Sixteen lanes of the least value. -/
abbrev ninf : FVec F S16 .f32 := broadcast S16 (Scalar.ofBits (F := F) .f32 0xFF800000#32)

/-- The tile's row of the result. -/
abbrev outRow (i : grid0.Coords) (out : Memref sig .scVector .hbm S32x4096 .f32) : Memref sig .scVector .hbm S4096 .f32 :=
  (out.slice (Rect.unit (s := S32x4096) (k0_off111 i) S1x4096.size (k0_off111_inb i)) (fun _ => rfl)).squeeze S4096 squeezes_S1x4096_S4096

/-- Read the five weights. -/
def readWeights (i : grid0.Coords) (wv : Memref sig .scVector .vmem S80 .f32) : Prog (TileEff F i) (Weights F) := do
  let w0 : Vec F S16 .f32 ← Prog.lift (.load wv (Rect.unit (s := S80) ![0] S16.size inb_S80_S16_0).toLoadRect (View.loadsAt_vmem h_S16))
  let w1 : Vec F S16 .f32 ← Prog.lift (.load wv (Rect.unit (s := S80) ![16] S16.size inb_S80_S16_16).toLoadRect (View.loadsAt_vmem h_S16))
  let w2 : Vec F S16 .f32 ← Prog.lift (.load wv (Rect.unit (s := S80) ![32] S16.size inb_S80_S16_32).toLoadRect (View.loadsAt_vmem h_S16))
  let w3 : Vec F S16 .f32 ← Prog.lift (.load wv (Rect.unit (s := S80) ![48] S16.size inb_S80_S16_48).toLoadRect (View.loadsAt_vmem h_S16))
  let w4 : Vec F S16 .f32 ← Prog.lift (.load wv (Rect.unit (s := S80) ![64] S16.size inb_S80_S16_64).toLoadRect (View.loadsAt_vmem h_S16))
  pure ⟨w0, w1, w2, w3, w4⟩

/-- The tile's program. -/
def tileProg (i : grid0.Coords) (S : Srcs) (wvh : Memref sig .scVector .hbm S80 .f32) (hwvh : wvh.IsWhole)
    (out : Memref sig .scVector .hbm S32x4096 .f32) (b0 b1 : Slot) (acc : Memref sig .scVector .vmem S16x4096 .f32)
    (red : Memref sig .scVector .vmem S4096 .f32) (hred : red.IsWhole) (wv : Memref sig .scVector .vmem S80 .f32) (hwv : wv.IsWhole)
    (sw so : DmaSem sig) : Prog (TileEff F i) PUnit := do
  fire i S b0 0 (by decide)
  Prog.lift (.enqueueDma wvh (.here wv) (.dma sw) hwvh.wordExact hwv.wordExact ⟨Or.inl rfl, trivial⟩)
  Prog.lift (.waitDma2 sw wvh wv hwvh.wordExact hwv.wordExact)
  let w ← readWeights i wv
  let _ ← fillLoop i acc ninf
  rounds i S acc lanes w 24 0 rfl b0 b1
  drain i S b0 24 (by decide)
  let _ ← blockLoop i b0 acc lanes w
  let _ ← maxLoop i acc red
  Prog.lift (.enqueueDma red (.here (outRow i out)) (.dma so) hred.wordExact ((View.wordExact_bits rfl).reshape _ _) ⟨Or.inl rfl, trivial⟩)
  Prog.lift (.waitDma2 so red (outRow i out) hred.wordExact ((View.wordExact_bits rfl).reshape _ _))

end Cert.Steps

end
-- ==== Proof.Values.lean ====
module

public import proofs.«01_k».proof.Proof.Steps

@[expose] public section

noncomputable section

namespace Cert.Steps

open Idealize.ShloMosaic Idealize.SL Idealize.SL.Sem Cert.KernelIdeal
open Cert.KernelIdeal.Facts₀ Cert.KernelIdeal.Facts

variable {F : FTy → Type} [FloatOps F] [Facts]

/-! ## Where the program's offsets lie -/

/-- The number of a tile: the order its rows come in. -/
def wid (i : grid0.Coords) : ℕ := 2 * (i 1).val + (i 0).val

/-- There are two cores. -/
theorem i0_lt (i : grid0.Coords) : (i 0).val < 2 := (i 0).isLt
/-- There are sixteen tiles in each. -/
theorem i1_lt (i : grid0.Coords) : (i 1).val < 16 := (i 1).isLt
/-- There are thirty-two tiles. -/
theorem wid_lt (i : grid0.Coords) : wid i < 32 := by
  have := i0_lt i; have := i1_lt i; unfold wid; omega

/-- Where block `s` of a tile's rows starts. -/
theorem rowOff_eq (i : grid0.Coords) (s : ℕ) (hs : s < 25) : rowOff i s = ![50000 * wid i + 2000 * s] := by
  have h0 := i0_lt i
  have h1 := i1_lt i
  unfold rowOff k0_off1 wid
  funext a
  match a with
  | 0 =>
    simp only [Scalar.muli, Scalar.addi, BitVec.toNat_add, BitVec.toNat_mul, BitVec.toNat_ofNat, Matrix.cons_val_zero, IntOp.addi, IntOp.muli]
    omega

/-- A block takes twenty-five rounds. -/
theorem trips2 : k0_t2_loop.trips = 25 := by decide
/-- The table is filled in 256 rounds. -/
theorem trips1 : k0_t1_loop.trips = 256 := by decide
/-- The rows of the table are joined in 256 rounds. -/
theorem trips27 : k0_t27_loop.trips = 256 := by decide

/-- Where the first column's words of a round start. -/
theorem off18_eq (u : Fin k0_t2_loop.trips) (q : Fin 5) : k0_off18 u (BitVec.ofNat 32 (16 * q.val)) = ![80 * u.val + 16 * q.val] := by
  have hu : u.val < 25 := trips2 ▸ u.isLt
  have hq := q.isLt
  unfold k0_off18
  funext a
  match a with
  | 0 =>
    simp only [Scalar.muli, Scalar.addi, Scalar.indexCast, Scf.iv, IntOp.addi, IntOp.muli, BitVec.toNat_add, BitVec.toNat_mul, BitVec.toNat_ofNat, Matrix.cons_val_zero]
    omega

/-- Where the other columns' words of a round start. -/
theorem off19_eq (u : Fin k0_t2_loop.trips) (q : Fin 5) (c : ℕ) (hc : c ≤ 4000) :
    k0_off19 u (BitVec.ofNat 32 c) (BitVec.ofNat 32 (16 * q.val)) = ![80 * u.val + 16 * q.val + c] := by
  have hu : u.val < 25 := trips2 ▸ u.isLt
  have hq := q.isLt
  unfold k0_off19
  funext a
  match a with
  | 0 =>
    simp only [Scalar.muli, Scalar.addi, Scalar.indexCast, Scf.iv, IntOp.addi, IntOp.muli, BitVec.toNat_add, BitVec.toNat_mul, BitVec.toNat_ofNat, Matrix.cons_val_zero]
    omega

/-- Where the votes' and segments' words of a round start. -/
theorem off20_eq (u : Fin k0_t2_loop.trips) (q : Fin 5) : k0_off20 u (BitVec.ofNat 32 (16 * q.val)) = ![80 * u.val + 16 * q.val] := by
  have hu : u.val < 25 := trips2 ▸ u.isLt
  have hq := q.isLt
  unfold k0_off20
  funext a
  match a with
  | 0 =>
    simp only [Scalar.muli, Scalar.addi, Scalar.indexCast, Scf.iv, IntOp.addi, IntOp.muli, BitVec.toNat_add, BitVec.toNat_mul, BitVec.toNat_ofNat, Matrix.cons_val_zero]
    omega

/-- Where sixteen words of a row start. -/
theorem rowPart_eq (u : Fin k0_t1_loop.trips) (r : ℕ) : rowPart u r = ![r, 16 * u.val] := by
  have hu : u.val < 256 := trips1 ▸ u.isLt
  unfold rowPart
  funext a
  match a with
  | 0 => rfl
  | 1 =>
    simp only [Scalar.muli, Scalar.addi, Scalar.indexCast, Scf.iv, IntOp.addi, IntOp.muli, BitVec.toNat_add, BitVec.toNat_mul, BitVec.toNat_ofNat, Matrix.cons_val_one, Matrix.cons_val_fin_one]
    omega

/-- Where sixteen words of the joined row start. -/
theorem off110_eq (u : Fin k0_t27_loop.trips) : k0_off110 u = ![16 * u.val] := by
  have hu : u.val < 256 := trips27 ▸ u.isLt
  unfold k0_off110
  funext a
  match a with
  | 0 =>
    simp only [Scalar.muli, Scalar.addi, Scalar.indexCast, Scf.iv, IntOp.addi, IntOp.muli, BitVec.toNat_add, BitVec.toNat_mul, BitVec.toNat_ofNat, Matrix.cons_val_zero]
    omega

/-- Where a tile's row of the result starts. -/
theorem off111_eq (i : grid0.Coords) : k0_off111 i = ![wid i, 0] := by
  have h0 := i0_lt i
  have h1 := i1_lt i
  unfold k0_off111 wid
  funext a
  match a with
  | 0 =>
    simp only [Scalar.muli, Scalar.addi, Scalar.indexCast, Scf.iv, IntOp.addi, IntOp.muli, BitVec.toNat_add, BitVec.toNat_mul, BitVec.toNat_ofNat, Matrix.cons_val_zero]
    omega
  | 1 => rfl

/-! ## The values -/

/-- The columns the tiles read: the three columns of the first matrix, the votes, and the rows' segments. -/
structure Cols (F : FTy → Type) where
  t0 : Vec F S1600000 .f32
  t1 : Vec F S1600000 .f32
  t2 : Vec F S1600000 .f32
  vo : Vec F S1600000 .f32
  ix : Vec F S1600000 .i32

/-- Row `n`. -/
def rowIdx (n : ℕ) : S1600000.Idx := fun a => match a with | 0 => ⟨n % 1600000, Nat.mod_lt _ (by decide)⟩
/-- Lane `l`. -/
def laneIdx (l : ℕ) : S16.Idx := fun a => match a with | 0 => ⟨l % 16, Nat.mod_lt _ (by decide)⟩
/-- Row `r` and column `g` of a table of maxima. -/
def cellIdx (r g : ℕ) : S16x4096.Idx := fun a => match a with | 0 => ⟨r % 16, Nat.mod_lt _ (by decide)⟩ | 1 => ⟨g % 4096, Nat.mod_lt _ (by decide)⟩

/-- Row `n`'s value, computed in lane `l`. -/
def rowX (w : Weights F) (X : Cols F) (l : S16.Idx) (n : S1600000.Idx) : F .f32 :=
  FloatOps.addf (FloatOps.addf (FloatOps.addf (FloatOps.addf (FloatOps.mulf (X.t0 n) (w.w0 l)) (FloatOps.mulf (X.t1 n) (w.w1 l)))
    (FloatOps.mulf (X.t2 n) (w.w2 l))) (FloatOps.mulf (X.vo n) (w.w3 l))) (w.w4 l)

/-- Tile `t`'s table of maxima after its first `k` groups of sixteen rows: lane `l`'s entry for segment
    `g` is the greatest value of the rows `l` of those groups that lie in `g`. -/
def tableAt (t : ℕ) (w : Weights F) (X : Cols F) : ℕ → Vec F S16x4096 .f32
  | 0 => fun _ => Scalar.ofBits (F := F) .f32 0xFF800000#32
  | k + 1 => fun j =>
    if (X.ix (rowIdx (50000 * t + 16 * k + (j 0).val)) : BitVec 32).toNat = (j 1).val then
      FloatOps.maximumf (tableAt t w X k j) (rowX w X (laneIdx (j 0).val) (rowIdx (50000 * t + 16 * k + (j 0).val)))
    else tableAt t w X k j

/-- The greatest of rows `0 … r` of column `g` of a table. -/
def foldRows (T : Vec F S16x4096 .f32) (g : ℕ) : ℕ → F .f32
  | 0 => T (cellIdx 0 g)
  | r + 1 => FloatOps.maximumf (foldRows T g r) (T (cellIdx (r + 1) g))

/-- Block `s` of the tile `t`: what a slot holds once it is copied. -/
def tvX (X : Cols F) (t s : ℕ) : Vec F S6000 .f32 := fun j =>
  if (j 0).val < 2000 then X.t0 (rowIdx (50000 * t + 2000 * s + (j 0).val))
  else if (j 0).val < 4000 then X.t1 (rowIdx (50000 * t + 2000 * s + ((j 0).val - 2000)))
  else X.t2 (rowIdx (50000 * t + 2000 * s + ((j 0).val - 4000)))

/-- Block `s` of the tile `t` of one column. -/
def blkX {e : EltTy} (x : Vec F S1600000 e) (t s : ℕ) : Vec F S2000 e := fun j => x (rowIdx (50000 * t + 2000 * s + (j 0).val))

/-- A lane's cell is in the lane's row, at the column of its segment number. -/
theorem idxAt_lanes (ix : IVec S16 32) (h : ∀ a x, ((![lanes, ix] : Fin 2 → IVec S16 32) a x).toNat < S16x4096.size a) (x : S16.Idx) :
    ((idxAt (s := S16x4096) ![lanes, ix] h x) 0).val = (x 0).val ∧ ((idxAt (s := S16x4096) ![lanes, ix] h x) 1).val = (ix x).toNat := by
  have hx : (x 0).val < 16 := (x 0).isLt
  refine ⟨?_, rfl⟩
  show (BitVec.ofNat 32 (0 * 16 + (x 0).val)).toNat = _
  rw [BitVec.toNat_ofNat]
  omega

/-- Writing cells one after the other, the cells of one step in one row and no two steps in the same row: a cell
    holds what its row's step writes. -/
theorem foldl_cells {J β : Type} {n : ℕ} (row : J → ℕ) (H : J → Prop) [DecidablePred H] (V : J → β) (step : (J → β) → Fin n → J → β)
    (hstep : ∀ g k j, step g k j = if row j = k.val ∧ H j then V j else g j) (l : List (Fin n)) (g : J → β) :
    l.foldl step g = fun j => if (∃ k ∈ l, row j = k.val) ∧ H j then V j else g j := by
  induction l generalizing g with
  | nil => funext j; simp
  | cons k l ih =>
    rw [List.foldl_cons, ih]
    funext j
    rw [hstep]
    by_cases hH : H j
    · by_cases hk : row j = k.val
      · simp [hH, hk]
      · simp [hH, hk]
    · simp [hH]

/-- Sixteen rows' maxima, put one lane after the other, are put row by row of the table. -/
theorem put_eq (T : Vec F S16x4096 .f32) (ix : IVec S16 32) (x : FVec F S16 .f32)
    (h₁ h₂ : ∀ a x, ((![lanes, ix] : Fin 2 → IVec S16 32) a x).toNat < S16x4096.size a) :
    storeIdx (d := ![16]) T ![lanes, ix] (maximumf (loadIdx T ![lanes, ix] h₁) x) (fun _ => 1#1) false h₂
      = fun j => if (ix (laneIdx (j 0).val)).toNat = (j 1).val then FloatOps.maximumf (T j) (x (laneIdx (j 0).val)) else T j := by
  unfold storeIdx
  refine (foldl_cells (n := 16) (fun j : S16x4096.Idx => (j 0).val) (fun j => (ix (laneIdx (j 0).val)).toNat = (j 1).val)
    (fun j => FloatOps.maximumf (T j) (x (laneIdx (j 0).val))) _ (fun g k j => ?_) (List.finRange 16) T).trans ?_
  · refine (congrFun (if_pos rfl) j).trans ?_
    have hl := idxAt_lanes ix h₁ (Shape.ofLane (d := ![16]) k)
    have hk : (Shape.ofLane (d := ![16]) k 0 : Fin 16).val = k.val := rfl
    have hi : (∀ a, (j a).val = (idxAt (s := S16x4096) ![lanes, ix] h₂ (Shape.ofLane (d := ![16]) k) a).val)
        ↔ ((j 0).val = k.val ∧ (ix (laneIdx (j 0).val)).toNat = (j 1).val) := by
      have hlane : (j 0).val = k.val → laneIdx (j 0).val = Shape.ofLane (d := ![16]) k := by
        intro h
        funext a
        match a with
        | 0 => exact Fin.ext (by show (j 0).val % 16 = k.val; rw [h]; exact Nat.mod_eq_of_lt k.isLt)
      constructor
      · intro h
        have h0 : (j 0).val = k.val := (h 0).trans (hl.1.trans hk)
        exact ⟨h0, by rw [hlane h0]; exact ((h 1).trans hl.2).symm⟩
      · rintro ⟨h0, h1⟩ a
        match a with
        | 0 => exact h0.trans (hl.1.trans hk).symm
        | 1 => rw [hlane h0] at h1; exact h1.symm.trans hl.2.symm
    by_cases hc : (j 0).val = k.val ∧ (ix (laneIdx (j 0).val)).toNat = (j 1).val
    · rw [if_pos hc]
      refine (if_pos (hi.mpr hc)).trans ?_
      have he : idxAt (s := S16x4096) ![lanes, ix] h₁ (Shape.ofLane (d := ![16]) k) = j :=
        funext fun a => Fin.ext (hi.mpr hc a).symm
      have hx : laneIdx (j 0).val = Shape.ofLane (d := ![16]) k := by
        funext a
        match a with
        | 0 => exact Fin.ext (by show (j 0).val % 16 = k.val; rw [hc.1]; exact Nat.mod_eq_of_lt k.isLt)
      rw [hx]
      exact congrArg (fun z => FloatOps.maximumf (T z) (x (Shape.ofLane (d := ![16]) k))) he
    · rw [if_neg hc]
      exact if_neg fun h => hc (hi.mp h)
  · funext j
    have : ∃ k ∈ List.finRange 16, (j 0).val = k.val := ⟨j 0, List.mem_finRange _, rfl⟩
    simp only [this, true_and]

end Cert.Steps
end
-- ==== Proof.Slots.lean ====
module

public import proofs.«01_k».proof.Proof.Values
public import Idealize.ShloMosaic.Lib.SparseCore.Quiescent
public import Idealize.ShloMosaic.Lib.Batch
public import Idealize.ShloMosaic.Lib.Pipeline.Kit
public import Idealize.ShloMosaic.Lib.Tactic

@[expose] public section

noncomputable section

namespace Cert.Steps

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts

variable {F : FTy → Type} [FloatOps F] [Facts]

/-- The handshakes' ghost state. -/
abbrev UH : Type := URounds (GSem nD τ sig) ℕ
/-- The pipeline's ghost state. -/
abbrev UK : Type := URounds (GSem nD τ sig) Unit
/-- All ghost state. -/
abbrev UU : Type := UH × (UK × Counters)
/-- No loop needs a measure of its own. -/
abbrev 𝒱₀ : Variants := Variants.none

local notation "𝕄" => MT nD τ sig (HIx 1) (Elt F) ℕ UU ℕ

/-- The transfers' counters in the proof's algebra. -/
abbrev EC : UEmb Counters (MT nD τ sig (HIx 1) (Elt F) ℕ UU ℕ) := countersEmb

/-- The thread of the tile at `i`. -/
abbrev thr (d : Dev nD) (i : grid0.Coords) : Thread nD τ := V d ((i 0).castLE hcore0) ((i 1).castLE hsub0)

/-- What a copy of a block credits its semaphore. -/
abbrev NB : ℕ := RefSig.bitCredit S2000 .f32

/-- A block's copy moves something. -/
theorem NB_pos : 0 < NB := by decide

/-- What a copy of 2000 floats adds to its semaphore. -/
theorem amount_f32 {sp : Space} (m : Memref sig .scVector sp S2000 .f32) (sem : DmaSem sig) : m.view.amount (.dma sem) = NB := by
  rfl

/-- What a copy of 2000 integers adds to its semaphore. -/
theorem amount_i32 {sp : Space} (m : Memref sig .scVector sp S2000 .i32) (sem : DmaSem sig) : m.view.amount (.dma sem) = NB := by
  rfl

variable (d : Dev nD) (i : grid0.Coords)

/-- A part of a transfer batch started: the source and the destination owned, the destination at anything, become the batch's next part. -/
theorem wp_issue {α : Type} {sp sp' : Space} {s : Shape} {e : EltTy} {src : Memref sig (thr d i).2.kind sp s e} {dst : Memref sig (thr d i).2.kind sp' s e}
    {sem : DmaSem sig} {hsrc : src.view.WordExact} {hdst : dst.view.WordExact} {hsem : DmaTarget.Typed (nD := nD) sp (SemLoc.dma sem) (.here dst)}
    {k : PUnit → Prog (TileEff F i) α} {Q : α → sProp 𝕄} {q : PosShare TreeShare} {X : Vec F s e} {n N : ℕ} {D : Fin n → sProp 𝕄} {j : ℕ}
    (hN : dst.view.amount (.dma sem) = N) (hj : j < n)
    (hD : iprop(owns (thr d i) dst fullShare X ∗ owns (thr d i) src q X) ⊢ D ⟨j, hj⟩) :
    iprop(owns (thr d i) src q X ∗ (∃ Y, owns (thr d i) dst fullShare Y) ∗ Transfers.Batch EC (thr d i) (.dma sem) none N D j 0)
      ⊢ iprop((Transfers.Batch EC (thr d i) (.dma sem) none N D (j + 1) 0 -∗ wp frame (wpE (defs₀ (F := F)) 𝒱₀ (thr d i) none) Set.univ (k ⟨⟩) Q)
          -∗ wp frame (wpE (defs₀ (F := F)) 𝒱₀ (thr d i) none) Set.univ (.op (.enqueueDma src (.here dst) (.dma sem) hsrc hdst hsem) k) Q) := by
  unfold owns
  iintro ⟨⟨%fs, %hfs, Hs⟩, ⟨%Y, %fd, %hfd, Hd⟩, HB⟩ Hk
  iapply (Transfers.wp_dmaBatch EC 𝒱₀ (thr d i) none (Sd := dst.view.set) none N hN subset_rfl hj (Nat.zero_le _) (via := .same) (fs := fs) (fd := fd) (D := D) (q := q)
    (show _ ⊢ _ from by
      refine BIClass.entails_trans ?_ hD
      unfold owns
      iintro ⟨Hd, Hs⟩
      isplitl [Hd]
      · iexists _; isplitr
        swap; · iexact Hd
        ipureintro
        rw [View.read_write_univ]; exact hfs
      · iexists fs; isplitr; · ipureintro; exact hfs
        iexact Hs)) $$ [Hs Hd HB]
  · isplitl [Hs]; · iexact Hs
    isplitl [Hd]; · iexact Hd
    iexact HB
  iexact Hk

/-! ## One array of main memory: a block of it and the rest -/

/-- The block's elements are the tile's rows. -/
theorem block_emb (s : ℕ) (hs : s < 25) (j : S2000.Idx) :
    (Rect.unit (s := S1600000) (rowOff i s) S2000.size (rowOff_inb i s hs)).emb j = rowIdx (50000 * wid i + 2000 * s + (j 0).val) := by
  have hw := wid_lt i
  have hj : (j 0).val < 2000 := (j 0).isLt
  funext a
  match a with
  | 0 =>
    refine Fin.ext ?_
    show rowOff i s 0 + 1 * (j 0).val = (50000 * wid i + 2000 * s + (j 0).val) % 1600000
    rw [rowOff_eq i s hs]
    show 50000 * wid i + 2000 * s + 1 * (j 0).val = _
    omega

/-- An array but for its block `s`. -/
def restOf {e : EltTy} (m : Memref sig .scVector .hbm S1600000 e) (s : ℕ) (hs : s < 25) (q : PosShare TreeShare) (x : Vec F S1600000 e) : sProp 𝕄 :=
  iprop(∃ f, ⌜m.view.read (Elt F) f = x⌝ ∗ (m.view.loc (thr d i) ↦[m.view.set \ (blockOf m i s hs).view.set]{q} f))

/-- An array's ownership without its block's. -/
theorem take_block {e : EltTy} (m : Memref sig .scVector .hbm S1600000 e) (s : ℕ) (hs : s < 25) (q : PosShare TreeShare) (x : Vec F S1600000 e) :
    (owns (thr d i) m q x : sProp 𝕄) ⊢ iprop(owns (thr d i) (blockOf m i s hs) q (blkX x (wid i) s) ∗ restOf d i m s hs q x) := by
  have h := owns_slice_split (Ix := HIx 1) (Name := ℕ) (U := UU) (Lvl := ℕ) (thr d i) m q (Rect.unit (s := S1600000) (rowOff i s) S2000.size (rowOff_inb i s hs)) (fun _ => rfl) x
  rw [show (fun j => x ((Rect.unit (s := S1600000) (rowOff i s) S2000.size (rowOff_inb i s hs)).emb j)) = blkX x (wid i) s from
    funext fun j => congrArg x (block_emb i s hs j)] at h
  exact h

/-- A block and the rest are the array. -/
theorem give_block {e : EltTy} (m : Memref sig .scVector .hbm S1600000 e) (s : ℕ) (hs : s < 25) (q : PosShare TreeShare) (x : Vec F S1600000 e) :
    iprop(owns (thr d i) (blockOf m i s hs) q (blkX x (wid i) s) ∗ restOf d i m s hs q x) ⊢ (owns (thr d i) m q x : sProp 𝕄) := by
  unfold restOf
  iintro ⟨Hb, %f, %hf, Hr⟩
  have h := owns_slice_join (Ix := HIx 1) (Name := ℕ) (U := UU) (Lvl := ℕ) (thr d i) m q (Rect.unit (s := S1600000) (rowOff i s) S2000.size (rowOff_inb i s hs)) (fun _ => rfl)
    (blkX x (wid i) s) f
  have hx : (Rect.unit (s := S1600000) (rowOff i s) S2000.size (rowOff_inb i s hs)).overlay (m.view.read (Elt F) f) (blkX x (wid i) s) = x := by
    rw [hf]
    funext j
    by_cases hj : j ∈ (Rect.unit (s := S1600000) (rowOff i s) S2000.size (rowOff_inb i s hs)).set
    · obtain ⟨y, hy⟩ := (Rect.unit (s := S1600000) (rowOff i s) S2000.size (rowOff_inb i s hs)).exists_idx_of_mem hj
      have hy' : (Rect.unit (s := S1600000) (rowOff i s) S2000.size (rowOff_inb i s hs)).emb y = j := hy
      rw [← hy', Rect.overlay_emb, block_emb i s hs]
      rfl
    · rw [Rect.overlay_of_not_mem _ _ _ hj]
  rw [hx] at h
  iapply h
  isplitl [Hb]; · iexact Hb
  iexact Hr

/-! ## A slot's column buffer as its three parts -/

/-- The three parts of a slot's column buffer. -/
def tvRect : Fin 3 → Rect S6000
  | 0 => Rect.unit (s := S6000) ![0] S2000.size inb_S6000_S2000_0
  | 1 => Rect.unit (s := S6000) ![2000] S2000.size inb_S6000_S2000_2000
  | 2 => Rect.unit (s := S6000) ![4000] S2000.size inb_S6000_S2000_4000

/-- The thirds have no gaps. -/
theorem tvRect_stride (k : Fin 3) (a : Fin S6000.rank) : (tvRect k).stride a = 1 := by
  match k with
  | 0 => rfl
  | 1 => rfl
  | 2 => rfl

/-- Which words lie in a third. -/
theorem mem_tvRect (k : Fin 3) (j : S6000.Idx) : j ∈ (tvRect k).set ↔ 2000 * k.val ≤ (j 0).val ∧ (j 0).val < 2000 * k.val + 2000 := by
  match k with
  | 0 => exact (Rect.mem_set_unit (inb := inb_S6000_S2000_0)).trans (Fin.forall_fin_one (p := fun a : Fin 1 => (![0] : Fin 1 → ℕ) a ≤ (j a).val ∧ (j a).val < (![0] : Fin 1 → ℕ) a + S2000.size a))
  | 1 => exact (Rect.mem_set_unit (inb := inb_S6000_S2000_2000)).trans (Fin.forall_fin_one (p := fun a : Fin 1 => (![2000] : Fin 1 → ℕ) a ≤ (j a).val ∧ (j a).val < (![2000] : Fin 1 → ℕ) a + S2000.size a))
  | 2 => exact (Rect.mem_set_unit (inb := inb_S6000_S2000_4000)).trans (Fin.forall_fin_one (p := fun a : Fin 1 => (![4000] : Fin 1 → ℕ) a ≤ (j a).val ∧ (j a).val < (![4000] : Fin 1 → ℕ) a + S2000.size a))

/-- Different thirds have no word in common. -/
theorem tvRect_disjoint (k k' : Fin 3) (h : k ≠ k') : Disjoint (tvRect k).set (tvRect k').set := by
  rw [Finset.disjoint_left]
  intro j hj hj'
  have h1 := (mem_tvRect k j).mp hj
  have h2 := (mem_tvRect k' j).mp hj'
  exact h (Fin.ext (by omega))

/-- The three thirds are the whole buffer. -/
theorem tvRect_cover : (Finset.univ : Finset (Fin 3)).biUnion (fun k => (tvRect k).set) = Finset.univ := by
  refine Finset.eq_univ_iff_forall.mpr fun j => Finset.mem_biUnion.mpr ?_
  have hj : (j 0).val < 6000 := (j 0).isLt
  exact ⟨⟨(j 0).val / 2000, by omega⟩, Finset.mem_univ _, (mem_tvRect _ _).mpr (by show 2000 * ((j 0).val / 2000) ≤ _ ∧ _ < 2000 * ((j 0).val / 2000) + 2000; omega)⟩

/-- Three things held are the first, the second and the third. -/
theorem bigSep_three (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

/-- Five things held, one by one. -/
theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, bigSep_insert (by decide), bigSep_insert (by decide),
    bigSep_insert (by decide), bigSep_insert (by decide), bigSep_singleton]
  rfl

/-- The column buffer owned is its parts owned. -/
theorem split_tv (m : Memref sig .scVector .vmem S6000 .f32) (Y : Vec F S6000 .f32) :
    (owns (thr d i) m fullShare Y : sProp 𝕄) ⊢ iprop((∃ Y, owns (thr d i) (tvPart0 m) fullShare Y) ∗ (∃ Y, owns (thr d i) (tvPart1 m) fullShare Y)
      ∗ (∃ Y, owns (thr d i) (tvPart2 m) fullShare Y)) := by
  have h := owns_rects (Ix := HIx 1) (Name := ℕ) (U := UU) (Lvl := ℕ) (thr d i) m fullShare tvRect tvRect_stride tvRect_disjoint tvRect_cover Y
  rw [bigSep_three] at h
  iintro H
  ihave H' := h $$ H
  icases H' with ⟨H0, H1, H2⟩
  isplitl [H0]; · iexists _; iexact H0
  isplitl [H1]; · iexists _; iexact H1
  iexists _; iexact H2

/-- The parts at a block's columns are the buffer at the block. -/
theorem join_tv (m : Memref sig .scVector .vmem S6000 .f32) (X : Cols F) (t s : ℕ) :
    iprop(owns (thr d i) (tvPart0 m) fullShare (blkX X.t0 t s) ∗ owns (thr d i) (tvPart1 m) fullShare (blkX X.t1 t s)
      ∗ owns (thr d i) (tvPart2 m) fullShare (blkX X.t2 t s)) ⊢ (owns (thr d i) m fullShare (tvX X t s) : sProp 𝕄) := by
  haveI : ∀ e, Nonempty (Elt F e) := fun e => inferInstance
  have h := owns_of_rects (Ix := HIx 1) (Name := ℕ) (U := UU) (Lvl := ℕ) (thr d i) m fullShare tvRect tvRect_stride tvRect_disjoint tvRect_cover (tvX X t s)
  rw [bigSep_three] at h
  have h0 : (fun j => tvX X t s ((tvRect 0).emb j)) = blkX X.t0 t s := by
    funext j
    have hj : (j 0).val < 2000 := (j 0).isLt
    have e : (((tvRect 0).emb j) 0).val = (j 0).val := by show 0 + 1 * (j 0).val = _; omega
    unfold tvX blkX
    rw [e, if_pos hj]
  have h1 : (fun j => tvX X t s ((tvRect 1).emb j)) = blkX X.t1 t s := by
    funext j
    have hj : (j 0).val < 2000 := (j 0).isLt
    have e : (((tvRect 1).emb j) 0).val = 2000 + (j 0).val := by show 2000 + 1 * (j 0).val = _; omega
    unfold tvX blkX
    rw [e, if_neg (by omega), if_pos (by omega), Nat.add_sub_cancel_left]
  have h2 : (fun j => tvX X t s ((tvRect 2).emb j)) = blkX X.t2 t s := by
    funext j
    have hj : (j 0).val < 2000 := (j 0).isLt
    have e : (((tvRect 2).emb j) 0).val = 4000 + (j 0).val := by show 4000 + 1 * (j 0).val = _; omega
    unfold tvX blkX
    rw [e, if_neg (by omega), if_neg (by omega), Nat.add_sub_cancel_left]
  rw [h0, h1, h2] at h
  exact h

/-! ## A slot: idle, in flight, landed -/

/-- The arrays in main memory that the tile reads, at the share `q`. -/
def srcs (S : Srcs) (q : PosShare TreeShare) (X : Cols F) : sProp 𝕄 :=
  iprop(owns (thr d i) S.t0 q X.t0 ∗ owns (thr d i) S.t1 q X.t1 ∗ owns (thr d i) S.t2 q X.t2 ∗ owns (thr d i) S.vo q X.vo ∗ owns (thr d i) S.ix q X.ix)

/-- What the five copies of a block deliver: the parts of the slot at the block, and the block's reading share back. -/
def deliv (S : Srcs) (b : Slot) (q : PosShare TreeShare) (X : Cols F) (s : ℕ) (hs : s < 25) : Fin 5 → sProp 𝕄
  | 0 => iprop(owns (thr d i) (tvPart0 b.tv) fullShare (blkX X.t0 (wid i) s) ∗ owns (thr d i) (blockOf S.t0 i s hs) q (blkX X.t0 (wid i) s))
  | 1 => iprop(owns (thr d i) (tvPart1 b.tv) fullShare (blkX X.t1 (wid i) s) ∗ owns (thr d i) (blockOf S.t1 i s hs) q (blkX X.t1 (wid i) s))
  | 2 => iprop(owns (thr d i) (tvPart2 b.tv) fullShare (blkX X.t2 (wid i) s) ∗ owns (thr d i) (blockOf S.t2 i s hs) q (blkX X.t2 (wid i) s))
  | 3 => iprop(owns (thr d i) b.vv fullShare (blkX X.vo (wid i) s) ∗ owns (thr d i) (blockOf S.vo i s hs) q (blkX X.vo (wid i) s))
  | 4 => iprop(owns (thr d i) b.iv fullShare (blkX X.ix (wid i) s) ∗ owns (thr d i) (blockOf S.ix i s hs) q (blkX X.ix (wid i) s))

instance deliv_storable (S : Srcs) (b : Slot) (q : PosShare TreeShare) (X : Cols F) (s : ℕ) (hs : s < 25) (k : Fin 5) :
    Storable (upEmb : UEmb _ 𝕄) (deliv d i S b q X s hs k) := by
  match k with
  | 0 => unfold deliv; infer_instance
  | 1 => unfold deliv; infer_instance
  | 2 => unfold deliv; infer_instance
  | 3 => unfold deliv; infer_instance
  | 4 => unfold deliv; infer_instance

/-- All that the copies of a block deliver. -/
theorem deliv_all (S : Srcs) (b : Slot) (q : PosShare TreeShare) (X : Cols F) (s : ℕ) (hs : s < 25) :
    (bigSep Finset.univ (deliv d i S b q X s hs) : sProp 𝕄) ⊢ iprop(
      (owns (thr d i) (tvPart0 b.tv) fullShare (blkX X.t0 (wid i) s) ∗ owns (thr d i) (blockOf S.t0 i s hs) q (blkX X.t0 (wid i) s))
      ∗ (owns (thr d i) (tvPart1 b.tv) fullShare (blkX X.t1 (wid i) s) ∗ owns (thr d i) (blockOf S.t1 i s hs) q (blkX X.t1 (wid i) s))
      ∗ (owns (thr d i) (tvPart2 b.tv) fullShare (blkX X.t2 (wid i) s) ∗ owns (thr d i) (blockOf S.t2 i s hs) q (blkX X.t2 (wid i) s))
      ∗ (owns (thr d i) b.vv fullShare (blkX X.vo (wid i) s) ∗ owns (thr d i) (blockOf S.vo i s hs) q (blkX X.vo (wid i) s))
      ∗ (owns (thr d i) b.iv fullShare (blkX X.ix (wid i) s) ∗ owns (thr d i) (blockOf S.ix i s hs) q (blkX X.ix (wid i) s))) :=
  Entails.of_eq (bigSep_five (deliv d i S b q X s hs))

/-- A slot that no copy is under way into. -/
def idle (S : Srcs) (b : Slot) (q : PosShare TreeShare) (X : Cols F) : sProp 𝕄 :=
  iprop(srcs d i S q X ∗ (∃ Y, owns (thr d i) b.tv fullShare Y) ∗ (∃ Y, owns (thr d i) b.vv fullShare Y) ∗ (∃ Y, owns (thr d i) b.iv fullShare Y)
    ∗ semVal (thr d i, SemLoc.dma b.sem) 0)

/-- A slot that block `s` is being copied into. -/
def flight (S : Srcs) (b : Slot) (q : PosShare TreeShare) (X : Cols F) (s : ℕ) (hs : s < 25) : sProp 𝕄 :=
  iprop(Transfers.Batch EC (thr d i) (.dma b.sem) none NB (deliv d i S b q X s hs) 5 0
    ∗ restOf d i S.t0 s hs q X.t0 ∗ restOf d i S.t1 s hs q X.t1 ∗ restOf d i S.t2 s hs q X.t2 ∗ restOf d i S.vo s hs q X.vo ∗ restOf d i S.ix s hs q X.ix)

/-- A slot that holds block `s`. -/
def landed (S : Srcs) (b : Slot) (q : PosShare TreeShare) (X : Cols F) (s : ℕ) : sProp 𝕄 :=
  iprop(srcs d i S q X ∗ owns (thr d i) b.tv fullShare (tvX X (wid i) s) ∗ owns (thr d i) b.vv fullShare (blkX X.vo (wid i) s)
    ∗ owns (thr d i) b.iv fullShare (blkX X.ix (wid i) s) ∗ semVal (thr d i, SemLoc.dma b.sem) 0)

/-- A set of buffers that a block has landed in is free for the next. -/
theorem landed_idle (S : Srcs) (b : Slot) (q : PosShare TreeShare) (X : Cols F) (s : ℕ) :
    (landed d i S b q X s : sProp 𝕄) ⊢ idle d i S b q X := by
  unfold landed idle
  iintro ⟨H, H1, H2, H3, Hs⟩
  isplitl [H]; · iexact H
  isplitl [H1]; · iexists _; iexact H1
  isplitl [H2]; · iexists _; iexact H2
  isplitl [H3]; · iexists _; iexact H3
  iexact Hs

/-- Starting the copies of block `s` into an idle slot puts the slot in flight. -/
theorem wp_fire {α : Type} (S : Srcs) (b : Slot) (q : PosShare TreeShare) (X : Cols F) (s : ℕ) (hs : s < 25)
    {k : PUnit → Prog (TileEff F i) α} {Q : α → sProp 𝕄} :
    (idle d i S b q X : sProp 𝕄) ⊢ iprop((flight d i S b q X s hs -∗ wp frame (wpE (defs₀ (F := F)) 𝒱₀ (thr d i) none) Set.univ (k ⟨⟩) Q)
      -∗ wp frame (wpE (defs₀ (F := F)) 𝒱₀ (thr d i) none) Set.univ (fire i S b s hs >>= k) Q) := by
  unfold idle srcs
  iintro ⟨⟨H0, H1, H2, H3, H4⟩, ⟨%Y, Htv⟩, Hvv, Hiv, Hsem⟩ Hk
  ihave H0' := (take_block d i S.t0 s hs q X.t0) $$ H0
  icases H0' with ⟨B0, R0⟩
  ihave H1' := (take_block d i S.t1 s hs q X.t1) $$ H1
  icases H1' with ⟨B1, R1⟩
  ihave H2' := (take_block d i S.t2 s hs q X.t2) $$ H2
  icases H2' with ⟨B2, R2⟩
  ihave H3' := (take_block d i S.vo s hs q X.vo) $$ H3
  icases H3' with ⟨B3, R3⟩
  ihave H4' := (take_block d i S.ix s hs q X.ix) $$ H4
  icases H4' with ⟨B4, R4⟩
  ihave Htv' := (split_tv d i b.tv Y) $$ Htv
  icases Htv' with ⟨T0, T1, T2⟩
  imod (Transfers.batch_alloc' EC (thr d i) none NB (deliv d i S b q X s hs)) $$ Hsem with HB
  iapply (wp_issue d i (q := q) (X := blkX X.t0 (wid i) s) (N := NB) (D := deliv d i S b q X s hs) (j := 0) (amount_f32 _ _) (by decide) (BIClass.entails_refl _)) $$ [B0 T0 HB]
  · isplitl [B0]; · iexact B0
    isplitl [T0]; · iexact T0
    iexact HB
  iintro HB
  iapply (wp_issue d i (q := q) (X := blkX X.t1 (wid i) s) (N := NB) (D := deliv d i S b q X s hs) (j := 1) (amount_f32 _ _) (by decide) (BIClass.entails_refl _)) $$ [B1 T1 HB]
  · isplitl [B1]; · iexact B1
    isplitl [T1]; · iexact T1
    iexact HB
  iintro HB
  iapply (wp_issue d i (q := q) (X := blkX X.t2 (wid i) s) (N := NB) (D := deliv d i S b q X s hs) (j := 2) (amount_f32 _ _) (by decide) (BIClass.entails_refl _)) $$ [B2 T2 HB]
  · isplitl [B2]; · iexact B2
    isplitl [T2]; · iexact T2
    iexact HB
  iintro HB
  iapply (wp_issue d i (q := q) (X := blkX X.vo (wid i) s) (N := NB) (D := deliv d i S b q X s hs) (j := 3) (amount_f32 _ _) (by decide) (BIClass.entails_refl _)) $$ [B3 Hvv HB]
  · isplitl [B3]; · iexact B3
    isplitl [Hvv]; · iexact Hvv
    iexact HB
  iintro HB
  iapply (wp_issue d i (q := q) (X := blkX X.ix (wid i) s) (N := NB) (D := deliv d i S b q X s hs) (j := 4) (amount_i32 _ _) (by decide) (BIClass.entails_refl _)) $$ [B4 Hiv HB]
  · isplitl [B4]; · iexact B4
    isplitl [Hiv]; · iexact Hiv
    iexact HB
  iintro HB
  iapply Hk
  unfold flight
  isplitl [HB]; · iexact HB
  isplitl [R0]; · iexact R0
  isplitl [R1]; · iexact R1
  isplitl [R2]; · iexact R2
  isplitl [R3]; · iexact R3
  iexact R4

/-- The waits a thread has recorded beyond `W`, every one at no index. -/
def owing (O : CellTallies nD τ sig (HIx 1)) (W : Waits sig (HIx 1)) : sProp 𝕄 :=
  iprop(∃ W', ⌜∀ p ∈ W', p ∈ W ∨ p.2 = none⌝ ∗ owes (thr d i) O W')

/-- One more wait that orders nothing keeps the record of waits as it should be. -/
theorem insert_none {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with hp | hp
  · exact .inr (hp ▸ rfl)
  · exact h p hp

variable (O : CellTallies nD τ sig (HIx 1)) (W : Waits sig (HIx 1))

/-- A wait for a part of a batch that is not the last. -/
theorem wp_drain_one {α : Type} {sp sp' : Space} {s s' : Shape} {e e' : EltTy} {src : Memref sig (thr d i).2.kind sp' s' e'} {dst : Memref sig (thr d i).2.kind sp s e}
    {sem : DmaSem sig} {hsrc : src.view.WordExact} {hdst : dst.view.WordExact}
    {k : PUnit → Prog (TileEff F i) α} {Q : α → sProp 𝕄} {n N : ℕ} {D : Fin n → sProp 𝕄} {u : ℕ}
    (hN : dst.view.dmaCredit = N) (hu : u + N < N * n) :
    iprop(Transfers.Batch EC (thr d i) (.dma sem) none N D n u ∗ owing d i O W ∗ Transfers.MayWaits (thr d i) none O)
      ⊢ iprop((iprop(Transfers.Batch EC (thr d i) (.dma sem) none N D n (u + N) ∗ owing d i O W) -∗ wp frame (wpE (defs₀ (F := F)) 𝒱₀ (thr d i) none) Set.univ (k ⟨⟩) Q)
          -∗ wp frame (wpE (defs₀ (F := F)) 𝒱₀ (thr d i) none) Set.univ (.op (.waitDma2 sem src dst hsrc hdst) k) Q) := by
  unfold owing
  iintro ⟨HB, ⟨%W', %hW', HO⟩, #Hmw⟩ Hk
  iapply (Transfers.wp_waitBatchO EC 𝒱₀ (thr d i) none none hN hu) $$ [HB HO]
  · isplitl [HB]; · iexact HB
    isplitl [HO]; · iexact HO
    iapply (Transfers.MayWaits.elim (SemLoc.dma sem)); iexact Hmw
  iintro ⟨HB, HO⟩
  iapply Hk
  isplitl [HB]; · iexact HB
  iexists (insert (SemLoc.dma sem, none) W')
  isplitr; · ipureintro; exact insert_none hW' _
  iexact HO

/-- The wait for the last part of a batch. -/
theorem wp_drain_last {α : Type} {sp sp' : Space} {s s' : Shape} {e e' : EltTy} {src : Memref sig (thr d i).2.kind sp' s' e'} {dst : Memref sig (thr d i).2.kind sp s e}
    {sem : DmaSem sig} {hsrc : src.view.WordExact} {hdst : dst.view.WordExact}
    {k : PUnit → Prog (TileEff F i) α} {Q : α → sProp 𝕄} {n N : ℕ} {D : Fin n → sProp 𝕄} {u : ℕ}
    (hN : dst.view.dmaCredit = N) (hN0 : 0 < N) (hu : u + N = N * n) :
    iprop(Transfers.Batch EC (thr d i) (.dma sem) none N D n u ∗ owing d i O W ∗ Transfers.MayWaits (thr d i) none O)
      ⊢ iprop((iprop(bigSep Finset.univ D ∗ semVal (thr d i, SemLoc.dma sem) 0 ∗ owing d i O W) -∗ wp frame (wpE (defs₀ (F := F)) 𝒱₀ (thr d i) none) Set.univ (k ⟨⟩) Q)
          -∗ wp frame (wpE (defs₀ (F := F)) 𝒱₀ (thr d i) none) Set.univ (.op (.waitDma2 sem src dst hsrc hdst) k) Q) := by
  unfold owing
  iintro ⟨HB, ⟨%W', %hW', HO⟩, #Hmw⟩ Hk
  iapply (Transfers.wp_waitBatchLastO EC 𝒱₀ (thr d i) none none hN hN0 hu) $$ [HB HO]
  · isplitl [HB]; · iexact HB
    isplitl [HO]; · iexact HO
    iapply (Transfers.MayWaits.elim (SemLoc.dma sem)); iexact Hmw
  iintro ⟨HB, Hs, HO⟩
  iapply Hk
  isplitl [HB]; · iexact HB
  isplitl [Hs]; · iexact Hs
  iexists (insert (SemLoc.dma sem, none) W')
  isplitr; · ipureintro; exact insert_none hW' _
  iexact HO

/-- Waiting for a slot's five copies: the slot holds the block. -/
theorem wp_drain {α : Type} (S : Srcs) (b : Slot) (q : PosShare TreeShare) (X : Cols F) (s : ℕ) (hs : s < 25)
    {k : PUnit → Prog (TileEff F i) α} {Q : α → sProp 𝕄} :
    iprop(flight d i S b q X s hs ∗ owing d i O W ∗ Transfers.MayWaits (thr d i) none O)
      ⊢ iprop((iprop(landed d i S b q X s ∗ owing d i O W) -∗ wp frame (wpE (defs₀ (F := F)) 𝒱₀ (thr d i) none) Set.univ (k ⟨⟩) Q)
      -∗ wp frame (wpE (defs₀ (F := F)) 𝒱₀ (thr d i) none) Set.univ (drain i S b s hs >>= k) Q) := by
  unfold flight
  iintro ⟨⟨HB, R0, R1, R2, R3, R4⟩, HO, #Hmw⟩ Hk
  iapply (wp_drain_one d i O W (N := NB) (D := deliv d i S b q X s hs) (u := 0) (amount_f32 (tvPart0 b.tv) b.sem) (by decide)) $$ [HB HO]
  · isplitl [HB]; · iexact HB
    isplitl [HO]; · iexact HO
    iexact Hmw
  iintro ⟨HB, HO⟩
  iapply (wp_drain_one d i O W (N := NB) (D := deliv d i S b q X s hs) (u := 0 + NB) (amount_f32 (tvPart1 b.tv) b.sem) (by decide)) $$ [HB HO]
  · isplitl [HB]; · iexact HB
    isplitl [HO]; · iexact HO
    iexact Hmw
  iintro ⟨HB, HO⟩
  iapply (wp_drain_one d i O W (N := NB) (D := deliv d i S b q X s hs) (u := 0 + NB + NB) (amount_f32 (tvPart2 b.tv) b.sem) (by decide)) $$ [HB HO]
  · isplitl [HB]; · iexact HB
    isplitl [HO]; · iexact HO
    iexact Hmw
  iintro ⟨HB, HO⟩
  iapply (wp_drain_one d i O W (N := NB) (D := deliv d i S b q X s hs) (u := 0 + NB + NB + NB) (amount_f32 b.vv b.sem) (by decide)) $$ [HB HO]
  · isplitl [HB]; · iexact HB
    isplitl [HO]; · iexact HO
    iexact Hmw
  iintro ⟨HB, HO⟩
  iapply (wp_drain_last d i O W (N := NB) (D := deliv d i S b q X s hs) (u := 0 + NB + NB + NB + NB) (amount_i32 b.iv b.sem) NB_pos (by decide)) $$ [HB HO]
  · isplitl [HB]; · iexact HB
    isplitl [HO]; · iexact HO
    iexact Hmw
  iintro ⟨HD, Hs, HO⟩
  ihave HD := (deliv_all d i S b q X s hs) $$ HD
  icases HD with ⟨⟨T0, B0⟩, ⟨T1, B1⟩, ⟨T2, B2⟩, ⟨T3, B3⟩, ⟨T4, B4⟩⟩
  iapply Hk
  isplitr [HO]
  · unfold landed srcs
    isplitl [R0 R1 R2 R3 R4 B0 B1 B2 B3 B4]
    · isplitl [R0 B0]; · iapply (give_block d i S.t0 s hs q X.t0); isplitl [B0]; · iexact B0
                         iexact R0
      isplitl [R1 B1]; · iapply (give_block d i S.t1 s hs q X.t1); isplitl [B1]; · iexact B1
                         iexact R1
      isplitl [R2 B2]; · iapply (give_block d i S.t2 s hs q X.t2); isplitl [B2]; · iexact B2
                         iexact R2
      isplitl [R3 B3]; · iapply (give_block d i S.vo s hs q X.vo); isplitl [B3]; · iexact B3
                         iexact R3
      iapply (give_block d i S.ix s hs q X.ix); isplitl [B4]; · iexact B4
      iexact R4
    isplitl [T0 T1 T2]
    · iapply (join_tv d i b.tv X (wid i) s)
      isplitl [T0]; · iexact T0
      isplitl [T1]; · iexact T1
      iexact T2
    isplitl [T3]; · iexact T3
    isplitl [T4]; · iexact T4
    iexact Hs
  iexact HO

end Cert.Steps
end
-- ==== Proof.Region.lean ====
module

public import proofs.«01_k».proof.Proof.Slots
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.Value

@[expose] public section

noncomputable section

namespace Cert.Steps

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal
open Cert.KernelIdeal.Facts₀ Cert.KernelIdeal.Facts

variable {F : FTy → Type} [FloatOps F]

local notation "𝕄" => MT nD τ sig (HIx 1) (Elt F) ℕ UU ℕ

open Idealize.ShloMosaic.TcCoe
open Idealize.ShloMosaic.Pipeline (Dat BodyObligation)
open Cert.KernelIdeal.Gen (launch1 cellOf_inj fin_N1 t1_0 bigSep_W1 scopedRest1_eq)

/-! ## The body of the TensorCore's call -/

/-- The greatest of the thirty-two rows at every segment, as the call's body computes it. -/
def maxOfRows (X : Vec F S32x4096 .f32) : Vec F S1x4096 .f32 :=
  shapeCast S1x4096 (multiReduction .maximumf [0] S4096 (shapeCast S32x4096 X shapeCasts_S32x4096_S32x4096) 0xFF800000#32 reduces_S32x4096_S4096 (.inl rfl) rfl : FVec F S4096 .f32)
    shapeCasts_S4096_S1x4096

/-- A part as large as the whole starts at its origin, so that it is the whole. -/
theorem emb_all {s : Shape} {off : Fin s.rank → ℕ} (inb : ∀ a, off a + s.size a ≤ s.size a) (y : s.Idx) : (Rect.unit (s := s) off s.size inb).emb y = y := by
  funext a
  exact Fin.ext (show off a + 1 * (y a).val = (y a).val by have := inb a; omega)

/-- A program that is done. -/
theorem wp_over {α : Type} (c : Thread nD τ) (a : α) {Q : α → sProp 𝕄} :
    Q a ⊢ wp frame (wpE (defs₀ (F := F)) 𝒱₀ c none) Set.univ (Prog.ret a : Prog (TpuEff nD τ sig (Elt F) Λ₀ c.2) α) Q := by
  iintro H
  rw [wp_ret]; imodintro
  iexact H

/-- The body: the block read, its greatest row stored. -/
theorem wp_greatestRows (c : Dev nD) (M0 : Memref sig .tc .vmem S32x4096 .f32) (h0 : M0.IsWhole) (M1 : Memref sig .tc .vmem S1x4096 .f32) (h1 : M1.IsWhole)
    (X : Vec F S32x4096 .f32) (Y : Vec F S1x4096 .f32) {Q : PUnit → sProp 𝕄} :
    iprop(owns (c : Thread nD τ) M0 fullShare X ∗ owns (c : Thread nD τ) M1 fullShare Y
        ∗ (iprop(owns (c : Thread nD τ) M0 fullShare X ∗ owns (c : Thread nD τ) M1 fullShare (maxOfRows X)) -∗ Q ⟨⟩))
      ⊢ wp frame (wpE (defs₀ (F := F)) 𝒱₀ (c : Thread nD τ) none) Set.univ (cc1_body M0 h0 M1 h1) Q := by
  unfold owns cc1_body
  iintro ⟨⟨%f, %hf, H0⟩, ⟨%g, -, H1⟩, Hk⟩
  iapply (wp_load_rect 𝒱₀ (c : Thread nD τ) none Set.univ (m := M0) (r := Rect.unit (s := S32x4096) ![0, 0] S32x4096.size inb_S32x4096_S32x4096_0_0) (S := M0.view.set) (f := f) (q := fullShare) (M0.view.set_slice_subset _)) $$ H0
  iintro H0
  iapply (wp_load_rect 𝒱₀ (c : Thread nD τ) none Set.univ (m := M1) (r := Rect.unit (s := S1x4096) ![0, 0] S1x4096.size inb_S1x4096_S1x4096_0_0) (S := M1.view.set) (f := g) (q := fullShare) (M1.view.set_slice_subset _)) $$ H1
  iintro H1
  iapply (wp_store 𝒱₀ (c : Thread nD τ) none Set.univ (m := M1) (r := Rect.unit (s := S1x4096) ![0, 0] S1x4096.size inb_S1x4096_S1x4096_0_0) (S := M1.view.set) (f := g) (M1.view.set_slice_subset _)) $$ H1
  iintro H1
  iapply (wp_over (c : Thread nD τ) PUnit.unit)
  iapply Hk
  isplitl [H0]
  · iexists f; isplitr; · ipureintro; exact hf
    iexact H0
  iexists _; isplitr
  swap; · iexact H1
  ipureintro
  funext j
  have e := View.read_slice_write_emb (v := M1.view) (Rect.unit (s := S1x4096) ![0, 0] S1x4096.size inb_S1x4096_S1x4096_0_0) g (maxOfRows X) (Finset.mem_univ j)
  rw [emb_all] at e
  refine Eq.trans ?_ e
  have hX : View.read (Elt F) (M0.access (Rect.unit (s := S32x4096) ![0, 0] S32x4096.size inb_S32x4096_S32x4096_0_0)) f = X := by
    funext y
    show M0.view.read (Elt F) f ((Rect.unit (s := S32x4096) ![0, 0] S32x4096.size inb_S32x4096_S32x4096_0_0).emb y) = X y
    rw [emb_all, hf]
  rw [hX]
  rfl

/-! ## The call as a region of the program -/

/-- The call's data: entered with the table of maxima at `T` and its result's array at `R`, left with the result's at the greatest rows. -/
def maxDat (T : Dev nD → Vec F S32x4096 .f32) (R : Dev nD → Vec F S1x4096 .f32) (c : Dev nD) : Dat τ (Elt F) (HIx 1) ℕ UU ℕ cfg1 c where
  A w := match w with
    | ⟨0, _⟩ => T c
    | ⟨1, _⟩ => R c
  after w _ := match w with
    | ⟨0, _⟩ => T c
    | ⟨1, _⟩ => maxOfRows (T c)
  Φ _ := Pipeline.scopedRest (Ix := HIx 1) (Name := ℕ) (U := UU) (Lvl := ℕ) (Val := Elt F) spec1 c
  q _ := fullShare
  owed _ := 0

variable (T : Dev nD → Vec F S32x4096 .f32) (R : Dev nD → Vec F S1x4096 .f32) (c : Dev nD)

/-- The one block of the table's window is the whole table. -/
theorem blockOf_table : (maxDat T R c).blockOf 0 t1_0 = T c := by
  funext y
  refine (View.read_apply _ _).trans ?_
  refine (cast_eq _ _).trans ?_
  refine congrArg (T c) ?_
  funext a
  exact Fin.ext (Pipeline.Window.rect_emb_val_of_index_zero (cfg1.win 0) t1_0 a rfl y)

/-- What the body finds in the table's window: the table. -/
theorem before_table (d : (cfg1.win 0).block.Idx → Elt F (cfg1.win 0).elt) : (maxDat T R c).before 0 t1_0 d = T c := by
  unfold Dat.before; rw [if_pos (by decide)]
  funext j
  unfold Dat.fetched Pipeline.Window.fill
  rw [dif_pos (((cfg1.win 0).moved_iff _ j).mpr fun a => (j a).isLt)]
  exact congrFun (blockOf_table T R c) j

/-- After the one step the first window holds the rows. -/
theorem after_table : (maxDat T R c).after 0 t1_0 = T c := by dsimp only [maxDat]
/-- After the one step the second window holds the greatest values. -/
theorem after_max : (maxDat T R c).after 1 t1_0 = maxOfRows (T c) := by dsimp only [maxDat]

/-- The body meets its obligation. -/
theorem max_obligation : BodyObligation (maxDat T R c) (defs₀ (F := F)) 𝒱₀ none Set.univ := fun t => by
  obtain rfl := fin_N1 t
  rw [bigSep_W1, bigSep_W1]
  rw [show (maxDat T R c).Φ t1_0.castSucc = (maxDat T R c).Φ t1_0.succ from rfl,
    show (maxDat T R c).owesAt none t1_0.succ = (maxDat T R c).owesAt none t1_0.castSucc from rfl]
  iintro ⟨HΦ, Howes, ⟨%d0, H0⟩, ⟨%d1, H1⟩⟩
  rw [before_table]
  iapply (wp_greatestRows c (stage1_0 0) (hstage1_0 0) (stage1_1 0) (hstage1_1 0) (T c) _)
  isplitl [H0]; · iexact H0
  isplitl [H1]; · iexact H1
  iintro ⟨H0, H1⟩
  isplitl [HΦ]; · iexact HΦ
  isplitl [Howes]; · iexact Howes
  isplitl [H0]
  · iapply (Entails.of_eq (congrArg (fun z => (owns (c : Thread nD τ) (stage1_0 0) fullShare z : sProp 𝕄)) (after_table T R c).symm)); iexact H0
  iapply (Entails.of_eq (congrArg (fun z => (owns (c : Thread nD τ) (stage1_1 0) fullShare z : sProp 𝕄)) (after_max T R c).symm)); iexact H1

/-- The result's one block is the whole result. -/
theorem blk_max (t : Fin cfg1.N) (y : S1x4096.Idx) : ((cfg1.win 1).rect t).emb y = y := by
  obtain rfl := fin_N1 t
  funext a
  exact Fin.ext (Pipeline.Window.rect_emb_val_of_index_zero (cfg1.win 1) t1_0 a rfl y)

/-- The result's array after the call: the greatest rows. -/
theorem arrAt_max : (maxDat T R c).arrAt 1 cfg1.N = maxOfRows (T c) := by
  refine Dat.arrAt_eq_of_cover (maxDat T R c) 1 (maxOfRows (T c)) (fun t _ => ?_) (fun i => ⟨t1_0, by decide, ?_⟩)
  · obtain rfl := fin_N1 t
    funext y
    refine Eq.trans ?_ ((View.read_apply _ _).trans (cast_eq _ _)).symm
    refine (congrFun (after_max T R c) y).trans (congrArg (maxOfRows (T c)) (blk_max t1_0 y).symm)
  · have h := ((cfg1.win 1).blk t1_0).view.emb_mem_set (i : S1x4096.Idx)
    have e : ((cfg1.win 1).blk t1_0).view.emb (i : S1x4096.Idx) = i := blk_max t1_0 i
    rwa [e] at h

end Cert.Steps
end
-- ==== Proof.Call.lean ====
module

public import proofs.«01_k».proof.Proof.Region
public import Idealize.ShloMosaic.Lib.SparseCore.Quiescent
public import Idealize.ShloMosaic.Lib.SparseCore.Ops
public import Idealize.ShloMosaic.Lib.StableHlo.Run

@[expose] public section

noncomputable section

namespace Cert.Steps

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Idealize.ShloMosaic.TcCoe
open Idealize.ShloMosaic.Pipeline (Dat BodyObligation RegionSeg LevelCut pin)
open Cert.KernelIdeal.Gen (launch1 cellOf_inj fin_N1 t1_0 bigSep_W1 scopedRest1_eq)

variable {F : FTy → Type} [FloatOps F]

local notation "𝕄" => MT nD τ sig (HIx 1) (Elt F) ℕ UU ℕ

/-! ## The program as its threads run it -/

/-- The labels of the TensorCore's pipeline over the kernels'. -/
abbrev ΛP : Labels := Pipeline.Sig Λ₀ (Fin 1) fun p => (pcfgs (F := F) p).Adm
/-- The one SparseCore call. -/
abbrev K : SparseCore.Cfg τ sig (ΛP (F := F)) 1 := sc (F := F)
/-- The bodies the threads call. -/
abbrev D : Defs nD τ sig (Elt F) (ΛP (F := F)) := Pipeline.defs pcfgs defs₀
/-- No loop of the program needs a variant of its own. -/
abbrev 𝒱 : Variants := 𝒱₀.lift
/-- The variant the tiles' bodies start at. -/
abbrev v₀ : 𝒱.V := Sum.inl none

/-- The one admissible contents of the tables, of which there are none. -/
abbrev adm : (p : Fin 1) → (pcfgs (F := F) p).Adm := fun p => (cfgs p).toPCfg_adm

/-- The handshakes' ghost state among all of it. -/
abbrev EH : Emb UH (MT nD τ sig (HIx 1) (Elt F) ℕ UU ℕ) := embL
/-- The pipeline's. -/
def EP : Emb UK (MT nD τ sig (HIx 1) (Elt F) ℕ UU ℕ) := (Emb.inl : Emb UK (UK × Counters)).trans embR
instance EP_lands : (EP (F := F)).LandsIn (upEmb : UEmb _ 𝕄) := by unfold EP; infer_instance

/-! ## The TensorCore's call -/

/-- What the buffers hold after the call, from what they held: the result's the greatest rows of the table's. -/
def afterMax (V : Valuation τ sig (Elt F)) : Valuation τ sig (Elt F) :=
  Function.update V (Proc.devRef (τ := τ) .tc main_v12) (maxOfRows (V (Proc.devRef (τ := τ) .tc main_v11)))

/-- The call leaves the tiles' rows as they are. -/
theorem afterMax_table (V : Valuation τ sig (Elt F)) :
    afterMax V (Proc.devRef (τ := τ) .tc main_v11) = V (Proc.devRef (τ := τ) .tc main_v11) := Function.update_of_ne (by decide) _ _
/-- The call's result is the greatest value of each column. -/
theorem afterMax_max (V : Valuation τ sig (Elt F)) :
    afterMax V (Proc.devRef (τ := τ) .tc main_v12) = maxOfRows (V (Proc.devRef (τ := τ) .tc main_v11)) := by
  unfold afterMax; rw [Function.update_self]
/-- Only the call's result changes. -/
theorem afterMax_of_ne (V : Valuation τ sig (Elt F)) {b : DevRef τ sig} (h : b ≠ Proc.devRef (τ := τ) .tc main_v12) :
    afterMax V b = V b := Function.update_of_ne h _ _

/-- The call's data on every device, from what the buffers hold at its start. -/
def dats (V : Dev nD → Valuation τ sig (Elt F)) : (p : Fin 1) → (c : Dev nD) → Dat τ (Elt F) (HIx 1) ℕ UU ℕ (pin (pcfgs (F := F)) adm p) c :=
  fun _ c => maxDat (fun c => V c (Proc.devRef (τ := τ) .tc main_v11)) (fun c => V c (Proc.devRef (τ := τ) .tc main_v12)) c

/-- The call's region: entered holding the two arrays, left holding them after it. -/
def maxSeg (V : Dev nD → Valuation τ sig (Elt F)) (X : Dev nD → sProp 𝕄) :
    RegionSeg (pcfgs (F := F)) adm (dats V) none (defs₀ (F := F)) 𝒱₀ (K (F := F)).L (K (F := F)).lev 0 :=
  RegionSeg.ofHeld (pcfgs (F := F)) adm (dats V) none (defs₀ (F := F)) 𝒱₀ (K (F := F)).L (K (F := F)).lev 0 (fun _ => 0)
    (fun _ => iprop(emp)) (fun _ => iprop(emp)) (Pipeline.LaunchFacts.toP launch1) rfl
    (fun c => (max_obligation _ _ c).loose) (fun _ _ => rfl) (fun _ => rfl)
    (fun _ w => match w with | ⟨0, _⟩ => rfl | ⟨1, _⟩ => rfl)
    (fun c => show iprop(Pipeline.scopedRest spec1 c ∗ emp) ⊢ Pipeline.scopedRest spec1 c from sep_elim_left)
    (fun c => show Pipeline.scopedRest spec1 c ⊢ iprop(Pipeline.scopedRest spec1 c ∗ emp) by
      iintro H; isplitl [H]; · iexact H
      iempintro)
    (fun _ => 0) ⟨fun _ _ _ => Finset.mem_univ _, fun _ _ _ => le_refl _, fun _ _ _ h => absurd h (lt_irrefl 0)⟩ X
    V (fun c => afterMax (V c))
    (fun c w => match w with | ⟨0, _⟩ => rfl | ⟨1, _⟩ => rfl)
    (fun c w => match w with
      | ⟨0, _⟩ => by
        refine ((dats V 0 c).arrAt_in 0 rfl _).trans ?_
        exact (afterMax_table (V c)).symm
      | ⟨1, _⟩ => (arrAt_max _ _ c).trans (afterMax_max (V c)).symm)

/-- The ghost state the call's pipeline starts from. -/
def pipeGhost (c : Dev nD) : sProp 𝕄 :=
  iprop(Pipeline.cellsGhost (pin (pcfgs (F := F)) adm) EP 0 c ∗ Pipeline.toksInit (pin (pcfgs (F := F)) adm) EP 0 c)

/-- The call as a program over the pipeline's labels. -/
def callProg : Prog (TpuEff nD τ sig (Elt F) (ΛP (F := F)) .tc) PUnit := .op (.customCall (Pipeline.entry 0) ()) fun r => .ret r

/-- The call in the main program is the pipeline's call, read over the larger set of labels. -/
theorem call_lifted : (Prog.lift (.customCall (SparseCore.inner (Pipeline.entry 0)) ()) : Prog (TpuEff nD τ sig (Elt F) (SparseCore.Sig (ΛP (F := F)) 1) .tc) PUnit)
    = SparseCore.liftProg (callProg (F := F)) := rfl

variable [∀ e, Nonempty (Elt F e)]

/-- The call of the TensorCore's kernel, in the main program: from the two arrays held and the core owing nothing, to the result's array
holding the greatest rows. -/
theorem wp_call (c : Dev nD) (V : Valuation τ sig (Elt F)) {Q : PUnit → sProp 𝕄}
    {k : PUnit → Prog (TpuEff nD τ sig (Elt F) (SparseCore.Sig (ΛP (F := F)) 1) .tc) PUnit} :
    iprop(boundary (c.tc : Thread nD τ) ∗ StableHlo.held (c.tc : Thread nD τ) (Pipeline.arrRefs spec1) V
        ∗ (∃ W, owes (c.tc : Thread nD τ) 0 W) ∗ levAts (K (F := F)).L (K (F := F)).lev ∗ pipeGhost (F := F) c
        ∗ (iprop(boundary (c.tc : Thread nD τ) ∗ StableHlo.held (c.tc : Thread nD τ) (Pipeline.arrRefs spec1) (afterMax V)
            ∗ (∃ W, owes (c.tc : Thread nD τ) 0 W)) -∗ wp frame (wpE ((K (F := F)).defs (D (F := F))) 𝒱 (c.tc : Thread nD τ) none) Set.univ (k ⟨⟩) Q))
      ⊢ wp frame (wpE ((K (F := F)).defs (D (F := F))) 𝒱 (c.tc : Thread nD τ) none) Set.univ
          (Prog.lift (.customCall (SparseCore.inner (Pipeline.entry 0)) ()) >>= k) Q := by
  rw [wp_bind]
  rw [call_lifted]
  refine BI.Entails.trans ?_ ((K (F := F)).wp_liftProg (D (F := F)) 𝒱 (c.tc : Thread nD τ) Set.univ none callProg _)
  have h := RegionSeg.wp (pcfgs (F := F)) adm (dats fun _ => V) none cellOf_inj EP (defs₀ (F := F)) 𝒱₀ (K (F := F)).L (K (F := F)).lev
    (maxSeg (fun _ => V) fun _ => iprop(emp)) c none (fun u hu => nomatch hu)
    (fun r => (Prog.ret r : Prog (TpuEff nD τ sig (Elt F) (ΛP (F := F)) .tc) PUnit))
    (fun a => wp frame (wpE ((K (F := F)).defs (D (F := F))) 𝒱 (c.tc : Thread nD τ) none) Set.univ (k a) Q)
  refine BI.Entails.trans (show (iprop(boundary (c.tc : Thread nD τ) ∗ StableHlo.held (c.tc : Thread nD τ) (Pipeline.arrRefs spec1) V
        ∗ (∃ W, owes (c.tc : Thread nD τ) 0 W) ∗ levAts (K (F := F)).L (K (F := F)).lev ∗ pipeGhost (F := F) c
        ∗ (iprop(boundary (c.tc : Thread nD τ) ∗ StableHlo.held (c.tc : Thread nD τ) (Pipeline.arrRefs spec1) (afterMax V)
            ∗ (∃ W, owes (c.tc : Thread nD τ) 0 W)) -∗ wp frame (wpE ((K (F := F)).defs (D (F := F))) 𝒱 (c.tc : Thread nD τ) none) Set.univ (k ⟨⟩) Q)) : sProp 𝕄)
      ⊢ (iprop((iprop(boundary (c.tc : Thread nD τ) ∗ (StableHlo.held (c.tc : Thread nD τ) (Pipeline.arrRefs spec1) (afterMax V) ∗ emp ∗ emp ∗ ∃ W, owes (c.tc : Thread nD τ) 0 W))
            -∗ wp frame (wpE (D (F := F)) 𝒱 (c.tc : Thread nD τ) none) Set.univ (Prog.ret ⟨⟩)
                fun a => wp frame (wpE ((K (F := F)).defs (D (F := F))) 𝒱 (c.tc : Thread nD τ) none) Set.univ (k a) Q)
          ∗ boundary (c.tc : Thread nD τ)
          ∗ (StableHlo.held (c.tc : Thread nD τ) (Pipeline.arrRefs spec1) V ∗ emp ∗ emp ∗ ∃ W, owes (c.tc : Thread nD τ) 0 W)
          ∗ levAts (K (F := F)).L (K (F := F)).lev ∗ Pipeline.cellsGhost (pin (pcfgs (F := F)) adm) EP 0 c ∗ Pipeline.toksInit (pin (pcfgs (F := F)) adm) EP 0 c) : sProp 𝕄) from ?_) h
  iintro ⟨Hb, Hh, Hw, Hl, Hg, Hk⟩
  isplitl [Hk]
  · iintro ⟨Hb, Hh, -, -, Hw⟩
    rw [wp_ret]; imodintro
    iapply Hk
    isplitl [Hb]; · iexact Hb
    isplitl [Hh]; · iexact Hh
    iexact Hw
  isplitl [Hb]; · iexact Hb
  isplitl [Hh Hw]
  · isplitl [Hh]; · iexact Hh
    isplitr; · iempintro
    isplitr; · iempintro
    iexact Hw
  isplitl [Hl]; · iexact Hl
  unfold pipeGhost
  iexact Hg

end Cert.Steps
end
-- ==== Proof.Access.lean ====
module

public import proofs.«01_k».proof.Proof.Slots

@[expose] public section

noncomputable section

namespace Cert.Steps

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal
open Cert.KernelIdeal.Facts₀ Cert.KernelIdeal.Facts

variable {F : FTy → Type} [FloatOps F] [Facts]

local notation "𝕄" => MT nD τ sig (HIx 1) (Elt F) ℕ UU ℕ

variable (d : Dev nD) (i : grid0.Coords)

/-- A program that is done. -/
theorem wp_done {α : Type} (a : α) {Q : α → sProp 𝕄} :
    Q a ⊢ wp frame (wpE (defs₀ (F := F)) 𝒱₀ (thr d i) none) Set.univ (Prog.ret a : Prog (TileEff F i) α) Q := by
  iintro H
  rw [wp_ret]; imodintro
  iexact H

/-- A load of a part of an owned buffer: the part of what it holds. -/
theorem wp_peek {α : Type} {cs : CoreSpace} {s : Shape} {e : EltTy} {m : Memref sig (thr d i).2.kind cs s e} {r : Rect s}
    {hl : m.view.LoadsAt r.toLoadRect} {k : (r.shape.Idx → Elt F e) → Prog (TileEff F i) α} {Q : α → sProp 𝕄} {q : PosShare TreeShare} {X : Vec F s e} :
    (owns (thr d i) m q X : sProp 𝕄) ⊢ iprop((owns (thr d i) m q X -∗ wp frame (wpE (defs₀ (F := F)) 𝒱₀ (thr d i) none) Set.univ (k fun y => X (r.emb y)) Q)
      -∗ wp frame (wpE (defs₀ (F := F)) 𝒱₀ (thr d i) none) Set.univ (.op (.load m r.toLoadRect hl) k) Q) := by
  unfold owns
  iintro ⟨%f, %hf, H⟩ Hk
  iapply (wp_load_rect 𝒱₀ (thr d i) none Set.univ (m := m) (r := r) (S := m.view.set) (f := f) (q := q) (m.view.set_slice_subset r)) $$ H
  iintro H
  subst hf
  iapply Hk
  iexists f; isplitr; · ipureintro; rfl
  iexact H

/-- A store into a part of an owned buffer. -/
theorem wp_poke {α : Type} {cs : CoreSpace} {s : Shape} {e : EltTy} {m : Memref sig (thr d i).2.kind cs s e} {r : Rect s} {w : r.shape.Idx → Elt F e}
    {hx : (m.access r).Stores Finset.univ} {hm : (Finset.univ : Finset r.shape.Idx) = Finset.univ ∨ ∀ a, r.stride a = 1}
    {k : PUnit → Prog (TileEff F i) α} {Q : α → sProp 𝕄} {X : Vec F s e} :
    (owns (thr d i) m fullShare X : sProp 𝕄) ⊢ iprop((owns (thr d i) m fullShare (r.overlay X w) -∗ wp frame (wpE (defs₀ (F := F)) 𝒱₀ (thr d i) none) Set.univ (k ⟨⟩) Q)
      -∗ wp frame (wpE (defs₀ (F := F)) 𝒱₀ (thr d i) none) Set.univ (.op (.store m r w Finset.univ hx hm) k) Q) := by
  unfold owns
  iintro ⟨%f, %hf, H⟩ Hk
  iapply (wp_store 𝒱₀ (thr d i) none Set.univ (m := m) (r := r) (S := m.view.set) (f := f) (m.view.set_slice_subset r)) $$ H
  iintro H
  iapply Hk
  iexists ((m.access r).write (Elt F) f w Finset.univ)
  isplitr
  · ipureintro
    funext j
    by_cases hj : j ∈ r.set
    · obtain ⟨y, rfl⟩ := r.exists_idx_of_mem hj
      exact (View.read_slice_write_emb (v := m.view) r f w (Finset.mem_univ y)).trans (Rect.overlay_emb r X w y).symm
    · refine (View.read_slice_write_of_not_mem (v := m.view) r f w Finset.univ ?_).trans ((congrFun hf j).trans (Rect.overlay_of_not_mem r X w hj).symm)
      rw [Rect.map_emb_univ]; exact hj
  iexact H

/-- The whole of a memref covers the memref's own set. -/
theorem set_access_whole {κ : Kind} {sp : Space} {s : Shape} {e : EltTy} (m : Memref sig κ sp s e) : (m.access (.whole s)).set = m.view.set := by
  show (m.view.slice _).set = _
  rw [View.set_slice, Rect.set_whole]; rfl

/-- Reading the whole of a memref is reading the memref. -/
theorem read_access_all {κ : Kind} {sp : Space} {s : Shape} {e : EltTy} (m : Memref sig κ sp s e) (f : m.view.ty.Contents (Elt F)) :
    (m.access (.whole s)).read (Elt F) f = m.view.read (Elt F) f := by
  funext x
  show m.view.read (Elt F) f ((Rect.whole s).emb x) = _
  rw [Rect.emb_whole_apply]

/-- A gather from an owned buffer. -/
theorem wp_gather {α : Type} {s t : Shape} {e : EltTy} {m : Memref sig (thr d i).2.kind .vmem s e} {idxs : Fin s.rank → IVec t 32}
    {h : ∀ a x, (idxs a x).toNat < s.size a} {hl : m.view.Loads} {k : Vec F t e → Prog (TileEff F i) α} {Q : α → sProp 𝕄} {q : PosShare TreeShare} {X : Vec F s e} :
    (owns (thr d i) m q X : sProp 𝕄) ⊢ iprop((owns (thr d i) m q X -∗ wp frame (wpE (defs₀ (F := F)) 𝒱₀ (thr d i) none) Set.univ (k (loadIdx X idxs h)) Q)
      -∗ wp frame (wpE (defs₀ (F := F)) 𝒱₀ (thr d i) none) Set.univ (SparseCore.vectorLoadIdx m idxs h hl >>= k) Q) := by
  unfold owns
  iintro ⟨%f, %hf, H⟩ Hk
  iapply (SparseCore.wp_vectorLoadIdx 𝒱₀ (thr d i) none Set.univ (base := m) (S := m.view.set) (f := f) (q := q) (set_access_whole m).subset) $$ H
  iintro H
  rw [read_access_all, hf]
  iapply Hk
  iexists f; isplitr; · ipureintro; exact hf
  iexact H

/-- A scatter into an owned buffer. -/
theorem wp_scatter {α : Type} {s : Shape} {e : EltTy} {dd : Fin 1 → ℕ} {m : Memref sig (thr d i).2.kind .vmem s e} {idxs : Fin s.rank → IVec ⟨1, dd⟩ 32} {v : Vec F ⟨1, dd⟩ e}
    {mask : IVec ⟨1, dd⟩ 1} {add : Bool} {h : ∀ a x, (idxs a x).toNat < s.size a} {hs : (m.access (.whole s)).Stores Finset.univ}
    {k : PUnit → Prog (TileEff F i) α} {Q : α → sProp 𝕄} {X : Vec F s e} :
    (owns (thr d i) m fullShare X : sProp 𝕄) ⊢ iprop((owns (thr d i) m fullShare (storeIdx X idxs v mask add h)
        -∗ wp frame (wpE (defs₀ (F := F)) 𝒱₀ (thr d i) none) Set.univ (k ⟨⟩) Q)
      -∗ wp frame (wpE (defs₀ (F := F)) 𝒱₀ (thr d i) none) Set.univ (SparseCore.vectorStoreIdx m idxs v mask add h hs >>= k) Q) := by
  unfold owns
  iintro ⟨%f, %hf, H⟩ Hk
  ihave H := (Entails.of_eq (congrArg (fun I => ((m.view.loc (thr d i) ↦[I]{fullShare} f : sProp 𝕄))) (set_access_whole m).symm)) $$ H
  iapply (SparseCore.wp_vectorStoreIdx 𝒱₀ (thr d i) none Set.univ (base := m) (f := f) (v := v) (mask := mask) (add := add) (h := h) (hs := hs)) $$ H
  iintro H
  iapply Hk
  iexists ((m.access (.whole s)).write (Elt F) f (storeIdx ((m.access (.whole s)).read (Elt F) f) idxs v mask add h) Finset.univ)
  isplitr
  · ipureintro
    rw [← read_access_all, View.read_write_univ, read_access_all, hf]
  rw [← set_access_whole m]
  iexact H

end Cert.Steps
end
-- ==== Proof.Blocks.lean ====
module

public import proofs.«01_k».proof.Proof.Access

@[expose] public section

noncomputable section

namespace Cert.Steps

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal
open Cert.KernelIdeal.Facts₀ Cert.KernelIdeal.Facts

variable {F : FTy → Type} [FloatOps F] [Facts]

local notation "𝕄" => MT nD τ sig (HIx 1) (Elt F) ℕ UU ℕ

/-- The segments of the sixteen rows from `n`. -/
def ixR (X : Cols F) (n : ℕ) : Vec F S16 .i32 := fun l => X.ix (rowIdx (n + (l 0).val))
/-- The values of the sixteen rows from `n`. -/
def xR (w : Weights F) (X : Cols F) (n : ℕ) : FVec F S16 .f32 := fun l => rowX w X l (rowIdx (n + (l 0).val))

/-- Every row's segment is one of the 4096. -/
def InRange (X : Cols F) : Prop := ∀ n, (X.ix n : BitVec 32).toNat < 4096

/-- Segment numbers in range name cells of the table, one in each lane's row. -/
theorem chk_of {X : Cols F} (hX : InRange X) (n : ℕ) : k0_chk1 lanes (ixR X n) := by
  have h : ∀ a x, ((![lanes, ixR X n] : Fin 2 → IVec S16 32) a x).toNat < S16x4096.size a := by
    intro a x
    match a with
    | 0 =>
      have hx : (x 0).val < 16 := (x 0).isLt
      show (BitVec.ofNat 32 (0 * 16 + (x 0).val)).toNat < 16
      rw [BitVec.toNat_ofNat]; omega
    | 1 => exact hX _
  exact ⟨h, h⟩

/-- Sixteen words of a block's first third are sixteen rows of the first column. -/
theorem tv_part0 (X : Cols F) (t s n : ℕ) (hn : n + 16 ≤ 2000) (off : Fin 1 → ℕ) (ho : off = ![n]) (inb : ∀ a, off a + S16.size a ≤ S6000.size a) :
    (fun y => tvX X t s ((Rect.unit (s := S6000) off S16.size inb).emb y)) = fun y : S16.Idx => X.t0 (rowIdx (50000 * t + 2000 * s + n + (y 0).val)) := by
  subst ho
  funext y
  have hy : (y 0).val < 16 := (y 0).isLt
  have he : (((Rect.unit (s := S6000) ![n] S16.size inb).emb y) 0).val = n + 1 * (y 0).val := rfl
  unfold tvX
  rw [if_pos (by rw [he]; omega), he]
  exact congrArg (fun z => X.t0 (rowIdx z)) (by omega)

/-- Sixteen words of a block's second third are sixteen rows of the second column. -/
theorem tv_part1 (X : Cols F) (t s n : ℕ) (hn : n + 16 ≤ 2000) (off : Fin 1 → ℕ) (ho : off = ![n + 2000]) (inb : ∀ a, off a + S16.size a ≤ S6000.size a) :
    (fun y => tvX X t s ((Rect.unit (s := S6000) off S16.size inb).emb y)) = fun y : S16.Idx => X.t1 (rowIdx (50000 * t + 2000 * s + n + (y 0).val)) := by
  subst ho
  funext y
  have hy : (y 0).val < 16 := (y 0).isLt
  have he : (((Rect.unit (s := S6000) ![n + 2000] S16.size inb).emb y) 0).val = n + 2000 + 1 * (y 0).val := rfl
  unfold tvX
  rw [if_neg (by rw [he]; omega), if_pos (by rw [he]; omega), he]
  exact congrArg (fun z => X.t1 (rowIdx z)) (by omega)

/-- Sixteen words of a block's last third are sixteen rows of the third column. -/
theorem tv_part2 (X : Cols F) (t s n : ℕ) (hn : n + 16 ≤ 2000) (off : Fin 1 → ℕ) (ho : off = ![n + 4000]) (inb : ∀ a, off a + S16.size a ≤ S6000.size a) :
    (fun y => tvX X t s ((Rect.unit (s := S6000) off S16.size inb).emb y)) = fun y : S16.Idx => X.t2 (rowIdx (50000 * t + 2000 * s + n + (y 0).val)) := by
  subst ho
  funext y
  have hy : (y 0).val < 16 := (y 0).isLt
  have he : (((Rect.unit (s := S6000) ![n + 4000] S16.size inb).emb y) 0).val = n + 4000 + 1 * (y 0).val := rfl
  unfold tvX
  rw [if_neg (by rw [he]; omega), if_neg (by rw [he]; omega), he]
  exact congrArg (fun z => X.t2 (rowIdx z)) (by omega)

/-- Sixteen words of a block of the votes or the segments are sixteen rows of that array. -/
theorem blk_part {e : EltTy} (x : Vec F S1600000 e) (t s n : ℕ) (off : Fin 1 → ℕ) (ho : off = ![n]) (inb : ∀ a, off a + S16.size a ≤ S2000.size a) :
    (fun y => blkX x t s ((Rect.unit (s := S2000) off S16.size inb).emb y)) = fun y : S16.Idx => x (rowIdx (50000 * t + 2000 * s + n + (y 0).val)) := by
  subst ho
  funext y
  have he : (((Rect.unit (s := S2000) ![n] S16.size inb).emb y) 0).val = n + 1 * (y 0).val := rfl
  unfold blkX
  rw [he]
  exact congrArg (fun z => x (rowIdx z)) (by omega)

variable (d : Dev nD) (i : grid0.Coords)

/-- What a slot's three buffers hold of block `s`. -/
def held (b : Slot) (X : Cols F) (s : ℕ) : sProp 𝕄 :=
  iprop(owns (thr d i) b.tv fullShare (tvX X (wid i) s) ∗ owns (thr d i) b.vv fullShare (blkX X.vo (wid i) s) ∗ owns (thr d i) b.iv fullShare (blkX X.ix (wid i) s))

/-- Reading sixteen rows. -/
theorem wp_readRows {α : Type} (b : Slot) (X : Cols F) (hX : InRange X) (w : Weights F) (s : ℕ) (u : Fin k0_t2_loop.trips) (q : Fin 5)
    {k : (Σ' (ix : Vec F S16 .i32) (_ : k0_chk1 lanes ix), FVec F S16 .f32) → Prog (TileEff F i) α} {Q : α → sProp 𝕄} :
    (held d i b X s : sProp 𝕄) ⊢ iprop((held d i b X s -∗ wp frame (wpE (defs₀ (F := F)) 𝒱₀ (thr d i) none) Set.univ
        (k ⟨ixR X (50000 * wid i + 2000 * s + (80 * u.val + 16 * q.val)), chk_of hX _, xR w X (50000 * wid i + 2000 * s + (80 * u.val + 16 * q.val))⟩) Q)
      -∗ wp frame (wpE (defs₀ (F := F)) 𝒱₀ (thr d i) none) Set.univ (readRows i b lanes w u q >>= k) Q) := by
  have hu : u.val < 25 := trips2 ▸ u.isLt
  have hq := q.isLt
  have hn : 80 * u.val + 16 * q.val + 16 ≤ 2000 := by omega
  unfold held
  iintro ⟨H0, H1, H2⟩ Hk
  iapply (wp_peek d i (m := b.tv) (r := Rect.unit (s := S6000) (k0_off18 u (BitVec.ofNat 32 (16 * q.val))) S16.size (k0_off18_inb u q))) $$ H0
  iintro H0
  rw [tv_part0 X _ _ _ hn _ (off18_eq u q)]
  iapply (wp_peek d i (m := b.tv) (r := Rect.unit (s := S6000) (k0_off19 u 2000#32 (BitVec.ofNat 32 (16 * q.val))) S16.size (k0_off19_inb u 0 q))) $$ H0
  iintro H0
  rw [tv_part1 X _ _ _ hn _ (off19_eq u q 2000 (by decide))]
  iapply (wp_peek d i (m := b.tv) (r := Rect.unit (s := S6000) (k0_off19 u 4000#32 (BitVec.ofNat 32 (16 * q.val))) S16.size (k0_off19_inb u 1 q))) $$ H0
  iintro H0
  rw [tv_part2 X _ _ _ hn _ (off19_eq u q 4000 (by decide))]
  iapply (wp_peek d i (m := b.vv) (r := Rect.unit (s := S2000) (k0_off20 u (BitVec.ofNat 32 (16 * q.val))) S16.size (k0_off20_inb u q))) $$ H1
  iintro H1
  rw [blk_part X.vo _ _ _ _ (off20_eq u q)]
  iapply (wp_peek d i (m := b.iv) (r := Rect.unit (s := S2000) (k0_off20 u (BitVec.ofNat 32 (16 * q.val))) S16.size (k0_off20_inb u q))) $$ H2
  iintro H2
  rw [blk_part X.ix _ _ _ _ (off20_eq u q)]
  iapply (wp_assume 𝒱₀ (thr d i) none Set.univ (chk_of hX (50000 * wid i + 2000 * s + (80 * u.val + 16 * q.val))))
  iapply Hk
  isplitl [H0]; · iexact H0
  isplitl [H1]; · iexact H1
  iexact H2

/-- Sixteen rows put into a table of maxima. -/
theorem put_table (w : Weights F) (X : Cols F) (t k : ℕ) (hX : InRange X) (h₁ h₂) :
    storeIdx (d := ![16]) (tableAt t w X k) ![lanes, ixR X (50000 * t + 16 * k)] (maximumf (loadIdx (tableAt t w X k) ![lanes, ixR X (50000 * t + 16 * k)] h₁) (xR w X (50000 * t + 16 * k))) (fun _ => 1#1) false h₂
      = tableAt t w X (k + 1) := by
  rw [put_eq]
  funext j
  have hj : (j 0).val < 16 := (j 0).isLt
  have hl : ((laneIdx (j 0).val) 0).val = (j 0).val := Nat.mod_eq_of_lt hj
  show (if ((X.ix (rowIdx (50000 * t + 16 * k + ((laneIdx (j 0).val) 0).val)) : BitVec 32)).toNat = (j 1).val then
    FloatOps.maximumf (tableAt t w X k j) (rowX w X (laneIdx (j 0).val) (rowIdx (50000 * t + 16 * k + ((laneIdx (j 0).val) 0).val))) else tableAt t w X k j) = _
  rw [hl]
  rfl

/-- Sixteen rows' values put into the table. -/
theorem wp_putRows {α : Type} (acc : Memref sig .scVector .vmem S16x4096 .f32) (X : Cols F) (hX : InRange X) (w : Weights F) (k n : ℕ) (hn : n = 50000 * wid i + 16 * k)
    (h : k0_chk1 lanes (ixR X n)) {kk : PUnit → Prog (TileEff F i) α} {Q : α → sProp 𝕄} :
    (owns (thr d i) acc fullShare (tableAt (wid i) w X k) : sProp 𝕄) ⊢ iprop((owns (thr d i) acc fullShare (tableAt (wid i) w X (k + 1))
        -∗ wp frame (wpE (defs₀ (F := F)) 𝒱₀ (thr d i) none) Set.univ (kk ⟨⟩) Q)
      -∗ wp frame (wpE (defs₀ (F := F)) 𝒱₀ (thr d i) none) Set.univ (putRows i acc lanes ⟨ixR X n, h, xR w X n⟩ >>= kk) Q) := by
  subst hn
  iintro H Hk
  unfold putRows
  rw [Prog.bind_assoc]
  iapply (wp_gather d i (m := acc)) $$ H
  iintro H
  iapply (wp_scatter d i (m := acc)) $$ H
  iintro H
  iapply Hk
  rw [← put_table w X (wid i) k hX]
  iexact H

/-- One trip over a block. -/
theorem wp_tripBody (b : Slot) (acc : Memref sig .scVector .vmem S16x4096 .f32) (X : Cols F) (hX : InRange X) (w : Weights F) (s : ℕ) (u : Fin k0_t2_loop.trips) :
    iprop(held d i b X s ∗ owns (thr d i) acc fullShare (tableAt (wid i) w X (125 * s + 5 * u.val)))
      ⊢ wp frame (wpE (defs₀ (F := F)) 𝒱₀ (thr d i) none) Set.univ (tripBody i b acc lanes w u)
          (fun _ => iprop(held d i b X s ∗ owns (thr d i) acc fullShare (tableAt (wid i) w X (125 * s + 5 * (u.val + 1))))) := by
  iintro ⟨Hb, Ha⟩
  unfold tripBody
  iapply (wp_readRows d i b X hX w s u 0) $$ Hb
  iintro Hb
  iapply (wp_readRows d i b X hX w s u 1) $$ Hb
  iintro Hb
  iapply (wp_readRows d i b X hX w s u 2) $$ Hb
  iintro Hb
  iapply (wp_readRows d i b X hX w s u 3) $$ Hb
  iintro Hb
  iapply (wp_readRows d i b X hX w s u 4) $$ Hb
  iintro Hb
  iapply (wp_putRows d i acc X hX w (125 * s + 5 * u.val) _ (by show _ + _ + (_ + 16 * 0) = _; omega)) $$ Ha
  iintro Ha
  iapply (wp_putRows d i acc X hX w (125 * s + 5 * u.val + 1) _ (by show _ + _ + (_ + 16 * 1) = _; omega)) $$ Ha
  iintro Ha
  iapply (wp_putRows d i acc X hX w (125 * s + 5 * u.val + 1 + 1) _ (by show _ + _ + (_ + 16 * 2) = _; omega)) $$ Ha
  iintro Ha
  iapply (wp_putRows d i acc X hX w (125 * s + 5 * u.val + 1 + 1 + 1) _ (by show _ + _ + (_ + 16 * 3) = _; omega)) $$ Ha
  iintro Ha
  iapply (wp_putRows d i acc X hX w (125 * s + 5 * u.val + 1 + 1 + 1 + 1) _ (by show _ + _ + (_ + 16 * 4) = _; omega)) $$ Ha
  iintro Ha
  rw [wp_pure]; imodintro
  isplitl [Hb]; · iexact Hb
  iexact Ha

/-- The loop over a block. -/
theorem wp_blockLoop {α : Type} (b : Slot) (acc : Memref sig .scVector .vmem S16x4096 .f32) (X : Cols F) (hX : InRange X) (w : Weights F) (s : ℕ)
    {kk : BitVec 32 → Prog (TileEff F i) α} {Q : α → sProp 𝕄} :
    iprop(held d i b X s ∗ owns (thr d i) acc fullShare (tableAt (wid i) w X (125 * s)))
      ⊢ iprop((∀ a, iprop(held d i b X s ∗ owns (thr d i) acc fullShare (tableAt (wid i) w X (125 * (s + 1)))) -∗ wp frame (wpE (defs₀ (F := F)) 𝒱₀ (thr d i) none) Set.univ (kk a) Q)
        -∗ wp frame (wpE (defs₀ (F := F)) 𝒱₀ (thr d i) none) Set.univ (blockLoop i b acc lanes w >>= kk) Q) := by
  have h := Scf.wp_for_bind frame (wpE (defs₀ (F := F)) 𝒱₀ (thr d i) none) Set.univ k0_t2_loop.lb k0_t2_loop.ub k0_t2_loop.st k0_t2_ok (0#32 : BitVec 32)
    (fun u _ => tripBody i b acc lanes w u)
    (fun n _ => iprop(held d i b X s ∗ owns (thr d i) acc fullShare (tableAt (wid i) w X (125 * s + 5 * n))))
    (fun u _ => wp_tripBody d i b acc X hX w s u) (kk := kk) (Q := Q)
  have e : tableAt (wid i) w X (125 * s + 5 * Scf.trips k0_t2_loop.lb k0_t2_loop.ub k0_t2_loop.st) = tableAt (wid i) w X (125 * (s + 1)) :=
    congrArg (tableAt (wid i) w X) (by rw [show Scf.trips k0_t2_loop.lb k0_t2_loop.ub k0_t2_loop.st = 25 from trips2]; omega)
  rw [e] at h
  exact h

end Cert.Steps
end
-- ==== Proof.Table.lean ====
module

public import proofs.«01_k».proof.Proof.Blocks
public import Idealize.ShloMosaic.Lib.Pipeline.Value

@[expose] public section

noncomputable section

namespace Cert.Steps

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal
open Cert.KernelIdeal.Facts₀ Cert.KernelIdeal.Facts

variable {F : FTy → Type} [FloatOps F] [Facts]

local notation "𝕄" => MT nD τ sig (HIx 1) (Elt F) ℕ UU ℕ

/-- What a rectangle's cell of an overlaid table holds, and what a cell outside holds. -/
theorem overlay_cases {s : Shape} {α : Type} (r : Rect s) (X : s.Idx → α) (w : r.shape.Idx → α) (j : s.Idx) :
    (j ∈ r.set ∧ ∃ y, r.emb y = j ∧ r.overlay X w j = w y) ∨ (j ∉ r.set ∧ r.overlay X w j = X j) := by
  by_cases hj : j ∈ r.set
  · obtain ⟨y, rfl⟩ := r.exists_idx_of_mem hj
    exact .inl ⟨hj, y, rfl, Rect.overlay_emb r X w y⟩
  · exact .inr ⟨hj, Rect.overlay_of_not_mem r X w hj⟩

/-- Which cells lie in sixteen words of a row. -/
theorem mem_rowPart (u : Fin k0_t1_loop.trips) (r : ℕ) (hr : r < 16) (j : S16x4096.Idx) :
    j ∈ (Rect.unit (s := S16x4096) (rowPart u r) S1x16.size (rowPart_inb u r hr)).set ↔ (j 0).val = r ∧ 16 * u.val ≤ (j 1).val ∧ (j 1).val < 16 * u.val + 16 := by
  refine Rect.mem_set_unit.trans ?_
  rw [rowPart_eq]
  constructor
  · intro h
    have h0 : r ≤ (j 0).val ∧ (j 0).val < r + 1 := h 0
    have h1 : 16 * u.val ≤ (j 1).val ∧ (j 1).val < 16 * u.val + 16 := h 1
    omega
  · rintro ⟨h0, h1, h2⟩ a
    match a with
    | 0 => exact (show r ≤ (j 0).val ∧ (j 0).val < r + 1 by omega)
    | 1 => exact (show 16 * u.val ≤ (j 1).val ∧ (j 1).val < 16 * u.val + 16 by omega)

variable (d : Dev nD) (i : grid0.Coords)

/-- The table at the least value in the first `16 u` columns, and in the next sixteen in the first `r` rows. -/
def Filled (u r : ℕ) (Y : Vec F S16x4096 .f32) : Prop :=
  ∀ j : S16x4096.Idx, ((j 1).val < 16 * u ∨ ((j 1).val < 16 * u + 16 ∧ (j 0).val < r)) → Y j = Scalar.ofBits (F := F) .f32 0xFF800000#32

/-- Filling rows `r …` of sixteen columns. -/
theorem wp_fillRows (acc : Memref sig .scVector .vmem S16x4096 .f32) (u : Fin k0_t1_loop.trips) :
    ∀ (n r : ℕ) (h : r + n = 16) (Y : Vec F S16x4096 .f32) (_ : Filled u.val r Y),
    (owns (thr d i) acc fullShare Y : sProp 𝕄)
      ⊢ wp frame (wpE (defs₀ (F := F)) 𝒱₀ (thr d i) none) Set.univ (fillRows i acc ninf u n r h)
          (fun _ => iprop(∃ Y, ⌜Filled (u.val + 1) 0 Y⌝ ∗ owns (thr d i) acc fullShare Y))
  | 0, r, h, Y, hY => by
    iintro H
    unfold fillRows
    rw [wp_pure]; imodintro
    iexists Y; isplitr
    · ipureintro
      intro j hj
      have h0 : (j 0).val < 16 := (j 0).isLt
      exact hY j (by omega)
    iexact H
  | n + 1, r, h, Y, hY => by
    iintro H
    unfold fillRows
    iapply (wp_peek d i (m := acc) (r := Rect.unit (s := S16x4096) (rowPart u r) S1x16.size (rowPart_inb u r (by omega)))) $$ H
    iintro H
    iapply (wp_poke d i (m := acc) (r := Rect.unit (s := S16x4096) (rowPart u r) S1x16.size (rowPart_inb u r (by omega)))) $$ H
    iintro H
    iapply (wp_fillRows acc u n (r + 1) (by omega) _ ?_) $$ H
    intro j hj
    rcases overlay_cases (Rect.unit (s := S16x4096) (rowPart u r) S1x16.size (rowPart_inb u r (by omega))) Y (shapeCast S1x16 ninf shapeCasts_S16_S1x16) j with ⟨_, y, _, he⟩ | ⟨hj', he⟩
    · exact he
    · refine he.trans (hY j ?_)
      have := fun hh => hj' ((mem_rowPart u r (by omega) j).mpr hh)
      by_contra hc
      apply this
      omega

/-- Filling the table. -/
theorem wp_fillLoop {α : Type} (acc : Memref sig .scVector .vmem S16x4096 .f32) (w : Weights F) (X : Cols F)
    {kk : BitVec 32 → Prog (TileEff F i) α} {Q : α → sProp 𝕄} :
    (iprop(∃ Y, owns (thr d i) acc fullShare Y) : sProp 𝕄)
      ⊢ iprop((∀ a, owns (thr d i) acc fullShare (tableAt (wid i) w X 0) -∗ wp frame (wpE (defs₀ (F := F)) 𝒱₀ (thr d i) none) Set.univ (kk a) Q)
        -∗ wp frame (wpE (defs₀ (F := F)) 𝒱₀ (thr d i) none) Set.univ (fillLoop i acc ninf >>= kk) Q) := by
  have h := Scf.wp_for_bind frame (wpE (defs₀ (F := F)) 𝒱₀ (thr d i) none) Set.univ k0_t1_loop.lb k0_t1_loop.ub k0_t1_loop.st k0_t1_ok (0#32 : BitVec 32)
    (fun u _ => fillRows i acc ninf u 16 0 rfl)
    (fun n _ => iprop(∃ Y, ⌜Filled n 0 Y⌝ ∗ owns (thr d i) acc fullShare Y))
    (fun u _ => by
      iintro ⟨%Y, %hY, H⟩
      iapply (wp_fillRows d i acc u 16 0 rfl Y hY) $$ H) (kk := kk) (Q := Q)
  iintro ⟨%Y, H⟩ Hk
  iapply h $$ [H]
  · iexists Y; isplitr
    · ipureintro; intro j hj; omega
    iexact H
  iintro %a ⟨%Y', %hY', H⟩
  have e : Y' = tableAt (wid i) w X 0 := by
    funext j
    have h1 : (j 1).val < 4096 := (j 1).isLt
    refine hY' j (.inl ?_)
    rw [show Scf.trips k0_t1_loop.lb k0_t1_loop.ub k0_t1_loop.st = 256 from trips1]
    exact h1
  subst e
  iapply Hk $$ %a
  iexact H

/-- Row `r` of sixteen columns of a table. -/
theorem row_read (T : Vec F S16x4096 .f32) (u : Fin k0_t1_loop.trips) (r : ℕ) (hr : r < 16) :
    shapeCast S16 (fun y => T ((Rect.unit (s := S16x4096) (rowPart u r) S1x16.size (rowPart_inb u r hr)).emb y)) shapeCasts_S1x16_S16
      = fun l : S16.Idx => T (cellIdx r (16 * u.val + (l 0).val)) := by
  funext l
  have hu : u.val < 256 := trips1 ▸ u.isLt
  have hl : (l 0).val < 16 := (l 0).isLt
  refine (shapeCast_dropUnit_apply (![16] : Fin 1 → ℕ) _ shapeCasts_S1x16_S16 l).trans (congrArg T (funext fun a => ?_))
  have he := rowPart_eq u r
  match a with
  | 0 =>
    refine Fin.ext ?_
    show rowPart u r 0 + 1 * 0 = r % 16
    rw [he]
    show r + 1 * 0 = r % 16
    omega
  | 1 =>
    refine Fin.ext ?_
    show rowPart u r 1 + 1 * (l 0).val = (16 * u.val + (l 0).val) % 4096
    rw [he]
    show 16 * u.val + 1 * (l 0).val = (16 * u.val + (l 0).val) % 4096
    omega

/-- The greatest of the rows of sixteen columns. -/
theorem wp_maxRows {α : Type} (acc : Memref sig .scVector .vmem S16x4096 .f32) (T : Vec F S16x4096 .f32) (u : Fin k0_t1_loop.trips)
    {kk : FVec F S16 .f32 → Prog (TileEff F i) α} {Q : α → sProp 𝕄} :
    ∀ (n r : ℕ) (h : r + 1 + n = 16),
    (owns (thr d i) acc fullShare T : sProp 𝕄)
      ⊢ iprop((owns (thr d i) acc fullShare T -∗ wp frame (wpE (defs₀ (F := F)) 𝒱₀ (thr d i) none) Set.univ (kk fun l => foldRows T (16 * u.val + (l 0).val) 15) Q)
        -∗ wp frame (wpE (defs₀ (F := F)) 𝒱₀ (thr d i) none) Set.univ (maxRows i acc u n (r + 1) h (fun l => foldRows T (16 * u.val + (l 0).val) r) >>= kk) Q)
  | 0, r, h => by
    obtain rfl : r = 15 := by omega
    iintro H Hk
    unfold maxRows
    iapply Hk
    iexact H
  | n + 1, r, h => by
    iintro H Hk
    unfold maxRows
    iapply (wp_peek d i (m := acc) (r := Rect.unit (s := S16x4096) (rowPart u (r + 1)) S1x16.size (rowPart_inb u (r + 1) (by omega)))) $$ H
    iintro H
    iapply (Entails.of_eq (congrArg (fun z => wp frame (wpE (defs₀ (F := F)) 𝒱₀ (thr d i) none) Set.univ
      (maxRows i acc u n (r + 1 + 1) (by omega) (maximumf (fun l => foldRows T (16 * u.val + (l 0).val) r) z) >>= kk) Q) (row_read T u (r + 1) (by omega)).symm))
    iapply (wp_maxRows acc T u n (r + 1) (by omega)) $$ H
    iexact Hk

/-- The greatest of each column's rows, in the first `16 u` columns. -/
def Maxed (T : Vec F S16x4096 .f32) (u : ℕ) (Y : Vec F S4096 .f32) : Prop := ∀ j : S4096.Idx, (j 0).val < 16 * u → Y j = foldRows T (j 0).val 15

/-- Storing sixteen columns' values. -/
def maxTail (red : Memref sig .scVector .vmem S4096 .f32) (u : Fin k0_t27_loop.trips) (m : FVec F S16 .f32) : Prog (TileEff F i) (BitVec 32) := do
  let _ ← Prog.lift (.load red (Rect.unit (s := S4096) (k0_off110 u) S16.size (k0_off110_inb u)).toLoadRect (View.loadsAt_vmem h_S16))
  Prog.lift (.store red (Rect.unit (s := S4096) (k0_off110 u) S16.size (k0_off110_inb u)) m Finset.univ (View.stores_vmem_bits_univ h_S16 rfl) (.inl rfl))
  pure 0#32

/-- Sixteen columns' greatest values stored. -/
theorem wp_maxBody (acc : Memref sig .scVector .vmem S16x4096 .f32) (red : Memref sig .scVector .vmem S4096 .f32) (T : Vec F S16x4096 .f32) (u : Fin k0_t27_loop.trips)
    (Y : Vec F S4096 .f32) (hY : Maxed T u.val Y) :
    (iprop(owns (thr d i) acc fullShare T ∗ owns (thr d i) red fullShare Y) : sProp 𝕄)
      ⊢ wp frame (wpE (defs₀ (F := F)) 𝒱₀ (thr d i) none) Set.univ (maxBody i acc red u)
          (fun _ => iprop(owns (thr d i) acc fullShare T ∗ ∃ Y, ⌜Maxed T (u.val + 1) Y⌝ ∗ owns (thr d i) red fullShare Y)) := by
  iintro ⟨H, Hr⟩
  unfold maxBody
  iapply (wp_peek d i (m := acc) (r := Rect.unit (s := S16x4096) (rowPart u 0) S1x16.size (rowPart_inb u 0 (by omega)))) $$ H
  iintro H
  iapply (Entails.of_eq (congrArg (fun z => wp frame (wpE (defs₀ (F := F)) 𝒱₀ (thr d i) none) Set.univ
      (maxRows i acc u 15 1 rfl z >>= maxTail i red u) _) (row_read T u 0 (by omega)).symm))
  iapply (wp_maxRows d i acc T u 15 0 rfl) $$ H
  iintro H
  iapply (wp_peek d i (m := red) (r := Rect.unit (s := S4096) (k0_off110 u) S16.size (k0_off110_inb u))) $$ Hr
  iintro Hr
  iapply (wp_poke d i (m := red) (r := Rect.unit (s := S4096) (k0_off110 u) S16.size (k0_off110_inb u))) $$ Hr
  iintro Hr
  iapply (wp_done d i (0#32 : BitVec 32))
  isplitl [H]; · iexact H
  iexists _; isplitr
  swap; · iexact Hr
  ipureintro
  intro j hj
  rcases overlay_cases (Rect.unit (s := S4096) (k0_off110 u) S16.size (k0_off110_inb u)) Y (fun l => foldRows T (16 * u.val + (l 0).val) 15) j with ⟨_, y, hy, he⟩ | ⟨hj', he⟩
  · refine he.trans ?_
    have h1 : k0_off110 u 0 + 1 * (y 0).val = (j 0).val := congrArg Fin.val (congrFun hy 0)
    have h0 : k0_off110 u 0 = 16 * u.val := congrFun (off110_eq u) 0
    have h2 : 16 * u.val + (y 0).val = (j 0).val := by omega
    exact congrArg (fun g => foldRows T g 15) h2
  · refine he.trans (hY j ?_)
    by_contra hc
    refine hj' (Rect.mem_set_unit.mpr ?_)
    rw [off110_eq]
    intro a
    match a with
    | 0 => exact (show 16 * u.val ≤ (j 0).val ∧ (j 0).val < 16 * u.val + 16 by omega)

/-- The greatest of every column's rows. -/
theorem wp_maxLoop {α : Type} (acc : Memref sig .scVector .vmem S16x4096 .f32) (red : Memref sig .scVector .vmem S4096 .f32) (T : Vec F S16x4096 .f32)
    {kk : BitVec 32 → Prog (TileEff F i) α} {Q : α → sProp 𝕄} :
    (iprop(owns (thr d i) acc fullShare T ∗ ∃ Y, owns (thr d i) red fullShare Y) : sProp 𝕄)
      ⊢ iprop((∀ a, iprop(owns (thr d i) acc fullShare T ∗ owns (thr d i) red fullShare (fun j => foldRows T (j 0).val 15))
          -∗ wp frame (wpE (defs₀ (F := F)) 𝒱₀ (thr d i) none) Set.univ (kk a) Q)
        -∗ wp frame (wpE (defs₀ (F := F)) 𝒱₀ (thr d i) none) Set.univ (maxLoop i acc red >>= kk) Q) := by
  have h := Scf.wp_for_bind frame (wpE (defs₀ (F := F)) 𝒱₀ (thr d i) none) Set.univ k0_t27_loop.lb k0_t27_loop.ub k0_t27_loop.st k0_t27_ok (0#32 : BitVec 32)
    (fun u _ => maxBody i acc red u)
    (fun n _ => iprop(owns (thr d i) acc fullShare T ∗ ∃ Y, ⌜Maxed T n Y⌝ ∗ owns (thr d i) red fullShare Y))
    (fun u _ => by
      iintro ⟨H, %Y, %hY, Hr⟩
      iapply (wp_maxBody d i acc red T u Y hY)
      isplitl [H]; · iexact H
      iexact Hr) (kk := kk) (Q := Q)
  iintro ⟨H, %Y, Hr⟩ Hk
  iapply h $$ [H Hr]
  · isplitl [H]; · iexact H
    iexists Y; isplitr
    · ipureintro; intro j hj; omega
    iexact Hr
  iintro %a ⟨H, %Y', %hY', Hr⟩
  have e : Y' = fun j => foldRows T (j 0).val 15 := by
    funext j
    have h1 : (j 0).val < 4096 := (j 0).isLt
    refine hY' j ?_
    rw [show Scf.trips k0_t27_loop.lb k0_t27_loop.ub k0_t27_loop.st = 256 from trips27]
    exact h1
  subst e
  iapply Hk $$ %a
  isplitl [H]; · iexact H
  iexact Hr

end Cert.Steps
end
-- ==== Proof.Tile.lean ====
module

public import proofs.«01_k».proof.Proof.Table

@[expose] public section

noncomputable section

namespace Cert.Steps

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal
open Cert.KernelIdeal.Facts₀ Cert.KernelIdeal.Facts

variable {F : FTy → Type} [FloatOps F] [Facts]

local notation "𝕄" => MT nD τ sig (HIx 1) (Elt F) ℕ UU ℕ

variable (d : Dev nD) (i : grid0.Coords) (O : CellTallies nD τ sig (HIx 1)) (W : Waits sig (HIx 1))

/-- A landed block is its contents, to be read and given back. -/
theorem landed_split (S : Srcs) (b : Slot) (q : PosShare TreeShare) (X : Cols F) (s : ℕ) :
    (landed d i S b q X s : sProp 𝕄) ⊢ iprop(held d i b X s ∗ (held d i b X s -∗ landed d i S b q X s)) := by
  unfold landed held
  iintro ⟨H, H0, H1, H2, Hs⟩
  isplitl [H0 H1 H2]
  · isplitl [H0]; · iexact H0
    isplitl [H1]; · iexact H1
    iexact H2
  iintro ⟨H0, H1, H2⟩
  isplitl [H]; · iexact H
  isplitl [H0]; · iexact H0
  isplitl [H1]; · iexact H1
  isplitl [H2]; · iexact H2
  iexact Hs

/-- Waiting for a block and looping over it. -/
theorem wp_block {α : Type} (S : Srcs) (b : Slot) (q : PosShare TreeShare) (acc : Memref sig .scVector .vmem S16x4096 .f32) (X : Cols F) (hX : InRange X) (w : Weights F)
    (s : ℕ) (hs : s < 25) {kk : BitVec 32 → Prog (TileEff F i) α} {Q : α → sProp 𝕄} :
    iprop(flight d i S b q X s hs ∗ owns (thr d i) acc fullShare (tableAt (wid i) w X (125 * s)) ∗ owing d i O W ∗ Transfers.MayWaits (thr d i) none O)
      ⊢ iprop((∀ a, iprop(idle d i S b q X ∗ owns (thr d i) acc fullShare (tableAt (wid i) w X (125 * (s + 1))) ∗ owing d i O W)
          -∗ wp frame (wpE (defs₀ (F := F)) 𝒱₀ (thr d i) none) Set.univ (kk a) Q)
        -∗ wp frame (wpE (defs₀ (F := F)) 𝒱₀ (thr d i) none) Set.univ (drain i S b s hs >>= fun _ => blockLoop i b acc lanes w >>= kk) Q) := by
  iintro ⟨Hf, Ha, HO, #Hmw⟩ Hk
  iapply (wp_drain d i O W S b q X s hs) $$ [Hf HO]
  · isplitl [Hf]; · iexact Hf
    isplitl [HO]; · iexact HO
    iexact Hmw
  iintro ⟨Hl, HO⟩
  ihave Hl := (landed_split d i S b q X s) $$ Hl
  icases Hl with ⟨Hh, Hl⟩
  iapply (wp_blockLoop d i b acc X hX w s) $$ [Hh Ha]
  · isplitl [Hh]; · iexact Hh
    iexact Ha
  iintro %a ⟨Hh, Ha⟩
  iapply Hk $$ %a
  isplitl [Hl Hh]
  · iapply (landed_idle d i S b q X s)
    iapply Hl; iexact Hh
  isplitl [Ha]; · iexact Ha
  iexact HO

/-- What a tile holds between two blocks: one slot under way with block `s`, the other idle, and the table of the blocks before. -/
def between (S : Srcs) (cur nxt : Slot) (qc qn : PosShare TreeShare) (acc : Memref sig .scVector .vmem S16x4096 .f32) (X : Cols F) (w : Weights F)
    (s : ℕ) (hs : s < 25) : sProp 𝕄 :=
  iprop(flight d i S cur qc X s hs ∗ idle d i S nxt qn X ∗ owns (thr d i) acc fullShare (tableAt (wid i) w X (125 * s)) ∗ owing d i O W
    ∗ □ Transfers.MayWaits (thr d i) none O)

/-- One block: the slots change places. -/
theorem wp_round {α : Type} (S : Srcs) (cur nxt : Slot) (qc qn : PosShare TreeShare) (acc : Memref sig .scVector .vmem S16x4096 .f32) (X : Cols F) (hX : InRange X) (w : Weights F)
    (n s : ℕ) (h : s + (n + 1) = 24) {kk : PUnit → Prog (TileEff F i) α} {Q : α → sProp 𝕄} :
    between d i O W S cur nxt qc qn acc X w s (by omega)
      ⊢ iprop((between d i O W S nxt cur qn qc acc X w (s + 1) (by omega)
          -∗ wp frame (wpE (defs₀ (F := F)) 𝒱₀ (thr d i) none) Set.univ (rounds i S acc lanes w n (s + 1) (by omega) nxt cur >>= kk) Q)
        -∗ wp frame (wpE (defs₀ (F := F)) 𝒱₀ (thr d i) none) Set.univ (rounds i S acc lanes w (n + 1) s h cur nxt >>= kk) Q) := by
  unfold between
  iintro ⟨Hf, Hi, Ha, HO, #Hmw⟩ Hk
  rw [rounds]
  simp only [Prog.bind_assoc]
  iapply (wp_fire d i S nxt qn X (s + 1) _) $$ Hi
  iintro Hn
  iapply (wp_block d i O W S cur qc acc X hX w s _) $$ [Hf Ha HO]
  · isplitl [Hf]; · iexact Hf
    isplitl [Ha]; · iexact Ha
    isplitl [HO]; · iexact HO
    iexact Hmw
  iintro %a ⟨Hi, Ha, HO⟩
  iapply Hk
  isplitl [Hn]; · iexact Hn
  isplitl [Hi]; · iexact Hi
  isplitl [Ha]; · iexact Ha
  isplitl [HO]; · iexact HO
  imodintro; iexact Hmw

/-- An even number of blocks. -/
theorem wp_rounds {α : Type} (S : Srcs) (cur nxt : Slot) (qc qn : PosShare TreeShare) (acc : Memref sig .scVector .vmem S16x4096 .f32) (X : Cols F) (hX : InRange X) (w : Weights F)
    {kk : PUnit → Prog (TileEff F i) α} {Q : α → sProp 𝕄} :
    ∀ (n s : ℕ) (h : s + 2 * n = 24),
    between d i O W S cur nxt qc qn acc X w s (by omega)
      ⊢ iprop((between d i O W S cur nxt qc qn acc X w 24 (by omega)
          -∗ wp frame (wpE (defs₀ (F := F)) 𝒱₀ (thr d i) none) Set.univ (kk ⟨⟩) Q)
        -∗ wp frame (wpE (defs₀ (F := F)) 𝒱₀ (thr d i) none) Set.univ (rounds i S acc lanes w (2 * n) s h cur nxt >>= kk) Q)
  | 0, s, h => by
    obtain rfl : s = 24 := by omega
    iintro H Hk
    iapply Hk; iexact H
  | n + 1, s, h => by
    iintro H Hk
    iapply (wp_round d i O W S cur nxt qc qn acc X hX w (2 * n + 1) s _) $$ H
    iintro H
    iapply (wp_round d i O W S nxt cur qn qc acc X hX w (2 * n) (s + 1) _) $$ H
    iintro H
    iapply (wp_rounds S cur nxt qc qn acc X hX w n (s + 1 + 1) _) $$ H
    iexact Hk

/-- A copy and the wait for it: the destination holds what the source holds. -/
theorem wp_copy {α : Type} {sp sp' : Space} {s : Shape} {e : EltTy} {src : Memref sig (thr d i).2.kind sp s e} {dst : Memref sig (thr d i).2.kind sp' s e}
    {sem : DmaSem sig} {hsrc : src.view.WordExact} {hdst : dst.view.WordExact} {hsem : DmaTarget.Typed (nD := nD) sp (SemLoc.dma sem) (.here dst)}
    {hsrc' : src.view.WordExact} {hdst' : dst.view.WordExact}
    {k : PUnit → Prog (TileEff F i) α} {Q : α → sProp 𝕄} {q : PosShare TreeShare} {X : Vec F s e} (N : ℕ) (hN : dst.view.amount (.dma sem) = N) (hN' : dst.view.dmaCredit = N) (hN0 : 0 < N) :
    iprop(owns (thr d i) src q X ∗ (∃ Y, owns (thr d i) dst fullShare Y) ∗ semVal (thr d i, SemLoc.dma sem) 0 ∗ owing d i O W ∗ Transfers.MayWaits (thr d i) none O)
      ⊢ iprop((iprop(owns (thr d i) src q X ∗ owns (thr d i) dst fullShare X ∗ semVal (thr d i, SemLoc.dma sem) 0 ∗ owing d i O W)
          -∗ wp frame (wpE (defs₀ (F := F)) 𝒱₀ (thr d i) none) Set.univ (k ⟨⟩) Q)
        -∗ wp frame (wpE (defs₀ (F := F)) 𝒱₀ (thr d i) none) Set.univ
            (.op (.enqueueDma src (.here dst) (.dma sem) hsrc hdst hsem) fun _ => .op (.waitDma2 sem src dst hsrc' hdst') k) Q) := by
  iintro ⟨Hs, Hd, Hv, HO, #Hmw⟩ Hk
  imod (Transfers.batch_alloc' EC (thr d i) none N (fun _ : Fin 1 => iprop(owns (thr d i) dst fullShare X ∗ owns (thr d i) src q X))) $$ Hv with HB
  iapply (wp_issue d i (q := q) (X := X) (N := N) (D := fun _ : Fin 1 => iprop(owns (thr d i) dst fullShare X ∗ owns (thr d i) src q X)) (j := 0) hN (by decide) .rfl) $$ [Hs Hd HB]
  · isplitl [Hs]; · iexact Hs
    isplitl [Hd]; · iexact Hd
    iexact HB
  iintro HB
  iapply (wp_drain_last d i O W (N := N) (D := fun _ : Fin 1 => iprop(owns (thr d i) dst fullShare X ∗ owns (thr d i) src q X)) (u := 0) hN' hN0 (by omega)) $$ [HB HO]
  · isplitl [HB]; · iexact HB
    isplitl [HO]; · iexact HO
    iexact Hmw
  iintro ⟨HD, Hv, HO⟩
  ihave HD := (Entails.of_eq (bigSep_univ_of_subsingleton (M := 𝕄) (Φ := fun _ : Fin 1 => iprop(owns (thr d i) dst fullShare X ∗ owns (thr d i) src q X)) (0 : Fin 1))) $$ HD
  icases HD with ⟨Hd, Hs⟩
  iapply Hk
  isplitl [Hs]; · iexact Hs
  isplitl [Hd]; · iexact Hd
  isplitl [Hv]; · iexact Hv
  iexact HO

/-- Word `n` of the weights. -/
def wIdx (n : ℕ) : S80.Idx := fun a => match a with | 0 => ⟨n % 80, Nat.mod_lt _ (by decide)⟩

/-- The five weights' sixteen words each. -/
def weightsOf (wv : Vec F S80 .f32) : Weights F :=
  ⟨fun l => wv (wIdx (0 + (l 0).val)), fun l => wv (wIdx (16 + (l 0).val)), fun l => wv (wIdx (32 + (l 0).val)), fun l => wv (wIdx (48 + (l 0).val)),
    fun l => wv (wIdx (64 + (l 0).val))⟩

/-- Sixteen words of the spread array are one weight, lane by lane. -/
theorem weight_part (wv : Vec F S80 .f32) (n : ℕ) (hn : n + 16 ≤ 80) (inb : ∀ a, (![n] : Fin 1 → ℕ) a + S16.size a ≤ S80.size a) :
    (fun y => wv ((Rect.unit (s := S80) ![n] S16.size inb).emb y)) = fun l : S16.Idx => wv (wIdx (n + (l 0).val)) := by
  funext l
  refine congrArg wv (funext fun a => ?_)
  have hl : (l 0).val < 16 := (l 0).isLt
  match a with
  | 0 => exact Fin.ext (show n + 1 * (l 0).val = (n + (l 0).val) % 80 by omega)

/-- Reading the weights. -/
theorem wp_readWeights {α : Type} (wv : Memref sig .scVector .vmem S80 .f32) (X : Vec F S80 .f32) {k : Weights F → Prog (TileEff F i) α} {Q : α → sProp 𝕄} :
    (owns (thr d i) wv fullShare X : sProp 𝕄) ⊢ iprop((owns (thr d i) wv fullShare X -∗ wp frame (wpE (defs₀ (F := F)) 𝒱₀ (thr d i) none) Set.univ (k (weightsOf X)) Q)
      -∗ wp frame (wpE (defs₀ (F := F)) 𝒱₀ (thr d i) none) Set.univ (readWeights i wv >>= k) Q) := by
  iintro H Hk
  unfold readWeights
  iapply (wp_peek d i (m := wv) (r := Rect.unit (s := S80) ![0] S16.size inb_S80_S16_0)) $$ H
  iintro H
  iapply (wp_peek d i (m := wv) (r := Rect.unit (s := S80) ![16] S16.size inb_S80_S16_16)) $$ H
  iintro H
  iapply (wp_peek d i (m := wv) (r := Rect.unit (s := S80) ![32] S16.size inb_S80_S16_32)) $$ H
  iintro H
  iapply (wp_peek d i (m := wv) (r := Rect.unit (s := S80) ![48] S16.size inb_S80_S16_48)) $$ H
  iintro H
  iapply (wp_peek d i (m := wv) (r := Rect.unit (s := S80) ![64] S16.size inb_S80_S16_64)) $$ H
  iintro H
  rw [weight_part X 0 (by decide), weight_part X 16 (by decide), weight_part X 32 (by decide), weight_part X 48 (by decide), weight_part X 64 (by decide)]
  iapply Hk
  iexact H

/-- A tile's row of the result: every segment's greatest value among the tile's rows. -/
def tileOut (i : grid0.Coords) (WV : Vec F S80 .f32) (X : Cols F) : Vec F S4096 .f32 :=
  fun j => foldRows (tableAt (wid i) (weightsOf WV) X 3125) (j 0).val 15

/-- The tile's program: from the columns read and the weights, the tile's row of the result. -/
theorem wp_tile (S : Srcs) (wvh : Memref sig .scVector .hbm S80 .f32) (hwvh : wvh.IsWhole)
    (out : Memref sig .scVector .hbm S32x4096 .f32) (b0 b1 : Slot) (acc : Memref sig .scVector .vmem S16x4096 .f32)
    (red : Memref sig .scVector .vmem S4096 .f32) (hred : red.IsWhole) (wv : Memref sig .scVector .vmem S80 .f32) (hwv : wv.IsWhole)
    (sw so : DmaSem sig) (q0 q1 qw : PosShare TreeShare) (WV : Vec F S80 .f32) (X : Cols F) (hX : InRange X) :
    iprop(idle d i S b0 q0 X ∗ idle d i S b1 q1 X ∗ owns (thr d i) wvh qw WV ∗ (∃ Y, owns (thr d i) wv fullShare Y) ∗ (∃ Y, owns (thr d i) acc fullShare Y)
        ∗ (∃ Y, owns (thr d i) red fullShare Y) ∗ (∃ Y, owns (thr d i) (outRow i out) fullShare Y) ∗ semVal (thr d i, SemLoc.dma sw) 0 ∗ semVal (thr d i, SemLoc.dma so) 0
        ∗ owing d i O W ∗ Transfers.MayWaits (thr d i) none O)
      ⊢ wp frame (wpE (defs₀ (F := F)) 𝒱₀ (thr d i) none) Set.univ (tileProg i S wvh hwvh out b0 b1 acc red hred wv hwv sw so)
          (fun _ => iprop(idle d i S b0 q0 X ∗ idle d i S b1 q1 X ∗ owns (thr d i) wvh qw WV ∗ (∃ Y, owns (thr d i) wv fullShare Y) ∗ (∃ Y, owns (thr d i) acc fullShare Y)
            ∗ (∃ Y, owns (thr d i) red fullShare Y) ∗ owns (thr d i) (outRow i out) fullShare (tileOut i WV X) ∗ semVal (thr d i, SemLoc.dma sw) 0 ∗ semVal (thr d i, SemLoc.dma so) 0
            ∗ owing d i O W)) := by
  iintro ⟨H0, H1, Hwh, Hwv, Hacc, Hred, Hout, Hsw, Hso, HO, #Hmw⟩
  unfold tileProg
  iapply (wp_fire d i S b0 q0 X 0 _) $$ H0
  iintro H0
  iapply (wp_copy d i O W (src := wvh) (dst := wv) (sem := sw) (RefSig.bitCredit S80 .f32) rfl rfl (by decide)) $$ [Hwh Hwv Hsw HO]
  · isplitl [Hwh]; · iexact Hwh
    isplitl [Hwv]; · iexact Hwv
    isplitl [Hsw]; · iexact Hsw
    isplitl [HO]; · iexact HO
    iexact Hmw
  iintro ⟨Hwh, Hwv, Hsw, HO⟩
  iapply (wp_readWeights d i wv WV) $$ Hwv
  iintro Hwv
  iapply (wp_fillLoop d i acc (weightsOf WV) X) $$ Hacc
  iintro %a1 Hacc
  iapply (wp_rounds d i O W S b0 b1 q0 q1 acc X hX (weightsOf WV) 12 0 rfl) $$ [H0 H1 Hacc HO]
  · unfold between
    isplitl [H0]; · iexact H0
    isplitl [H1]; · iexact H1
    isplitl [Hacc]; · iexact Hacc
    isplitl [HO]; · iexact HO
    imodintro; iexact Hmw
  unfold between
  iintro ⟨H0, H1, Hacc, HO, -⟩
  iapply (wp_block d i O W S b0 q0 acc X hX (weightsOf WV) 24 _) $$ [H0 Hacc HO]
  · isplitl [H0]; · iexact H0
    isplitl [Hacc]; · iexact Hacc
    isplitl [HO]; · iexact HO
    iexact Hmw
  iintro %a2 ⟨H0, Hacc, HO⟩
  iapply (wp_maxLoop d i acc red) $$ [Hacc Hred]
  · isplitl [Hacc]; · iexact Hacc
    iexact Hred
  iintro %a3 ⟨Hacc, Hred⟩
  iapply (wp_copy d i O W (src := red) (dst := outRow i out) (sem := so) (RefSig.bitCredit S4096 .f32) rfl rfl (by decide)) $$ [Hred Hout Hso HO]
  · isplitl [Hred]; · iexact Hred
    isplitl [Hout]; · iexact Hout
    isplitl [Hso]; · iexact Hso
    isplitl [HO]; · iexact HO
    iexact Hmw
  iintro ⟨Hred, Hout, Hso, HO⟩
  iapply (wp_done d i PUnit.unit)
  isplitl [H0]; · iexact H0
  isplitl [H1]; · iexact H1
  isplitl [Hwh]; · iexact Hwh
  isplitl [Hwv]; · iexists _; iexact Hwv
  isplitl [Hacc]; · iexists _; iexact Hacc
  isplitl [Hred]; · iexists _; iexact Hred
  isplitl [Hout]; · iexact Hout
  isplitl [Hsw]; · iexact Hsw
  isplitl [Hso]; · iexact Hso
  iexact HO

end Cert.Steps
end
-- ==== Proof.Own.lean ====
module

public import proofs.«01_k».proof.Proof.Call
public import proofs.«01_k».proof.Proof.Tile

@[expose] public section

noncomputable section

namespace Cert.Steps

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.KernelIdeal
open Cert.KernelIdeal.Facts₀ Cert.KernelIdeal.Facts

variable {F : FTy → Type} [FloatOps F]

local notation "𝕄" => MT nD τ sig (HIx 1) (Elt F) ℕ UU ℕ

/-! ## A tile's own buffers and semaphores -/

/-- The nine buffers of a tile's memory. -/
def bufTab : Fin 9 → Ref sig .scVector
  | 0 => cc0_scratch0 | 1 => cc0_scratch1 | 2 => cc0_scratch2 | 3 => cc0_scratch3 | 4 => cc0_scratch4
  | 5 => cc0_scratch5 | 6 => cc0_scratch6 | 7 => cc0_scratch7 | 8 => cc0_scratch8

/-- The tile's buffers are different ones. -/
theorem bufTab_inj : Function.Injective bufTab := by decide

/-- Its four semaphores. -/
def semTab : Fin 4 → DmaSem sig
  | 0 => cc0_scratch9.sem | 1 => cc0_scratch10.sem | 2 => cc0_scoped0.sem | 3 => cc0_scoped1.sem

/-- The tile's semaphores are different ones. -/
theorem semTab_inj : Function.Injective semTab := by decide

/-- The tile's semaphores are its own. -/
theorem semTab_scoped : ∀ k, (SemLoc.dma (semTab k) : SemLoc sig).isScoped .scVector = true := by decide

section Own

variable (d : Dev nD) (i : grid0.Coords)

/-- The buffers as the device names them. -/
def bufEmb : Fin 9 ↪ DevRef τ sig := ⟨fun k => (thr d i).2.devRef (bufTab k), fun _ _ h => bufTab_inj (Proc.devRef_injective _ h)⟩
/-- The semaphores as the machine names them. -/
def semEmb : Fin 4 ↪ GSem nD τ sig := ⟨fun k => (thr d i, SemLoc.dma (semTab k)), fun _ _ h => semTab_inj (by injection (Prod.mk.inj h).2)⟩

/-- The tile's buffers are among what it owns. -/
theorem bufs_own : Finset.univ.map (bufEmb d i) ⊆ ownRefs (τ := τ) (sig := sig) (thr d i).2 := by
  intro b hb
  obtain ⟨k, -, rfl⟩ := Finset.mem_map.mp hb
  refine SparseCore.Cfg.mem_ownRefs_of_owner ?_
  match k with
  | 0 => rfl | 1 => rfl | 2 => rfl | 3 => rfl | 4 => rfl | 5 => rfl | 6 => rfl | 7 => rfl | 8 => rfl

/-- The tile's semaphores are among what it owns. -/
theorem sems_own : Finset.univ.map (semEmb d i) ⊆ ownCells (thr d i) := by
  intro g hg
  obtain ⟨k, -, rfl⟩ := Finset.mem_map.mp hg
  exact mem_ownCells.mpr ⟨rfl, semTab_scoped k⟩

/-- A tile's buffer at some contents. -/
def buf (k : Fin 9) : sProp 𝕄 := iprop(∃ f, (thr d i).loc (bufTab k) ↦{fullShare} f)
/-- A tile's semaphore at zero. -/
def cell (k : Fin 4) : sProp 𝕄 := semVal (thr d i, SemLoc.dma (semTab k)) 0

/-- What a tile owns besides its nine buffers. -/
def bufRest : sProp 𝕄 :=
  bigSep (ownRefs (τ := τ) (sig := sig) (thr d i).2 \ Finset.univ.map (bufEmb d i)) fun b => iprop(∃ f, ((d, b) : Loc nD τ sig) ↦{fullShare} f)
/-- What it owns besides its four semaphores. -/
def semRest : sProp 𝕄 := bigSep (ownCells (thr d i) \ Finset.univ.map (semEmb d i)) fun g => semVal g 0

/-- What the tile owns of buffers is the nine it uses and the rest. -/
theorem ownBufs_tile : (ownBufs (thr d i) : sProp 𝕄)
    = iprop((buf d i 0 ∗ buf d i 1 ∗ buf d i 2 ∗ buf d i 3 ∗ buf d i 4 ∗ buf d i 5 ∗ buf d i 6 ∗ buf d i 7 ∗ buf d i 8) ∗ bufRest d i) := by
  unfold SparseCore.Cfg.ownBufs bufRest
  rw [SparseCore.bigSep_sdiff_split' (bufs_own d i), SparseCore.bigSep_map,
    bigSep_univ_eq_bigSepL [(0 : Fin 9), 1, 2, 3, 4, 5, 6, 7, 8] (by decide) (by decide)]
  rfl

/-- What the tile owns of semaphores is the four it uses and the rest. -/
theorem ownSems_tile : (ownSems0 (thr d i) : sProp 𝕄)
    = iprop((cell d i 0 ∗ cell d i 1 ∗ cell d i 2 ∗ cell d i 3) ∗ semRest d i) := by
  unfold SparseCore.Cfg.ownSems0 semRest
  rw [SparseCore.bigSep_sdiff_split' (sems_own d i), SparseCore.bigSep_map,
    bigSep_univ_eq_bigSepL [(0 : Fin 4), 1, 2, 3] (by decide) (by decide)]
  rfl

/-- A tile's buffer is the whole of it, read. -/
theorem buf_owns (k : Fin 9) : (buf d i k : sProp 𝕄) ⊢ iprop(∃ Y, owns (thr d i) (Memref.whole (bufTab k)) fullShare Y) := by
  unfold buf
  iintro ⟨%f, H⟩
  iexists f
  rw [owns_whole_eq]
  iexists f
  isplitr; · ipureintro; rfl
  iexact H

/-- A buffer held at any contents is the tile's buffer. -/
theorem owns_buf (k : Fin 9) : iprop(∃ Y, owns (thr d i) (Memref.whole (bufTab k)) fullShare Y) ⊢ (buf d i k : sProp 𝕄) := by
  unfold buf
  iintro ⟨%Y, H⟩
  ihave H := (Entails.of_eq (owns_whole_eq (thr d i) (bufTab k) fullShare Y)) $$ H
  icases H with ⟨%f, -, H⟩
  iexists f; iexact H

end Own

end Cert.Steps
end
-- ==== Proof.TileEq.lean ====
module

public import proofs.«01_k».proof.Proof.Steps

@[expose] public section

noncomputable section

namespace Cert.Steps

open Idealize.ShloMosaic Idealize.SL Idealize.SL.Sem Cert.KernelIdeal
open Cert.KernelIdeal.Facts₀ Cert.KernelIdeal.Facts

variable {F : FTy → Type} [FloatOps F] [Facts]

set_option maxHeartbeats 0 in
set_option maxRecDepth 100000 in
/-- The kernel's function on a tile is the tile's program. -/
theorem cc0_k_eq (i : grid0.Coords) (arg2 : Memref sig .scVector .hbm S1600000 .f32) (harg2 : arg2.IsWhole) (arg3 : Memref sig .scVector .hbm S1600000 .f32) (harg3 : arg3.IsWhole) (arg4 : Memref sig .scVector .hbm S1600000 .f32) (harg4 : arg4.IsWhole) (arg5 : Memref sig .scVector .hbm S1600000 .f32) (harg5 : arg5.IsWhole) (arg6 : Memref sig .scVector .hbm S1600000 .i32) (harg6 : arg6.IsWhole) (arg7 : Memref sig .scVector .hbm S80 .f32) (harg7 : arg7.IsWhole) (arg8 : Memref sig .scVector .hbm S32x4096 .f32) (harg8 : arg8.IsWhole) (arg9 : Memref sig .scVector .vmem S6000 .f32) (harg9 : arg9.IsWhole) (arg10 : Memref sig .scVector .vmem S6000 .f32) (harg10 : arg10.IsWhole) (arg11 : Memref sig .scVector .vmem S2000 .f32) (harg11 : arg11.IsWhole) (arg12 : Memref sig .scVector .vmem S2000 .f32) (harg12 : arg12.IsWhole) (arg13 : Memref sig .scVector .vmem S2000 .i32) (harg13 : arg13.IsWhole) (arg14 : Memref sig .scVector .vmem S2000 .i32) (harg14 : arg14.IsWhole) (arg15 : Memref sig .scVector .vmem S16x4096 .f32) (harg15 : arg15.IsWhole) (arg16 : Memref sig .scVector .vmem S4096 .f32) (harg16 : arg16.IsWhole) (arg17 : Memref sig .scVector .vmem S80 .f32) (harg17 : arg17.IsWhole) (arg18 : DmaSems sig S_) (arg19 : DmaSems sig S_) (v913_r0 : DmaSems sig S_) (v913_r1 : DmaSems sig S_) :
  (cc0_k i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v913_r0 v913_r1 : Prog (TileEff F i) PUnit)
    = tileProg i ⟨arg2, arg3, arg4, arg5, arg6⟩ arg7 harg7 arg8 ⟨arg9, arg11, harg11, arg13, harg13, arg18.sem⟩
        ⟨arg10, arg12, harg12, arg14, harg14, arg19.sem⟩ arg15 arg16 harg16 arg17 harg17 v913_r0.sem v913_r1.sem := by
  unfold cc0_k k0_part82 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 tileProg
  simp only [rounds, bind_assoc]
  rfl

end Cert.Steps
end
-- ==== Proof.Task.lean ====
module

public import proofs.«01_k».proof.Proof.Own
public import proofs.«01_k».proof.Proof.TileEq

@[expose] public section

noncomputable section

namespace Cert.Steps

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Cert.KernelIdeal
open Cert.KernelIdeal.Facts₀ Cert.KernelIdeal.Facts

variable {F : FTy → Type} [FloatOps F]

local notation "𝕄" => MT nD τ sig (HIx 1) (Elt F) ℕ UU ℕ

/-! ## Shares: the full share halved again and again -/

/-- Leaf `k` of the depth-`n` halving of share `q`. -/
def shareOf : (n : ℕ) → PosShare TreeShare → Fin (2 ^ n) → PosShare TreeShare
  | 0, q, _ => q
  | n + 1, q, k => if h : k.val < 2 ^ n then shareOf n q.left ⟨k.val, h⟩ else shareOf n q.right ⟨k.val - 2 ^ n, by omega⟩

/-- The numbers below `2 ^ (n + 1)` are those below `2 ^ n`, twice. -/
def halves (n : ℕ) : Fin (2 ^ n) ⊕ Fin (2 ^ n) ≃ Fin (2 ^ (n + 1)) := finSumFinEquiv.trans (finCongr (by omega))

/-- A share of the lower half is a share of the share's left half. -/
theorem shareOf_low (n : ℕ) (q : PosShare TreeShare) (k : Fin (2 ^ n)) : shareOf (n + 1) q (halves n (.inl k)) = shareOf n q.left k := by
  have e : (halves n (.inl k)).val = k.val := by simp [halves]
  rw [shareOf, dif_pos (by rw [e]; exact k.isLt)]
  exact congrArg _ (Fin.ext e)

/-- A share of the upper half is a share of the share's right half. -/
theorem shareOf_high (n : ℕ) (q : PosShare TreeShare) (k : Fin (2 ^ n)) : shareOf (n + 1) q (halves n (.inr k)) = shareOf n q.right k := by
  have e : (halves n (.inr k)).val = 2 ^ n + k.val := by simp [halves]; omega
  rw [shareOf, dif_neg (by rw [e]; omega)]
  refine congrArg _ (Fin.ext ?_)
  show (halves n (.inr k)).val - 2 ^ n = k.val
  omega

/-- A buffer held at a share is held at each of the share's leaves. -/
theorem pointsTo_shares {ℓ : Loc nD τ sig} (I : Finset (Idx ℓ)) (f : Buf (Elt F) ℓ) :
    ∀ (n : ℕ) (q : PosShare TreeShare), (ℓ ↦[I]{q} f : sProp 𝕄) = bigSep Finset.univ fun k : Fin (2 ^ n) => ℓ ↦[I]{shareOf n q k} f
  | 0, q => (bigSep_univ_of_subsingleton (0 : Fin 1) (Φ := fun k : Fin (2 ^ 0) => (ℓ ↦[I]{shareOf 0 q k} f : sProp 𝕄))).symm
  | n + 1, q => by
    rw [BI.Entails.antisymm (pointsTo_share (PosShare.mem_left_op_right q)).1 (pointsTo_share (PosShare.mem_left_op_right q)).2, pointsTo_shares I f n q.left, pointsTo_shares I f n q.right,
      bigSep_univ_equiv (halves n) (fun k : Fin (2 ^ (n + 1)) => (ℓ ↦[I]{shareOf (n + 1) q k} f : sProp 𝕄)), bigSep_univ_sum]
    congr 1 <;> refine bigSep_congr fun k _ => ?_
    · rw [shareOf_low]
    · rw [shareOf_high]

/-! ## The tile's task -/

/-- The columns in main memory. -/
abbrev columns : Srcs := ⟨Memref.whole main_v5_scv, Memref.whole main_v7_scv, Memref.whole main_v9_scv, Memref.whole main_v10_scv, Memref.whole main_arg2_scv⟩
/-- The weights, the bias after them, each spread over sixteen lanes. -/
abbrev spread : Memref sig .scVector .hbm S80 .f32 := Memref.whole main_v3_scv
/-- The table of every tile's greatest values. -/
abbrev tableMem : Memref sig .scVector .hbm S32x4096 .f32 := Memref.whole main_v11_scv
/-- The first of a tile's two sets of buffers. -/
abbrev slot0 : Slot := ⟨Memref.whole cc0_scratch0, Memref.whole cc0_scratch2, Memref.isWhole_whole _, Memref.whole cc0_scratch4, Memref.isWhole_whole _, cc0_scratch9.sem⟩
/-- The second. -/
abbrev slot1 : Slot := ⟨Memref.whole cc0_scratch1, Memref.whole cc0_scratch3, Memref.isWhole_whole _, Memref.whole cc0_scratch5, Memref.isWhole_whole _, cc0_scratch10.sem⟩

/-- The columns, of what the buffers hold. -/
def colsOf (W : Valuation τ sig (Elt F)) : Cols F :=
  ⟨W (Proc.devRef (τ := τ) .tc main_v5), W (Proc.devRef (τ := τ) .tc main_v7), W (Proc.devRef (τ := τ) .tc main_v9),
    W (Proc.devRef (τ := τ) .tc main_v10), W (Proc.devRef (τ := τ) .tc main_arg2)⟩
/-- The spread weights, of what the buffers hold. -/
def spreadOf (W : Valuation τ sig (Elt F)) : Vec F S80 .f32 := W (Proc.devRef (τ := τ) .tc main_v3)

/-- The share of what every tile reads that one tile holds. -/
def tileShare (i : grid0.Coords) : PosShare TreeShare := shareOf 5 fullShare ⟨wid i, wid_lt i⟩

section Task

variable (W : Dev nD → Valuation τ sig (Elt F)) (d : Dev nD) (i : grid0.Coords)

/-- What a tile is handed: its share of the columns, once per set of buffers, its share of the weights, its row of the table. -/
def tileIn : sProp 𝕄 :=
  iprop(srcs d i columns (tileShare i).left (colsOf (W d)) ∗ srcs d i columns (tileShare i).right (colsOf (W d))
    ∗ owns (thr d i) spread (tileShare i) (spreadOf (W d)) ∗ ∃ Y, owns (thr d i) (outRow i tableMem) fullShare Y)

/-- What it hands back: the same, its row of the table holding its greatest values. -/
def tileEnd : sProp 𝕄 :=
  iprop(srcs d i columns (tileShare i).left (colsOf (W d)) ∗ srcs d i columns (tileShare i).right (colsOf (W d))
    ∗ owns (thr d i) spread (tileShare i) (spreadOf (W d)) ∗ owns (thr d i) (outRow i tableMem) fullShare (tileOut i (spreadOf (W d)) (colsOf (W d))))

instance tileIn_storable : BI.Storable (upEmb : UEmb _ 𝕄) (tileIn W d i) := by unfold tileIn srcs; infer_instance
instance tileEnd_storable : BI.Storable (upEmb : UEmb _ 𝕄) (tileEnd W d i) := by unfold tileEnd srcs; infer_instance

/-- The kernel on one tile. -/
theorem tile_task (hF : (K (F := F)).Facts) (hX : InRange (colsOf (W d))) (O : CellTallies nD τ sig (HIx 1)) (Ws : Waits sig (HIx 1)) (hO : ∀ g, O g none = 0) :
    iprop(levAts (K (F := F)).L (K (F := F)).lev ∗ emp ∗ tileIn W d i
        ∗ scopedBufs (thr d i) ∗ scopedSems0 (thr d i) ∗ owes (thr d i) O Ws)
      ⊢ wp frame (wpE (defs₀ (F := F)) 𝒱₀ (thr d i) none) Set.univ
          (tileProg i columns spread (Memref.isWhole_whole _) tableMem slot0 slot1 (Memref.whole cc0_scratch6) (Memref.whole cc0_scratch7) (Memref.isWhole_whole _)
            (Memref.whole cc0_scratch8) (Memref.isWhole_whole _) cc0_scoped0.sem cc0_scoped1.sem)
          fun _ => iprop(tileEnd W d i ∗ scopedBufs (thr d i) ∗ scopedSems0 (thr d i)
            ∗ ∃ W', ⌜∀ p ∈ W', p ∈ Ws ∨ p.2 = none⌝ ∗ owes (thr d i) O W') := by
  rw [(K (F := F)).scopedBufs_V hF d ((i 0).castLE hcore0) ((i 1).castLE hsub0), SparseCore.Cfg.scopedSems0_V (Val := Elt F) d ((i 0).castLE hcore0) ((i 1).castLE hsub0),
    ownBufs_tile, ownSems_tile]
  unfold tileIn tileEnd cell
  iintro ⟨#Hlv, -, ⟨Hs0, Hs1, Hw, Hout⟩, ⟨⟨B0, B1, B2, B3, B4, B5, B6, B7, B8⟩, HB⟩, ⟨⟨C0, C1, C2, C3⟩, HC⟩, HO⟩
  ihave Hmw := (show levAts (K (F := F)).L (K (F := F)).lev ⊢ Transfers.MayWaits (thr d i) (none : HIx 1) O from
    (K (F := F)).mayWaits_none (thr := thr d i) hO) $$ Hlv
  ihave B0 := (buf_owns d i 0) $$ B0
  ihave B1 := (buf_owns d i 1) $$ B1
  ihave B2 := (buf_owns d i 2) $$ B2
  ihave B3 := (buf_owns d i 3) $$ B3
  ihave B4 := (buf_owns d i 4) $$ B4
  ihave B5 := (buf_owns d i 5) $$ B5
  ihave B6 := (buf_owns d i 6) $$ B6
  ihave B7 := (buf_owns d i 7) $$ B7
  ihave B8 := (buf_owns d i 8) $$ B8
  have hq := wp_tile d i O Ws columns spread (Memref.isWhole_whole _) tableMem slot0 slot1 (Memref.whole cc0_scratch6) (Memref.whole cc0_scratch7) (Memref.isWhole_whole _)
    (Memref.whole cc0_scratch8) (Memref.isWhole_whole _) cc0_scoped0.sem cc0_scoped1.sem (tileShare i).left (tileShare i).right (tileShare i) (spreadOf (W d)) (colsOf (W d)) hX
  iapply (wp_wand_r frame (wpE (defs₀ (F := F)) 𝒱₀ (thr d i) none) Set.univ)
  isplitl [Hs0 Hs1 Hw Hout B0 B1 B2 B3 B4 B5 B6 B7 B8 C0 C1 C2 C3 HO]
  · iapply hq
    unfold idle owing
    isplitl [Hs0 B0 B2 B4 C0]
    · isplitl [Hs0]; · iexact Hs0
      isplitl [B0]; · iexact B0
      isplitl [B2]; · iexact B2
      isplitl [B4]; · iexact B4
      iexact C0
    isplitl [Hs1 B1 B3 B5 C1]
    · isplitl [Hs1]; · iexact Hs1
      isplitl [B1]; · iexact B1
      isplitl [B3]; · iexact B3
      isplitl [B5]; · iexact B5
      iexact C1
    isplitl [Hw]; · iexact Hw
    isplitl [B8]; · iexact B8
    isplitl [B6]; · iexact B6
    isplitl [B7]; · iexact B7
    isplitl [Hout]; · iexact Hout
    isplitl [C2]; · iexact C2
    isplitl [C3]; · iexact C3
    isplitl [HO]
    · iexists Ws
      isplitr; · ipureintro; exact fun p hp => .inl hp
      iexact HO
    iexact Hmw
  iintro %_ ⟨H0, H1, Hw, B8, B6, B7, Hout, C2, C3, HO⟩
  unfold idle owing
  icases H0 with ⟨Hs0, B0, B2, B4, C0⟩
  icases H1 with ⟨Hs1, B1, B3, B5, C1⟩
  ihave B0 := (show iprop(∃ Y, owns (thr d i) slot0.tv fullShare Y) ⊢ (buf d i 0 : sProp 𝕄) from owns_buf d i 0) $$ B0
  ihave B1 := (show iprop(∃ Y, owns (thr d i) slot1.tv fullShare Y) ⊢ (buf d i 1 : sProp 𝕄) from owns_buf d i 1) $$ B1
  ihave B2 := (show iprop(∃ Y, owns (thr d i) slot0.vv fullShare Y) ⊢ (buf d i 2 : sProp 𝕄) from owns_buf d i 2) $$ B2
  ihave B3 := (show iprop(∃ Y, owns (thr d i) slot1.vv fullShare Y) ⊢ (buf d i 3 : sProp 𝕄) from owns_buf d i 3) $$ B3
  ihave B4 := (show iprop(∃ Y, owns (thr d i) slot0.iv fullShare Y) ⊢ (buf d i 4 : sProp 𝕄) from owns_buf d i 4) $$ B4
  ihave B5 := (show iprop(∃ Y, owns (thr d i) slot1.iv fullShare Y) ⊢ (buf d i 5 : sProp 𝕄) from owns_buf d i 5) $$ B5
  ihave B6 := (show iprop(∃ Y, owns (thr d i) (Memref.whole cc0_scratch6) fullShare Y) ⊢ (buf d i 6 : sProp 𝕄) from owns_buf d i 6) $$ B6
  ihave B7 := (show iprop(∃ Y, owns (thr d i) (Memref.whole cc0_scratch7) fullShare Y) ⊢ (buf d i 7 : sProp 𝕄) from owns_buf d i 7) $$ B7
  ihave B8 := (show iprop(∃ Y, owns (thr d i) (Memref.whole cc0_scratch8) fullShare Y) ⊢ (buf d i 8 : sProp 𝕄) from owns_buf d i 8) $$ B8
  isplitl [Hs0 Hs1 Hw Hout]
  · isplitl [Hs0]; · iexact Hs0
    isplitl [Hs1]; · iexact Hs1
    isplitl [Hw]; · iexact Hw
    iexact Hout
  isplitl [B0 B1 B2 B3 B4 B5 B6 B7 B8 HB]
  · isplitl [B0 B1 B2 B3 B4 B5 B6 B7 B8]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    iexact HB
  isplitl [C0 C1 C2 C3 HC]
  · isplitl [C0 C1 C2 C3]
    · isplitl [C0]; · iexact C0
      isplitl [C1]; · iexact C1
      isplitl [C2]; · iexact C2
      iexact C3
    iexact HC
  iexact HO

end Task

end Cert.Steps
end
-- ==== Proof.Launch.lean ====
module

public import proofs.«01_k».proof.Proof.Task

@[expose] public section

noncomputable section

namespace Cert.Steps

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (pin)
open Cert.KernelIdeal
open Cert.KernelIdeal.Facts₀ Cert.KernelIdeal.Facts
open Cert.KernelIdeal.Gen (cellOf_inj)

variable {F : FTy → Type} [FloatOps F]

local notation "𝕄" => MT nD τ sig (HIx 1) (Elt F) ℕ UU ℕ

/-! ## The launch of the SparseCore call -/

/-- The call runs on two cores. -/
theorem nCore_zero : (K (F := F)).nCore 0 = 2 := rfl
/-- Each core has sixteen tiles. -/
theorem nSub_zero : (K (F := F)).nSub 0 = 16 := rfl

/-- The launch's semaphores are four distinct ones, none of them a kernel's. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The tile at SparseCore `c`, subcore `s`. -/
def tileAt (c : Fin (grid0.bound 0)) (s : Fin (grid0.bound 1)) : grid0.Coords :=
  fun | 0 => c | 1 => s | ⟨_ + 2, h⟩ => absurd h (Nat.not_lt.2 (Nat.le_add_left _ _))

variable (W : Dev nD → Valuation τ sig (Elt F))

/-- What a SparseCore is handed: what its sixteen tiles are. -/
def coreIn (d : Dev nD) (c : Fin 2) : sProp 𝕄 := bigSep Finset.univ fun s : Fin 16 => tileIn W d (tileAt c s)
/-- What it hands back: what they do. -/
def coreEnd (d : Dev nD) (c : Fin 2) : sProp 𝕄 := bigSep Finset.univ fun s : Fin 16 => tileEnd W d (tileAt c s)

instance coreIn_storable (d : Dev nD) (c : Fin 2) : BI.Storable (upEmb : UEmb _ 𝕄) (coreIn W d c) := by
  unfold coreIn
  haveI : ∀ s : Fin 16, BI.Storable (upEmb : UEmb _ 𝕄) (tileIn W d (tileAt c s)) := fun s => tileIn_storable W d (tileAt c s)
  exact Storable.bigSep _ _ _
attribute [irreducible] coreIn
instance coreEnd_storable (d : Dev nD) (c : Fin 2) : BI.Storable (upEmb : UEmb _ 𝕄) (coreEnd W d c) := by
  unfold coreEnd
  haveI : ∀ s : Fin 16, BI.Storable (upEmb : UEmb _ 𝕄) (tileEnd W d (tileAt c s)) := fun s => tileEnd_storable W d (tileAt c s)
  exact Storable.bigSep _ _ _
attribute [irreducible] coreEnd

/-- What the call's handshakes carry, when the buffers hold `W` at the call: to a SparseCore what its sixteen tiles are handed, to a tile
what it is handed, and back what they hand back. -/
def pay : (K (F := F)).Pay (nD := nD) (Val := Elt F) (Name := ℕ) (U := UU) where
  st := fun q d c => match q with | 0 => coreIn W d (Fin.cast nCore_zero c)
  dn := fun q d c => match q with | 0 => coreEnd W d (Fin.cast nCore_zero c)
  go := fun q d c s => match q with | 0 => tileIn W d (tileAt (Fin.cast nCore_zero c) (Fin.cast nSub_zero s))
  td := fun q d c s => match q with | 0 => tileEnd W d (tileAt (Fin.cast nCore_zero c) (Fin.cast nSub_zero s))
  x := fun _ _ => iprop(emp)

/-- What starts a core. -/
theorem pay_st (d : Dev nD) (c : Fin ((K (F := F)).nCore 0)) : (pay W).st 0 d c = coreIn W d (Fin.cast nCore_zero c) := rfl
/-- What a core ends with. -/
theorem pay_dn (d : Dev nD) (c : Fin ((K (F := F)).nCore 0)) : (pay W).dn 0 d c = coreEnd W d (Fin.cast nCore_zero c) := rfl
/-- What starts a tile. -/
theorem pay_go (d : Dev nD) (c : Fin ((K (F := F)).nCore 0)) (s : Fin ((K (F := F)).nSub 0)) :
    (pay W).go 0 d c s = tileIn W d (tileAt (Fin.cast nCore_zero c) (Fin.cast nSub_zero s)) := rfl
/-- What a tile ends with. -/
theorem pay_td (d : Dev nD) (c : Fin ((K (F := F)).nCore 0)) (s : Fin ((K (F := F)).nSub 0)) :
    (pay W).td 0 d c s = tileEnd W d (tileAt (Fin.cast nCore_zero c) (Fin.cast nSub_zero s)) := rfl

instance pay_storable : (pay (F := F) W).IsStorable where
  st q d c := match q with
    | 0 => by rw [pay_st]; infer_instance
  dn q d c := match q with
    | 0 => by rw [pay_dn]; infer_instance
  go q d c s := match q with
    | 0 => by rw [pay_go]; infer_instance
  td q d c s := match q with
    | 0 => by rw [pay_td]; infer_instance

/-- What a core's tiles start from, tile by tile. -/
theorem bigSep_go (d : Dev nD) (c : Fin ((K (F := F)).nCore 0)) :
    (bigSep Finset.univ fun s : Fin ((K (F := F)).nSub 0) => (pay W).go 0 d c s) = coreIn W d (Fin.cast nCore_zero c) := by
  unfold coreIn; exact bigSep_congr fun s _ => pay_go W d c s
/-- What a core's tiles end with, tile by tile. -/
theorem bigSep_td (d : Dev nD) (c : Fin ((K (F := F)).nCore 0)) :
    (bigSep Finset.univ fun s : Fin ((K (F := F)).nSub 0) => (pay W).td 0 d c s) = coreEnd W d (Fin.cast nCore_zero c) := by
  unfold coreEnd; exact bigSep_congr fun s _ => pay_td W d c s

/-- What the call's sixteen tiles of a SparseCore are handed is what the SparseCore is. -/
theorem vecSplit : (K (F := F)).VecSplit' (pay W) 0 := by
  intro d c
  rw [pay_st, pay_dn, bigSep_go, bigSep_td]
  iintro H; imodintro
  isplitl [H]; · iexact H
  iintro H; iexact H

/-- The program a tile runs is the kernel at the tile. -/
theorem tile_program (c : Fin τ.nSC) (s : Fin τ.nSub) :
    defs₀ (F := F) (.scVector c s) 0 ()
      = SparseCore.onTile hcore0 hsub0 (fun c s => cc0_k (tileAt c s) (Memref.whole main_v5_scv) (Memref.isWhole_whole _) (Memref.whole main_v7_scv) (Memref.isWhole_whole _)
          (Memref.whole main_v9_scv) (Memref.isWhole_whole _) (Memref.whole main_v10_scv) (Memref.isWhole_whole _) (Memref.whole main_arg2_scv) (Memref.isWhole_whole _)
          (Memref.whole main_v3_scv) (Memref.isWhole_whole _) (Memref.whole main_v11_scv) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) cc0_scratch9 cc0_scratch10 cc0_scoped0 cc0_scoped1) ⟨⟩ c s := rfl

/-- A wait that no later handshake could have recorded is one it could. -/
theorem post_widen {t : Thread nD τ} {A B C : sProp 𝕄} {O : CellTallies nD τ sig (HIx 1)} {Ws : Waits sig (HIx 1)} {q : Fin 1} :
    iprop(A ∗ B ∗ C ∗ ∃ W', ⌜∀ p ∈ W', p ∈ Ws ∨ p.2 = none⌝ ∗ owes t O W')
      ⊢ iprop(A ∗ B ∗ C ∗ ∃ W', ⌜∀ p ∈ W', p ∈ Ws ∨ p.2 = none ∨ p.2 = some q⌝ ∗ owes t O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right .inl
  iexact HO

/-- The kernel as printed, on one tile. -/
theorem tile_run (d : Dev nD) (i : grid0.Coords) (hX : InRange (colsOf (W d))) (O : CellTallies nD τ sig (HIx 1)) (Ws : Waits sig (HIx 1)) (hO : ∀ g, O g none = 0) :
    iprop(levAts (K (F := F)).L (K (F := F)).lev ∗ emp ∗ tileIn W d i
        ∗ scopedBufs (thr d i) ∗ scopedSems0 (thr d i) ∗ owes (thr d i) O Ws)
      ⊢ wp frame (wpE (defs₀ (F := F)) 𝒱₀ (thr d i) none) Set.univ
          (cc0_k i (Memref.whole main_v5_scv) (Memref.isWhole_whole _) (Memref.whole main_v7_scv) (Memref.isWhole_whole _)
          (Memref.whole main_v9_scv) (Memref.isWhole_whole _) (Memref.whole main_v10_scv) (Memref.isWhole_whole _) (Memref.whole main_arg2_scv) (Memref.isWhole_whole _)
          (Memref.whole main_v3_scv) (Memref.isWhole_whole _) (Memref.whole main_v11_scv) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) cc0_scratch9 cc0_scratch10 cc0_scoped0 cc0_scoped1)
          fun _ => iprop(tileEnd W d i ∗ scopedBufs (thr d i) ∗ scopedSems0 (thr d i)
            ∗ ∃ W', ⌜∀ p ∈ W', p ∈ Ws ∨ p.2 = none ∨ p.2 = some (0 : Fin 1)⌝ ∗ owes (thr d i) O W') := by
  rw [cc0_k_eq]
  exact (tile_task W d i launchFacts hX O Ws hO).trans (wp_mono frame _ _ fun _ => post_widen)

set_option maxRecDepth 16384 in
/-- Every tile meets what the launch asks of it. -/
theorem tileObl (hX : ∀ d, InRange (colsOf (W d))) : (K (F := F)).TileObl (D (F := F)) 𝒱 (pay W) v₀ 0 := by
  intro d c i O Ws hO _ _
  simp only [show (pay W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [tile_program]; simp only [SparseCore.onTile, hci, and_self, ↓reduceDIte]
  exact tile_run W d (tileAt ⟨_, hci.1⟩ ⟨_, hci.2⟩) (hX d) O Ws hO

/-! ## The ghost state the launch starts from -/

/-- The handshakes' rounds, the pipeline's, and no counter. -/
def ghost₀ : UU :=
  (initOf (K (F := F)).hsCells (K (F := F)).hsToks,
    (initOf (Pipeline.cells (pin (pcfgs (F := F)) adm) cellOf_inj) (Pipeline.launchToks (pin (pcfgs (F := F)) adm) cellOf_inj), 1))

/-- The launch's ghost state is the handshakes' and the pipeline's. -/
theorem ghost_split : (ownU (ghost₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun t : Thread nD τ => bigSep Finset.univ fun q : Fin 1 => (pay W).x q t) := by
  unfold ghost₀
  iintro Hu
  ihave H := (ownU_pair _ _) $$ Hu
  icases H with ⟨HH, HR⟩
  ihave HR := (show (BI.own ((embR : Emb (UK × Counters) 𝕄) (initOf (Pipeline.cells (pin (pcfgs (F := F)) adm) cellOf_inj) (Pipeline.launchToks (pin (pcfgs (F := F)) adm) cellOf_inj), 1)) : sProp 𝕄)
      ⊢ iprop(BI.own (EP (F := F) (initOf (Pipeline.cells (pin (pcfgs (F := F)) adm) cellOf_inj) (Pipeline.launchToks (pin (pcfgs (F := F)) adm) cellOf_inj)))
        ∗ BI.own (((Emb.inr : Emb Counters (UK × Counters)).trans (embR : Emb (UK × Counters) 𝕄)) 1)) from own_pair_emb _ _ _) $$ HR
  icases HR with ⟨HP, -⟩
  imod (Pipeline.fund_ghost (pin (pcfgs (F := F)) adm) EP cellOf_inj) $$ HP with ⟨Hg, Ht⟩
  imodintro
  isplitl [HH]; · iexact HH
  isplitl [Hg Ht]
  · unfold pipeGhost
    iapply (Entails.of_eq (bigSep_sep' (s := Finset.univ) (Φ := fun d : Dev nD => Pipeline.cellsGhost (pin (pcfgs (F := F)) adm) EP 0 d)
      (Ψ := fun d : Dev nD => Pipeline.toksInit (pin (pcfgs (F := F)) adm) EP 0 d)).symm)
    isplitl [Hg]
    · iapply (Entails.of_eq (bigSep_congr (s := Finset.univ) (Φ := fun d : Dev nD => bigSep Finset.univ fun p => Pipeline.cellsGhost (pin (pcfgs (F := F)) adm) EP p d)
        fun d _ => bigSep_univ_of_subsingleton (0 : Fin 1))); iexact Hg
    · iapply (Entails.of_eq (bigSep_congr (s := Finset.univ) (Φ := fun d : Dev nD => bigSep Finset.univ fun p => Pipeline.toksInit (pin (pcfgs (F := F)) adm) EP p d)
        fun d _ => bigSep_univ_of_subsingleton (0 : Fin 1))); iexact Ht
  rw [show (bigSep Finset.univ fun t : Thread nD τ => bigSep Finset.univ fun q : Fin 1 => (pay (F := F) W).x q t) = (iprop(emp) : sProp 𝕄) from
    (bigSep_congr fun _ _ => bigSep_univ_of_subsingleton (0 : Fin 1)).trans (bigSep_emp_const _)]
  iempintro

end Cert.Steps
end
-- ==== Proof.Deal.lean ====
module

public import proofs.«01_k».proof.Proof.Launch

@[expose] public section

noncomputable section

namespace Cert.Steps

open Idealize.ShloMosaic
open Idealize.ShloMosaic.SparseCore (S V T bigSep_insert')
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal
open Cert.KernelIdeal.Facts₀ Cert.KernelIdeal.Facts

variable {F : FTy → Type} [FloatOps F]

local notation "𝕄" => MT nD τ sig (HIx 1) (Elt F) ℕ UU ℕ

/-! ## The tiles by their numbers -/

/-- Tile number `k`. -/
def tileNo (k : Fin 32) : grid0.Coords := tileAt ⟨k.val % 2, Nat.mod_lt _ (by decide)⟩ ⟨k.val / 2, by have := k.isLt; show k.val / 2 < 16; omega⟩

/-- Tile number `k` has the number `k`. -/
theorem wid_tileNo (k : Fin 32) : wid (tileNo k) = k.val := by
  show 2 * (k.val / 2) + k.val % 2 = k.val
  omega

/-- A tile's share of the arrays is the one of its number. -/
theorem tileShare_tileNo (k : Fin 32) : tileShare (tileNo k) = shareOf 5 fullShare k :=
  congrArg _ (Fin.ext (wid_tileNo k))

/-- The cores and the subcores are the numbers below thirty-two. -/
def tileEquiv : Fin 2 × Fin 16 ≃ Fin 32 := (Equiv.prodComm _ _).trans (finProdFinEquiv (m := 16) (n := 2))

/-- Numbering a core's tile and taking the tile of the number gives the tile. -/
theorem tileNo_equiv (c : Fin 2) (s : Fin 16) : tileNo (tileEquiv (c, s)) = tileAt c s := by
  have e : (tileEquiv (c, s)).val = c.val + 2 * s.val := rfl
  have hc := c.isLt
  unfold tileNo
  congr 1 <;> refine Fin.ext ?_
  · show (tileEquiv (c, s)).val % 2 = c.val; omega
  · show (tileEquiv (c, s)).val / 2 = s.val; omega

/-- What every core's every tile holds is what every tile does. -/
theorem bigSep_tiles (Φ : grid0.Coords → sProp 𝕄) :
    (bigSep Finset.univ fun c : Fin 2 => bigSep Finset.univ fun s : Fin 16 => Φ (tileAt c s)) = bigSep Finset.univ fun k : Fin 32 => Φ (tileNo k) := by
  rw [bigSep_univ_equiv tileEquiv (fun k : Fin 32 => Φ (tileNo k)), bigSep_univ_prod]
  refine bigSep_congr fun c _ => bigSep_congr fun s _ => ?_
  rw [tileNo_equiv]

/-! ## An array of the main program among the tiles' shares -/

section Arrays

variable (d : Dev nD)

/-- An array at a share, as its points-to. -/
theorem owns_of {e : EltTy} (i : grid0.Coords) (b : Ref sig .scVector) (q : PosShare TreeShare) (X : b.ty.Contents (Elt F)) :
    (owns (thr d i) (Memref.whole b) q X : sProp 𝕄) = ((thr d i).loc b ↦{q} X) := owns_whole _ _ _ _

/-- The five columns, each at a share. -/
def colPts (q : PosShare TreeShare) (V : Valuation τ sig (Elt F)) : sProp 𝕄 :=
  iprop(((d, Proc.devRef (τ := τ) .tc main_v5) ↦{q} V (Proc.devRef (τ := τ) .tc main_v5))
    ∗ ((d, Proc.devRef (τ := τ) .tc main_v7) ↦{q} V (Proc.devRef (τ := τ) .tc main_v7))
    ∗ ((d, Proc.devRef (τ := τ) .tc main_v9) ↦{q} V (Proc.devRef (τ := τ) .tc main_v9))
    ∗ ((d, Proc.devRef (τ := τ) .tc main_v10) ↦{q} V (Proc.devRef (τ := τ) .tc main_v10))
    ∗ ((d, Proc.devRef (τ := τ) .tc main_arg2) ↦{q} V (Proc.devRef (τ := τ) .tc main_arg2)))

/-- The five columns as a tile holds them are the five arrays. -/
theorem srcs_eq (i : grid0.Coords) (q : PosShare TreeShare) (V : Valuation τ sig (Elt F)) :
    (srcs d i columns q (colsOf V) : sProp 𝕄) = colPts d q V := by
  unfold srcs colPts
  rw [owns_whole, owns_whole, owns_whole, owns_whole, owns_whole]
  rfl

/-- A share of an array is its two halves. -/
theorem pts_halves {ℓ : Loc nD τ sig} (q : PosShare TreeShare) (f : Buf (Elt F) ℓ) :
    (ℓ ↦{q} f : sProp 𝕄) = iprop((ℓ ↦{q.left} f) ∗ (ℓ ↦{q.right} f)) :=
  BI.Entails.antisymm (pointsTo_share (PosShare.mem_left_op_right q)).1 (pointsTo_share (PosShare.mem_left_op_right q)).2

/-- The five columns at a share are the five at its two halves. -/
theorem colPts_halves (q : PosShare TreeShare) (V : Valuation τ sig (Elt F)) :
    (colPts d q V : sProp 𝕄) ⊣⊢ iprop(colPts d q.left V ∗ colPts d q.right V) := by
  unfold colPts
  rw [pts_halves q, pts_halves q, pts_halves q, pts_halves q, pts_halves q]
  refine ⟨?_, ?_⟩
  · iintro ⟨⟨A, A'⟩, ⟨B, B'⟩, ⟨C, C'⟩, ⟨D, D'⟩, E, E'⟩
    isplitl [A B C D E]
    · isplitl [A]; · iexact A
      isplitl [B]; · iexact B
      isplitl [C]; · iexact C
      isplitl [D]; · iexact D
      iexact E
    · isplitl [A']; · iexact A'
      isplitl [B']; · iexact B'
      isplitl [C']; · iexact C'
      isplitl [D']; · iexact D'
      iexact E'
  · iintro ⟨⟨A, B, C, D, E⟩, A', B', C', D', E'⟩
    isplitl [A A']; · isplitl [A] <;> iassumption
    isplitl [B B']; · isplitl [B] <;> iassumption
    isplitl [C C']; · isplitl [C] <;> iassumption
    isplitl [D D']; · isplitl [D] <;> iassumption
    isplitl [E] <;> iassumption

/-- The columns whole are the columns at every tile's share. -/
theorem colPts_shares (V : Valuation τ sig (Elt F)) :
    (colPts d fullShare V : sProp 𝕄) = bigSep Finset.univ fun k : Fin 32 => colPts d (shareOf 5 fullShare k) V := by
  unfold colPts
  rw [bigSep_sep', bigSep_sep', bigSep_sep', bigSep_sep']
  rw [pointsTo_shares _ _ 5 fullShare, pointsTo_shares _ _ 5 fullShare, pointsTo_shares _ _ 5 fullShare, pointsTo_shares _ _ 5 fullShare, pointsTo_shares _ _ 5 fullShare]
  rfl

/-! ## The table among the tiles' rows -/

/-- The table's row of tile `k`. -/
def rowSet (k : Fin 32) : Finset S32x4096.Idx := (outRow (tileNo k) tableMem).view.set

/-- The element of the table in row `k` at column `j`. -/
def tableIdx (k : Fin 32) (j : S4096.Idx) : S32x4096.Idx := fun a => match a with | 0 => k | 1 => j 0

/-- A word of a tile's row of the table is the cell at that row and column. -/
theorem outRow_emb (k : Fin 32) (j : S4096.Idx) : (outRow (tileNo k) tableMem).view.emb j = tableIdx k j := by
  have e : (outRow (tileNo k) tableMem).view.emb j
      = (Rect.unit (s := S32x4096) (k0_off111 (tileNo k)) S1x4096.size (k0_off111_inb (tileNo k))).emb
          (Shape.reshapeEquiv (s := S1x4096) (s' := S4096) (by decide) j) := rfl
  rw [e, Shape.reshapeEquiv_cons_one (d := ![4096])]
  funext a
  refine Fin.ext ?_
  match a with
  | 0 =>
    show k0_off111 (tileNo k) 0 + 1 * 0 = k.val
    rw [off111_eq, ← wid_tileNo k]; rfl
  | 1 =>
    show k0_off111 (tileNo k) 1 + 1 * (j 0).val = (j 0).val
    rw [off111_eq]; show 0 + 1 * (j 0).val = _; omega

/-- A cell lies in a row's set when the row is its first coordinate. -/
theorem mem_rowSet (k : Fin 32) (x : S32x4096.Idx) : x ∈ rowSet k ↔ x 0 = k := by
  constructor
  · intro h
    obtain ⟨j, -, hj⟩ := Finset.mem_map.mp h
    rw [← hj, outRow_emb]; rfl
  · intro h
    refine Finset.mem_map.mpr ⟨fun a => match a with | 0 => x 1, Finset.mem_univ _, ?_⟩
    rw [outRow_emb]
    funext a
    match a with
    | 0 => exact h.symm
    | 1 => rfl

/-- Different rows have no cell in common. -/
theorem rows_disjoint : ∀ k ∈ (Finset.univ : Finset (Fin 32)), ∀ k' ∈ (Finset.univ : Finset (Fin 32)), k ≠ k' → Disjoint (rowSet k) (rowSet k') :=
  fun k _ k' _ h => Finset.disjoint_left.mpr fun x hx hx' => h (((mem_rowSet k x).mp hx).symm.trans ((mem_rowSet k' x).mp hx'))

/-- The rows are the whole table. -/
theorem rows_cover : (Finset.univ : Finset (Fin 32)).biUnion rowSet = Finset.univ :=
  Finset.eq_univ_of_forall fun x => Finset.mem_biUnion.mpr ⟨x 0, Finset.mem_univ _, (mem_rowSet _ x).mpr rfl⟩

/-- The table. -/
abbrev tableLoc : Loc nD τ sig := (d, Proc.devRef (τ := τ) .tc main_v11)

/-- The table is its rows, each held on its own. -/
theorem table_rows (f : Buf (Elt F) (tableLoc d)) :
    (tableLoc d ↦{fullShare} f : sProp 𝕄) = bigSep Finset.univ fun k : Fin 32 => tableLoc d ↦[rowSet k]{fullShare} f := by
  rw [← pointsTo_biUnion Finset.univ (ℓ := tableLoc d) rowSet rows_disjoint, rows_cover]; try rfl

/-- The table of every tile's greatest values, of what the buffers hold. -/
def tableOf (V : Valuation τ sig (Elt F)) : Vec F S32x4096 .f32 :=
  fun x => foldRows (tableAt (x 0).val (weightsOf (spreadOf V)) (colsOf V) 3125) (x 1).val 15

/-- What a tile leaves in its row is the table's row. -/
theorem tileOut_eq (V : Valuation τ sig (Elt F)) (k : Fin 32) (j : S4096.Idx) :
    tileOut (tileNo k) (spreadOf V) (colsOf V) j = tableOf V (tableIdx k j) := by
  unfold tileOut tableOf
  rw [wid_tileNo]; rfl

/-- A row of the table, whatever it holds, is the tile's to write. -/
theorem row_in (k : Fin 32) (f : Buf (Elt F) (tableLoc d)) :
    (tableLoc d ↦[rowSet k]{fullShare} f : sProp 𝕄) ⊢ iprop(∃ Y, owns (thr d (tileNo k)) (outRow (tileNo k) tableMem) fullShare Y) := by
  unfold owns
  iintro H
  iexists ((outRow (tileNo k) tableMem).view.read (Elt F) f)
  iexists f
  isplitr; · ipureintro; rfl
  iexact H

/-- The row as the tile leaves it is the table's row. -/
theorem row_out (V : Valuation τ sig (Elt F)) (k : Fin 32) :
    (owns (thr d (tileNo k)) (outRow (tileNo k) tableMem) fullShare (tileOut (tileNo k) (spreadOf V) (colsOf V)) : sProp 𝕄)
      ⊢ (tableLoc d ↦[rowSet k]{fullShare} (tableOf V : Buf (Elt F) (tableLoc d))) := by
  unfold owns
  iintro ⟨%f, %hf, H⟩
  have hx : ∀ x ∈ rowSet k, f x = (tableOf V : Buf (Elt F) (tableLoc d)) x := by
    intro x hx
    obtain ⟨j, -, rfl⟩ := Finset.mem_map.mp hx
    have h := congrFun hf j
    rw [tileOut_eq, ← outRow_emb] at h
    exact h
  have hc : (tableLoc d ↦[rowSet k]{fullShare} f : sProp 𝕄) ⊢ (tableLoc d ↦[rowSet k]{fullShare} (tableOf V : Buf (Elt F) (tableLoc d))) :=
    Entails.of_eq (pointsTo_congr hx)
  iapply hc
  iexact H

/-! ## What the call takes and what it leaves -/

/-- The spread weights at a share. -/
def spreadPts (q : PosShare TreeShare) (V : Valuation τ sig (Elt F)) : sProp 𝕄 :=
  ((d, Proc.devRef (τ := τ) .tc main_v3) ↦{q} V (Proc.devRef (τ := τ) .tc main_v3))

/-- The spread weights as a tile holds them are the array. -/
theorem spread_eq (i : grid0.Coords) (q : PosShare TreeShare) (V : Valuation τ sig (Elt F)) :
    (owns (thr d i) spread q (spreadOf V) : sProp 𝕄) = spreadPts d q V := by
  unfold spreadPts; rw [owns_whole]; rfl

/-- The spread weights are their thirty-two read shares. -/
theorem spreadPts_shares (V : Valuation τ sig (Elt F)) :
    (spreadPts d fullShare V : sProp 𝕄) = bigSep Finset.univ fun k : Fin 32 => spreadPts d (shareOf 5 fullShare k) V := by
  unfold spreadPts; exact pointsTo_shares _ _ 5 fullShare

variable (W : Dev nD → Valuation τ sig (Elt F))

/-- A tile's shares and its row make what the tile starts from. -/
theorem tile_in (k : Fin 32) :
    iprop(colPts d (shareOf 5 fullShare k) (W d) ∗ spreadPts d (shareOf 5 fullShare k) (W d)
        ∗ (tableLoc d ↦[rowSet k]{fullShare} W d (Proc.devRef (τ := τ) .tc main_v11)))
      ⊢ (tileIn W d (tileNo k) : sProp 𝕄) := by
  unfold tileIn
  rw [srcs_eq, srcs_eq, spread_eq, tileShare_tileNo]
  iintro ⟨Hc, Hs, Ht⟩
  ihave Hc := (colPts_halves d _ _).1 $$ Hc
  icases Hc with ⟨H0, H1⟩
  isplitl [H0]; · iexact H0
  isplitl [H1]; · iexact H1
  isplitl [Hs]; · iexact Hs
  iapply (row_in d k _); iexact Ht

/-- What a tile ends with is its shares and its row, filled. -/
theorem tile_out (k : Fin 32) :
    (tileEnd W d (tileNo k) : sProp 𝕄)
      ⊢ iprop(colPts d (shareOf 5 fullShare k) (W d) ∗ spreadPts d (shareOf 5 fullShare k) (W d)
        ∗ (tableLoc d ↦[rowSet k]{fullShare} (tableOf (W d) : Buf (Elt F) (tableLoc d)))) := by
  unfold tileEnd
  rw [srcs_eq, srcs_eq, spread_eq, tileShare_tileNo]
  iintro ⟨H0, H1, Hs, Ht⟩
  isplitl [H0 H1]
  · iapply (colPts_halves d _ _).2
    isplitl [H0]; · iexact H0
    iexact H1
  isplitl [Hs]; · iexact Hs
  iapply (row_out d (W d) k); iexact Ht

/-- The columns, the weights and the table are what the call's SparseCores are handed. -/
theorem deal : iprop(colPts d fullShare (W d) ∗ spreadPts d fullShare (W d) ∗ (tableLoc d ↦{fullShare} W d (Proc.devRef (τ := τ) .tc main_v11)))
    ⊢ (bigSep Finset.univ fun c : Fin ((K (F := F)).nCore 0) => (pay W).st 0 d c : sProp 𝕄) := by
  have e : (bigSep Finset.univ fun c : Fin ((K (F := F)).nCore 0) => (pay W).st 0 d c : sProp 𝕄)
      = bigSep Finset.univ fun k : Fin 32 => tileIn W d (tileNo k) := by
    refine Eq.trans ?_ (bigSep_tiles (F := F) fun i => tileIn W d i)
    refine Eq.trans (b := bigSep Finset.univ fun c : Fin 2 => coreIn W d c) (bigSep_congr fun c _ => pay_st W d c) (bigSep_congr fun c _ => ?_)
    unfold coreIn; rfl
  rw [e, colPts_shares, spreadPts_shares, table_rows, ← bigSep_sep', ← bigSep_sep']
  exact bigSep_mono fun k _ => tile_in d W k

/-- What they hand back is the columns and the weights, and the table of the greatest values. -/
theorem undeal : (bigSep Finset.univ fun c : Fin ((K (F := F)).nCore 0) => (pay W).dn 0 d c : sProp 𝕄)
    ⊢ iprop(colPts d fullShare (W d) ∗ spreadPts d fullShare (W d) ∗ (tableLoc d ↦{fullShare} (tableOf (W d) : Buf (Elt F) (tableLoc d)))) := by
  have e : (bigSep Finset.univ fun c : Fin ((K (F := F)).nCore 0) => (pay W).dn 0 d c : sProp 𝕄)
      = bigSep Finset.univ fun k : Fin 32 => tileEnd W d (tileNo k) := by
    refine Eq.trans ?_ (bigSep_tiles (F := F) fun i => tileEnd W d i)
    refine Eq.trans (b := bigSep Finset.univ fun c : Fin 2 => coreEnd W d c) (bigSep_congr fun c _ => pay_dn W d c) (bigSep_congr fun c _ => ?_)
    unfold coreEnd; rfl
  rw [e, colPts_shares, spreadPts_shares, table_rows, ← bigSep_sep', ← bigSep_sep']
  exact bigSep_mono fun k _ => tile_out d W k

/-! ## The same of the buffers the call uses, held -/

/-- The buffers of the call. -/
def dealRefs : Finset (DevRef τ sig) :=
  {Proc.devRef (τ := τ) .tc main_v5, Proc.devRef (τ := τ) .tc main_v7, Proc.devRef (τ := τ) .tc main_v9, Proc.devRef (τ := τ) .tc main_v10,
    Proc.devRef (τ := τ) .tc main_arg2, Proc.devRef (τ := τ) .tc main_v3, Proc.devRef (τ := τ) .tc main_v11}

/-- What the buffers hold after the call, from what they held: the table's the greatest values. -/
def afterTiles (V : Valuation τ sig (Elt F)) : Valuation τ sig (Elt F) :=
  Function.update V (Proc.devRef (τ := τ) .tc main_v11) (tableOf V)

/-- After the tiles the table holds every tile's row. -/
theorem afterTiles_table (V : Valuation τ sig (Elt F)) : afterTiles V (Proc.devRef (τ := τ) .tc main_v11) = tableOf V := by
  unfold afterTiles; rw [Function.update_self]
/-- Only the table changes. -/
theorem afterTiles_of_ne (V : Valuation τ sig (Elt F)) {b : DevRef τ sig} (h : b ≠ Proc.devRef (τ := τ) .tc main_v11) :
    afterTiles V b = V b := Function.update_of_ne h _ _

/-- The arrays dealt to the tiles are the columns, the spread weights and the table. -/
theorem held_deal (V : Valuation τ sig (Elt F)) :
    (StableHlo.held (d.tc : Thread nD τ) dealRefs V : sProp 𝕄)
      ⊣⊢ iprop(colPts d fullShare V ∗ spreadPts d fullShare V ∗ (tableLoc d ↦{fullShare} V (Proc.devRef (τ := τ) .tc main_v11))) := by
  unfold StableHlo.held dealRefs colPts spreadPts
  rw [bigSep_insert' (by decide), bigSep_insert' (by decide), bigSep_insert' (by decide), bigSep_insert' (by decide), bigSep_insert' (by decide),
    bigSep_insert' (by decide), bigSep_singleton]
  refine ⟨?_, ?_⟩
  · iintro ⟨A, B, C, D, E, G, H⟩
    isplitl [A B C D E]
    · isplitl [A]; · iexact A
      isplitl [B]; · iexact B
      isplitl [C]; · iexact C
      isplitl [D]; · iexact D
      iexact E
    isplitl [G]; · iexact G
    iexact H
  · iintro ⟨⟨A, B, C, D, E⟩, G, H⟩
    isplitl [A]; · iexact A
    isplitl [B]; · iexact B
    isplitl [C]; · iexact C
    isplitl [D]; · iexact D
    isplitl [E]; · iexact E
    isplitl [G]; · iexact G
    iexact H

/-- The arrays make what both cores start from. -/
theorem deal_held : (StableHlo.held (d.tc : Thread nD τ) dealRefs (W d) : sProp 𝕄)
    ⊢ bigSep Finset.univ fun c : Fin ((K (F := F)).nCore 0) => (pay W).st 0 d c :=
  (held_deal d (W d)).1.trans (deal d W)

/-- What both cores end with makes the arrays, the table filled. -/
theorem undeal_held : (bigSep Finset.univ fun c : Fin ((K (F := F)).nCore 0) => (pay W).dn 0 d c : sProp 𝕄)
    ⊢ StableHlo.held (d.tc : Thread nD τ) dealRefs (afterTiles (W d)) := by
  refine (undeal d W).trans (BI.Entails.trans ?_ (held_deal d (afterTiles (W d))).2)
  unfold colPts spreadPts
  rw [afterTiles_table, afterTiles_of_ne _ (by decide), afterTiles_of_ne _ (by decide), afterTiles_of_ne _ (by decide), afterTiles_of_ne _ (by decide),
    afterTiles_of_ne _ (by decide), afterTiles_of_ne _ (by decide)]
  exact Entails.refl _

end Arrays

end Cert.Steps
end
-- ==== Proof.Main.lean ====
module

public import proofs.«01_k».proof.Proof.Deal
public import Idealize.ShloMosaic.Lib.Pipeline.Frame

@[expose] public section

noncomputable section

namespace Cert.Steps

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal
open Cert.KernelIdeal.Facts₀ Cert.KernelIdeal.Facts
open Cert.KernelIdeal.Gen (facts)

variable {F : FTy → Type} [FloatOps F]

local notation "𝕄" => MT nD τ sig (HIx 1) (Elt F) ℕ UU ℕ

/-! ## The main program on the TensorCore -/

/-- The host's operations before the calls. -/
def hostOps : List (HloOp τ sig (Elt F)) :=
  [StableHlo.reshape main_arg3 main_v0 (rfl : (.f32 : EltTy) = .f32) shapeCasts_S4x1_S4,
    StableHlo.binary main_v0 main_arg4 main_v1 ((fun a b => concatenate S5 0 [⟨S4, a⟩, ⟨S1, b⟩] concatenates_S4_S1_S5_d0) : (⟨S4, .f32⟩ : BufTy).Contents (Elt F) → (⟨S1, .f32⟩ : BufTy).Contents (Elt F) → (⟨S5, .f32⟩ : BufTy).Contents (Elt F)),
    StableHlo.unary main_v1 main_v2 (broadcastInDim S5x16 ![0] bcast_S5_S5x16_0 : (⟨S5, .f32⟩ : BufTy).Contents (Elt F) → (⟨S5x16, .f32⟩ : BufTy).Contents (Elt F)),
    StableHlo.reshape main_v2 main_v3 (rfl : (.f32 : EltTy) = .f32) shapeCasts_S5x16_S80,
    StableHlo.unary main_arg0 main_v4 ((extractStridedSlice S1600000x1 ![0, 0] · slices_S1600000x3_S1600000x1_0_0) : (⟨S1600000x3, .f32⟩ : BufTy).Contents (Elt F) → (⟨S1600000x1, .f32⟩ : BufTy).Contents (Elt F)),
    StableHlo.reshape main_v4 main_v5 (rfl : (.f32 : EltTy) = .f32) shapeCasts_S1600000x1_S1600000,
    StableHlo.unary main_arg0 main_v6 ((extractStridedSlice S1600000x1 ![0, 1] · slices_S1600000x3_S1600000x1_0_1) : (⟨S1600000x3, .f32⟩ : BufTy).Contents (Elt F) → (⟨S1600000x1, .f32⟩ : BufTy).Contents (Elt F)),
    StableHlo.reshape main_v6 main_v7 (rfl : (.f32 : EltTy) = .f32) shapeCasts_S1600000x1_S1600000,
    StableHlo.unary main_arg0 main_v8 ((extractStridedSlice S1600000x1 ![0, 2] · slices_S1600000x3_S1600000x1_0_2) : (⟨S1600000x3, .f32⟩ : BufTy).Contents (Elt F) → (⟨S1600000x1, .f32⟩ : BufTy).Contents (Elt F)),
    StableHlo.reshape main_v8 main_v9 (rfl : (.f32 : EltTy) = .f32) shapeCasts_S1600000x1_S1600000,
    StableHlo.reshape main_arg1 main_v10 (rfl : (.f32 : EltTy) = .f32) shapeCasts_S1600000x1_S1600000]

/-- The buffers they write, in order. -/
def hostWrites : List (Ref sig .tc) := [main_v0, main_v1, main_v2, main_v3, main_v4, main_v5, main_v6, main_v7, main_v8, main_v9, main_v10]

/-- The host's operation after them. -/
def lastOp : HloOp τ sig (Elt F) := StableHlo.reshape main_v12 main_v13 (rfl : (.f32 : EltTy) = .f32) shapeCasts_S1x4096_S4096x1

/-- The main program after the operations before the calls. -/
def tailProg (d : Dev nD) : Prog (TpuEff nD τ sig (Elt F) (SparseCore.Sig (ΛP (F := F)) 1) .tc) PUnit :=
  (K (F := F)).run d 0 >>= fun _ => (Prog.lift (.customCall (SparseCore.inner (Pipeline.entry 0)) ())) >>= fun _ =>
    (hlo rfl (lastOp (F := F)) fun _ => .ret (⟨⟩ : PUnit)) >>= fun _ => pure ⟨⟩

/-- The main program is its host operations, then the calls and the last reshape. -/
theorem main_eq (d : Dev nD) : main (F := F) d = (StableHlo.seq hostOps >>= fun _ => tailProg d) := by
  rw [StableHlo.seq_bind_seqK]; rfl

/-- The host operations use only arrays in main memory. -/
theorem host_sub : ∀ op ∈ hostOps (F := F), op.bufs ⊆ Pipeline.ucRefs τ sig := by
  refine List.forall_iff_forall_mem.mp ?_
  refine ⟨?_, ?_, ?_, ?_, ?_, ?_, ?_, ?_, ?_, ?_, ?_⟩ <;> refine Pipeline.sub_ucRefs _ ?_
  · exact StableHlo.reshape_bufs_sub ..
  · exact StableHlo.binary_bufs_sub ..
  · exact StableHlo.unary_bufs_sub ..
  · exact StableHlo.reshape_bufs_sub ..
  · exact StableHlo.unary_bufs_sub ..
  · exact StableHlo.reshape_bufs_sub ..
  · exact StableHlo.unary_bufs_sub ..
  · exact StableHlo.reshape_bufs_sub ..
  · exact StableHlo.unary_bufs_sub ..
  · exact StableHlo.reshape_bufs_sub ..
  · exact StableHlo.reshape_bufs_sub ..

/-- The host operations make no buffer. -/
theorem host_fresh : ∀ op ∈ hostOps (F := F), op.fresh = ∅ :=
  List.forall_iff_forall_mem.mp (StableHlo.forall_fresh_of_map rfl)

/-- The host operations write only the arrays listed. -/
theorem host_writes : (hostOps (F := F)).Forall fun op => op.writes ⊆ (hostWrites.map (Proc.devRef (τ := τ) .tc)).toFinset :=
  StableHlo.forall_writes_sub_of_map rfl

/-- The last reshape uses only arrays in main memory. -/
theorem last_sub : (lastOp (F := F)).bufs ⊆ Pipeline.ucRefs τ sig := Pipeline.sub_ucRefs _ (StableHlo.reshape_bufs_sub ..)

variable (m : (ℓ : Loc nD τ sig) → Buf (Elt F) ℓ) (ρ : Dev nD → PrngReg)

/-- What the buffers hold at the SparseCore call. -/
def atCall (d : Dev nD) : Valuation τ sig (Elt F) := StableHlo.after hostOps (StableHlo.launchContents m d)
/-- What they hold at the end. -/
def atEnd (d : Dev nD) : Valuation τ sig (Elt F) := (lastOp (F := F)).result (afterMax (afterTiles (atCall m d)))

/-- The arrays dealt to the tiles are in main memory. -/
theorem deal_sub : dealRefs ⊆ Pipeline.ucRefs τ sig := by decide
/-- The second call's arrays are in main memory. -/
theorem arr_sub : Pipeline.arrRefs spec1 ⊆ Pipeline.ucRefs τ sig := by decide

/-- With one call, every recorded wait is below what the end allows. -/
theorem below_end (d : Dev nD) (Ws : Waits sig (HIx 1)) : (K (F := F)).WBelow (T d) Ws 8 := by
  intro p _
  rcases h : p.2 with _ | q
  · rw [SparseCore.Cfg.lev_none]; exact Nat.zero_le _
  · refine ((K (F := F)).lev_some_le _ q).trans ?_
    have := q.isLt
    omega

/-- A set of buffers held is a part of it held and the rest. -/
theorem held_part (d : Dev nD) {A B : Finset (DevRef τ sig)} (h : A ⊆ B) (V : Valuation τ sig (Elt F)) :
    (StableHlo.held (d.tc : Thread nD τ) B V : sProp 𝕄) ⊢ iprop(StableHlo.held (d.tc : Thread nD τ) A V ∗ StableHlo.held (d.tc : Thread nD τ) (B \ A) V) :=
  Entails.of_eq (StableHlo.held_sub_split _ h V)

/-- A part held at new contents, the rest at the old, is the set held at the new, when the contents differ in the part only. -/
theorem held_whole (d : Dev nD) {A B : Finset (DevRef τ sig)} (h : A ⊆ B) (V V' : Valuation τ sig (Elt F)) (hv : ∀ b, b ∉ A → V' b = V b) :
    iprop(StableHlo.held (d.tc : Thread nD τ) A V' ∗ StableHlo.held (d.tc : Thread nD τ) (B \ A) V) ⊢ (StableHlo.held (d.tc : Thread nD τ) B V' : sProp 𝕄) := by
  rw [StableHlo.held_sub_split _ h V', StableHlo.held_congr _ (S := B \ A) (V := V) (V' := V') fun b hb => (hv b (Finset.mem_sdiff.mp hb).2).symm]

/-- The tiles change no array that isn't dealt to them. -/
theorem afterTiles_off (V : Valuation τ sig (Elt F)) (b : DevRef τ sig) (h : b ∉ dealRefs) : afterTiles V b = V b :=
  afterTiles_of_ne V fun e => h (e ▸ by decide)
/-- The second call changes no array that isn't its own. -/
theorem afterMax_off (V : Valuation τ sig (Elt F)) (b : DevRef τ sig) (h : b ∉ Pipeline.arrRefs (τ := τ) spec1) : afterMax V b = V b :=
  afterMax_of_ne V fun e => h (e ▸ by decide)

variable [∀ e, Nonempty (Elt F e)]

/-- What a device's main program ends holding. -/
abbrev FIN (d : Dev nD) : sProp 𝕄 := StableHlo.held (d.tc : Thread nD τ) (Pipeline.ucRefs τ sig) (atEnd m d)

/-- The main program from the SparseCore call on. -/
theorem wp_tail (κ : GSem nD τ sig → ℕ) (d : Dev nD) :
    iprop((K (F := F)).ctx EH (pay (atCall m)) κ ∗ (K (F := F)).tcSt EH d 0 ∗ boundary (d.tc : Thread nD τ)
        ∗ StableHlo.held (d.tc : Thread nD τ) (Pipeline.ucRefs τ sig) (atCall m d) ∗ (K (F := F)).tcSems0 d ∗ pipeGhost (F := F) d)
      ⊢ wp frame (wpE ((K (F := F)).defs (D (F := F))) 𝒱 (SparseCore.T d) none) Set.univ (tailProg d)
          fun _ => iprop((K (F := F)).tcSt EH d 1 ∗ FIN m d ∗ (K (F := F)).tcEnd d) := by
  unfold SparseCore.Cfg.tcEnd tailProg
  rw [wp_bind]
  iintro ⟨#Hctx, Hst, Hb, Hu, Hts, Hg⟩
  ihave Hu := (held_part d deal_sub (atCall m d)) $$ Hu
  icases Hu with ⟨Hd, Hrest⟩
  iapply ((K (F := F)).wp_run (D (F := F)) 𝒱 (EH := EH) (P := pay (atCall m)) κ d 0) $$ [Hst Hd Hrest Hb Hts Hg]
  isplitr; · iexact Hctx
  isplitl [Hst]; · iexact Hst
  isplitl [Hd]
  · iapply (deal_held d (atCall m)); iexact Hd
  iintro ⟨Hst, Hdn⟩
  ihave Hdn := (undeal_held d (atCall m)) $$ Hdn
  ihave Hu := (held_whole d deal_sub (atCall m d) (afterTiles (atCall m d)) (afterTiles_off _)) $$ [Hdn Hrest]
  · isplitl [Hdn]; · iexact Hdn
    iexact Hrest
  ihave Hu := (held_part d arr_sub (afterTiles (atCall m d))) $$ Hu
  icases Hu with ⟨Ha, Hrest⟩
  unfold SparseCore.Cfg.tcSt
  icases Hst with ⟨⟨%Ws, -, HO⟩, Hat, Hrd, Hrs, Htk⟩
  ihave HO := (show owes (T d) ((K (F := F)).Otc d ((0 : Fin 1).val + 1)) Ws ⊢ (owes (d.tc : Thread nD τ) 0 Ws : sProp 𝕄) from
    Entails.of_eq (by rw [(K (F := F)).Otc_end d (le_refl ((0 : Fin 1).val + 1))])) $$ HO
  iapply (wp_call d (afterTiles (atCall m d)))
  isplitl [Hb]; · iexact Hb
  isplitl [Ha]; · iexact Ha
  isplitl [HO]; · iexists Ws; iexact HO
  isplitr; · iapply (SparseCore.Cfg.ctx_levAts κ); iexact Hctx
  isplitl [Hg]; · iexact Hg
  iintro ⟨Hb, Ha, ⟨%Ws', HO⟩⟩
  ihave Hu := (held_whole d arr_sub (afterTiles (atCall m d)) (afterMax (afterTiles (atCall m d))) (afterMax_off _)) $$ [Ha Hrest]
  · isplitl [Ha]; · iexact Ha
    iexact Hrest
  rw [wp_bind]
  iapply (StableHlo.wp_hlo_within 𝒱 (d.tc : Thread nD τ) none Set.univ last_sub) $$ [Hb Hu]
  · isplitl [Hb]; · iexact Hb
    iexact Hu
  iintro ⟨Hb, Hu⟩
  rw [wp_ret]; imodintro
  rw [wp_pure]; imodintro
  isplitl [HO Hat Hrd Hrs Htk]
  · isplitl [HO]
    · iexists Ws'
      isplitr; · ipureintro; exact below_end d Ws'
      iapply (show (owes (d.tc : Thread nD τ) 0 Ws' : sProp 𝕄) ⊢ owes (T d) ((K (F := F)).Otc d 1) Ws' from
        Entails.of_eq (by rw [(K (F := F)).Otc_end d (le_refl 1)]))
      iexact HO
    isplitl [Hat]; · iexact Hat
    isplitl [Hrd]; · iexact Hrd
    isplitl [Hrs]; · iexact Hrs
    iexact Htk
  isplitl [Hu]; · iexact Hu
  isplitl [Hb]; · iexact Hb
  iexact Hts

/-- The buffers a device's main program starts with, as a valuation held. -/
theorem bufs_held (d : Dev nD) : (unscopedBufs d (fun b => m ((SparseCore.T d : Thread nD τ).loc b)) : sProp 𝕄)
    = StableHlo.held (d.tc : Thread nD τ) (Pipeline.ucRefs τ sig) (StableHlo.launchContents m d) :=
  show (unscopedBufs d (fun b => m ((d.tc : Thread nD τ).loc b)) : sProp 𝕄)
      = StableHlo.held (d.tc : Thread nD τ) (Pipeline.ucRefs τ sig) (fun b => m (d, b)) from
    Pipeline.unscopedBufs_held (Ix := HIx 1) (Name := ℕ) (U := UU) (Lvl := ℕ) d (fun b => m (d, b))

/-- The main program on a device's TensorCore. -/
theorem hmain (κ : GSem nD τ sig → ℕ) (d : Dev nD) :
    iprop((K (F := F)).ctx EH (pay (atCall m)) κ ∗ (K (F := F)).tcSt EH d 0 ∗ (K (F := F)).tcRes m ρ d ∗ pipeGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes
  rw [main_eq, bufs_held]
  iintro ⟨#Hctx, Hst, ⟨Hb, Hu, Hts, -⟩, Hg⟩
  iapply (StableHlo.wp_seq 𝒱 none Set.univ d (Pipeline.ucRefs τ sig) (fun _ => tailProg d) hostOps host_sub host_fresh (StableHlo.launchContents m d)) $$ [Hb Hu]
  · isplitl [Hb]; · iexact Hb
    iexact Hu
  iintro ⟨Hb, Hu⟩
  iapply (wp_tail m κ d)
  isplitr; · iexact Hctx
  isplitl [Hst]; · iexact Hst
  isplitl [Hb]; · iexact Hb
  isplitl [Hu]; · iexact Hu
  isplitl [Hts]; · iexact Hts
  iexact Hg

/-- What a device's memory is at the end. -/
def fq (d : Dev nD) (s' : Phys nD τ sig (Elt F)) : Prop := ∀ b ∈ Pipeline.ucRefs τ sig, s'.mem.mem (d, b) = atEnd m d b

/-- What the main program ends with says what memory holds. -/
theorem hfin (d : Dev nD) (s' : Phys nD τ sig (Elt F)) : iprop(FIN m d ∗ SI s') ⊢ (⌜fq m d s'⌝ : sProp 𝕄) := by
  iintro ⟨H, HSI⟩
  iapply (SI_pointsTo_bufs_agree (st := s') (c := d) (qs := fun _ => fullShare) (F := atEnd m d) (Pipeline.ucRefs τ sig))
  isplitl [HSI]; · iexact HSI
  iapply (show FIN m d ⊢ (bigSep (Pipeline.ucRefs τ sig) fun b => (((d, b) : Loc nD τ sig) ↦{fullShare} atEnd m d b : sProp 𝕄)) from Entails.refl _)
  iexact H

/-- What a run ends with: every buffer of the main program at its final contents, every semaphore at zero. -/
def QC : PUnit × MemSt nD τ sig (Elt F) → Prop := fun r => (∀ d : Dev nD, ∀ b ∈ Pipeline.ucRefs τ sig, r.2.mem (d, b) = atEnd m d b) ∧ r.2.sem = fun _ => 0

/-- The program runs, from any memory whose segment numbers are in range at the call. -/
theorem run_main (hX : ∀ d, InRange (colsOf (atCall m d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := pay (atCall m)) (A := ∅) launchFacts v₀
    (fun q hq => match q with | 0 => nomatch hq)
    (fun q _ => match q with | 0 => tileObl (atCall m) hX)
    (fun q _ => match q with | 0 => SparseCore.Cfg.VecSplit.of_plain (vecSplit (atCall m)))
    m ρ main (fun d => pipeGhost d) (FIN m) (ghost₀ (F := F)) (sep_elim_left.trans (ghost_split (atCall m))) (hmain m ρ) (fq m) (hfin m) (QC m) (fun _ h hz => ⟨h, hz⟩)

end Cert.Steps
end
-- ==== Proof.Frame.lean ====
module

public import proofs.«01_k».proof.Proof.Main
public import proofs.«01_k».proof.Defs
public import proofs.«01_k».proof.Proof.Gen.Kernel
public import proofs.«01_k».proof.Proof.Gen.Pre_in_range
public import Idealize.ShloMosaic.Lib.ReduceAll

@[expose] public section

noncomputable section

namespace Cert.Steps

open Idealize.ShloMosaic
open Idealize.ShloMosaic.TcCoe
open Idealize.SL Idealize.SL.Sem
open Cert.KernelIdeal
open Cert.KernelIdeal.Facts₀ Cert.KernelIdeal.Facts
open Cert.KernelIdeal.Gen (facts)

variable {F : FTy → Type} [FloatOps F]

/-! ## The segment numbers are in range -/

/-- The precondition gives what the tiles need: every segment number, not negative as a signed word, is its own value,
    below 4096. -/
theorem range_of_pre (a0 : FVec F S1600000x3 .f32) (a1 : FVec F S1600000x1 .f32) (a2 : IVec S1600000 32) (a3 : FVec F S4x1 .f32) (a4 : FVec F S1 .f32)
    (h : Cert.Pre_in_range.fn (F := F) a0 a1 a2 a3 a4 = fun _ => 1#1) (n : S1600000.Idx) : (a2 n).toNat < 4096 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 4096#32) = 1#1 → v.toNat < 4096 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (fun a => a.elim0)
  haveI : Subsingleton Cert.Pre_in_range.S_.Idx := ⟨fun _ _ => funext fun a => a.elim0⟩
  exact key _ (Host.reduce_andi_all _ _ _ _ _ e n)

/-! ## What the run leaves in the arguments -/

variable (m : (ℓ : Loc nD τ sig) → Buf (Elt F) ℓ) (ρ : Dev nD → PrngReg)

/-- A buffer no operation of the main program writes ends as it started. -/
theorem atEnd_kept (d : Dev nD) (r : Ref sig .tc) (h1 : r ∉ hostWrites) (h2 : r ≠ main_v11) (h3 : r ≠ main_v12) (h4 : r ≠ main_v13) :
    atEnd m d (Proc.devRef .tc r) = m (d, Proc.devRef .tc r) := by
  have e : atEnd m d (Proc.devRef .tc r) = afterMax (afterTiles (atCall m d)) (Proc.devRef .tc r) :=
    StableHlo.reshape_result_ne (x := main_v12) (y := main_v13) rfl shapeCasts_S1x4096_S4096x1 _ _ _ h4
  rw [e, afterMax_of_ne _ (StableHlo.devRef_ne_of_ne h3), afterTiles_of_ne _ (StableHlo.devRef_ne_of_ne h2)]
  exact StableHlo.after_of_writes_sub hostOps _ host_writes h1

/-- The segment numbers at the calls are the ones launched with. -/
theorem atCall_ix (d : Dev nD) : (colsOf (atCall m d)).ix = m ((d.tc : Thread nD τ).loc main_arg2) :=
  StableHlo.after_of_writes_sub (r := main_arg2) hostOps (StableHlo.launchContents m d) host_writes (by decide)

variable [∀ e, Nonempty (Elt F e)]

/-- The program runs from any memory that meets the precondition; the arguments end unchanged, the semaphores at zero,
    and the result at what the operations leave there. -/
theorem run (h : ∀ c : Dev nD, Cert.Pre_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    θ_run (Cert.KernelIdeal.defs (F := F)) (Cert.KernelIdeal.threads (F := F)) ⟨m, fun _ => 0, ρ⟩ fun r =>
      (∀ c : Dev nD, r.2.mem ((c.tc : Thread nD τ).loc main_v13) = atEnd m c (Proc.devRef .tc main_v13)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 := by
  have hX : ∀ d, InRange (colsOf (atCall m d)) := fun d n => by
    rw [atCall_ix m d]
    exact range_of_pre _ _ _ _ _ (h d) n
  refine (θ_run Cert.KernelIdeal.defs _ _).mono (fun r hr => ⟨fun c => ?_, hr.2⟩) (run_main m ρ hX)
  exact ⟨hr.1 c (Proc.devRef .tc main_v13) (by decide),
    (hr.1 c (Proc.devRef .tc main_arg0) (by decide)).trans (atEnd_kept m c main_arg0 (by decide) (by decide) (by decide) (by decide)),
    (hr.1 c (Proc.devRef .tc main_arg1) (by decide)).trans (atEnd_kept m c main_arg1 (by decide) (by decide) (by decide) (by decide)),
    (hr.1 c (Proc.devRef .tc main_arg2) (by decide)).trans (atEnd_kept m c main_arg2 (by decide) (by decide) (by decide) (by decide)),
    (hr.1 c (Proc.devRef .tc main_arg3) (by decide)).trans (atEnd_kept m c main_arg3 (by decide) (by decide) (by decide) (by decide)),
    (hr.1 c (Proc.devRef .tc main_arg4) (by decide)).trans (atEnd_kept m c main_arg4 (by decide) (by decide) (by decide) (by decide))⟩

/-! ## The frames -/

/-- The arguments end unchanged and the semaphores at zero, at any float values. -/
theorem frame_run (h : ∀ c : Dev nD, Cert.Pre_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run Cert.KernelIdeal.defs _ _).mono (fun _ h => ⟨fun c => (h.1 c).2, h.2⟩) (run m ρ h)

/-- The frame of the program at extended reals. -/
theorem frame_ideal : Cert.quiescent_KernelIdeal := fun m ρ hpre => frame_run (F := Ideal) m ρ hpre

/-- The bodies of the two printings are the same, label by label. -/
theorem bodies_eq : (Cert.Kernel.defs₀ (F := F) : Defs nD τ sig (Elt F) Λ₀) = defs₀ (F := F) := by
  funext p ℓ a
  rcases p with _ | c | ⟨c, s⟩ <;> (try rfl) <;> (match ℓ, a with | 0, a => rfl | 1, a => rfl)

/-- So are their definitions with the calls' parts added. -/
theorem defs_eq : Cert.Kernel.defs (F := F) = Cert.KernelIdeal.defs (F := F) :=
  congrArg (fun D => sc.defs (Pipeline.defs pcfgs D)) bodies_eq

/-- The frame of the program as it runs. -/
theorem frame_bits : Cert.quiescent_Kernel := fun m ρ hpre => by
  have h := frame_run (F := Bits) m ρ hpre
  rw [← defs_eq] at h
  exact h

end Cert.Steps
end
-- ==== Proof.HostValues.lean ====
module

public import proofs.«01_k».proof.Proof.Main
public import Idealize.ShloMosaic.Lib.Pointwise

@[expose] public section

noncomputable section

namespace Cert.Steps

open Idealize.ShloMosaic
open Idealize.ShloMosaic.TcCoe
open Idealize.SL Idealize.SL.Sem
open Cert.KernelIdeal
open Cert.KernelIdeal.Facts₀ Cert.KernelIdeal.Facts
open Cert.KernelIdeal.Gen (facts)

variable {F : FTy → Type} [FloatOps F] (m : (ℓ : Loc nD τ sig) → Buf (Elt F) ℓ) (d : Dev nD)

/-! ## What the host's operations give the calls -/

/-- The weights and the bias, each spread over sixteen lanes. -/
def spreadVal (a3 : FVec F S4x1 .f32) (a4 : FVec F S1 .f32) : FVec F S80 .f32 :=
  shapeCast S80 (broadcastInDim S5x16 ![0] bcast_S5_S5x16_0 (concatenate S5 0 [⟨S4, shapeCast S4 a3 shapeCasts_S4x1_S4⟩, ⟨S1, a4⟩] concatenates_S4_S1_S5_d0)) shapeCasts_S5x16_S80

/-- One column of the first matrix. -/
def colVal (a0 : FVec F S1600000x3 .f32) (k : ℕ) (h : S1600000x3.Slices ![0, k] S1600000x1) : FVec F S1600000 .f32 :=
  shapeCast S1600000 (extractStridedSlice S1600000x1 ![0, k] a0 h) shapeCasts_S1600000x1_S1600000

/-- The calls start with the weights and the bias spread over the lanes. -/
theorem call_spread : spreadOf (atCall m d) = spreadVal (m ((d.tc : Thread nD τ).loc main_arg3)) (m ((d.tc : Thread nD τ).loc main_arg4)) := by
  unfold spreadOf atCall hostOps spreadVal
  after_results
  rfl

/-- The calls start with the first matrix's column 0. -/
theorem call_t0 : (colsOf (atCall m d)).t0 = colVal (m ((d.tc : Thread nD τ).loc main_arg0)) 0 slices_S1600000x3_S1600000x1_0_0 := by
  show atCall m d (Proc.devRef .tc main_v5) = _
  unfold atCall hostOps colVal
  after_results
  rfl

/-- The calls start with the first matrix's column 1. -/
theorem call_t1 : (colsOf (atCall m d)).t1 = colVal (m ((d.tc : Thread nD τ).loc main_arg0)) 1 slices_S1600000x3_S1600000x1_0_1 := by
  show atCall m d (Proc.devRef .tc main_v7) = _
  unfold atCall hostOps colVal
  after_results
  rfl

/-- The calls start with the first matrix's column 2. -/
theorem call_t2 : (colsOf (atCall m d)).t2 = colVal (m ((d.tc : Thread nD τ).loc main_arg0)) 2 slices_S1600000x3_S1600000x1_0_2 := by
  show atCall m d (Proc.devRef .tc main_v9) = _
  unfold atCall hostOps colVal
  after_results
  rfl

/-- The calls start with the votes as one column. -/
theorem call_vo : (colsOf (atCall m d)).vo = shapeCast S1600000 (m ((d.tc : Thread nD τ).loc main_arg1)) shapeCasts_S1600000x1_S1600000 := by
  show atCall m d (Proc.devRef .tc main_v10) = _
  unfold atCall hostOps
  after_results
  rfl

/-! ## At an index -/

/-- Word `16 k + l` of the spread array is weight `k`, or the bias for `k = 4`, whatever the lane `l`. -/
theorem spreadVal_apply (a3 : FVec F S4x1 .f32) (a4 : FVec F S1 .f32) (k : Fin 5) (l : Fin 16) (j : S80.Idx) (h : (j 0).val = 16 * k.val + l.val) :
    spreadVal a3 a4 j = if h : k.val < 4 then a3 (ix2 ⟨k.val, h⟩ 0) else a4 (ix1 0) := by
  unfold spreadVal
  pointwise []
  have hl := l.isLt
  have hk : (j 0).val / 16 = k.val := by omega
  by_cases h4 : k.val < 4
  · rw [dif_pos h4, dif_pos (hk ▸ h4)]
    exact congrArg (fun i => a3 (ix2 i 0)) (Fin.ext hk)
  · rw [dif_neg h4, dif_neg (hk ▸ h4)]
    exact congrArg a4 (congrArg ix1 (Subsingleton.elim _ _))

/-- Row `n` of a column is the matrix at that row and column. -/
theorem colVal_apply (a0 : FVec F S1600000x3 .f32) (k : Fin 3) (h : S1600000x3.Slices ![0, k.val] S1600000x1) (n : S1600000.Idx) :
    colVal a0 k h n = a0 (ix2 (n 0) k) := by
  unfold colVal
  pointwise []

/-- Row `n` of the votes as one column. -/
theorem vote_apply (a1 : FVec F S1600000x1 .f32) (n : S1600000.Idx) : shapeCast S1600000 a1 shapeCasts_S1600000x1_S1600000 n = a1 (ix2 (n 0) 0) := by
  pointwise []

end Cert.Steps
end
-- ==== Proof.Greatest.lean ====
module

public import proofs.«01_k».proof.Proof.HostValues
public import proofs.«01_k».proof.Proof.Frame
public import Idealize.ShloMosaic.PureOps.Ideal.Laws

@[expose] public section

noncomputable section

namespace Cert.Steps

open Idealize.ShloMosaic
open Idealize.ShloMosaic.TcCoe
open Idealize.SL Idealize.SL.Sem
open Cert.KernelIdeal
open Cert.KernelIdeal.Facts₀ Cert.KernelIdeal.Facts
open Cert.KernelIdeal.Gen (facts)

/-! ## A greatest value by its upper bounds -/

/-- The word of −∞ reads as the least extended real. -/
theorem least_word : (Scalar.ofBits (F := Ideal) .f32 0xFF800000#32 : EReal) = ⊥ := by
  show Ideal.ofBits .f32 0xFF800000#32 = ⊥
  simp [Ideal.ofBits, Ideal.ieee]

/-- A table's entry is at most `c` when every row it has taken is. -/
theorem tableAt_le (t : ℕ) (w : Weights Ideal) (X : Cols Ideal) (j : S16x4096.Idx) (c : EReal) (k : ℕ) :
    (tableAt t w X k j : EReal) ≤ c ↔ ∀ k' < k, (X.ix (rowIdx (50000 * t + 16 * k' + (j 0).val)) : BitVec 32).toNat = (j 1).val →
      (rowX w X (laneIdx (j 0).val) (rowIdx (50000 * t + 16 * k' + (j 0).val)) : EReal) ≤ c := by
  induction k with
  | zero =>
    refine iff_of_true ?_ fun k' h => absurd h (Nat.not_lt_zero _)
    show (Scalar.ofBits (F := Ideal) .f32 0xFF800000#32 : EReal) ≤ c
    rw [least_word]; exact bot_le
  | succ k ih =>
    rw [Nat.forall_lt_succ_right, ← ih]
    rw [show tableAt t w X (k + 1) j = (if (X.ix (rowIdx (50000 * t + 16 * k + (j 0).val)) : BitVec 32).toNat = (j 1).val then
        FloatOps.maximumf (tableAt t w X k j) (rowX w X (laneIdx (j 0).val) (rowIdx (50000 * t + 16 * k + (j 0).val))) else tableAt t w X k j) from rfl]
    split_ifs with h
    · show max (tableAt t w X k j : EReal) _ ≤ c ↔ _
      rw [max_le_iff]
      exact and_congr_right fun _ => ⟨fun h' _ => h', fun h' => h' h⟩
    · exact ⟨fun h' => ⟨h', fun e => absurd e h⟩, fun h' => h'.1⟩

/-- The greatest of the rows `0 … r` of a column is at most `c` when every one is. -/
theorem foldRows_le (T : Vec Ideal S16x4096 .f32) (g : ℕ) (c : EReal) (r : ℕ) :
    (foldRows T g r : EReal) ≤ c ↔ ∀ r' < r + 1, (T (cellIdx r' g) : EReal) ≤ c := by
  induction r with
  | zero =>
    constructor
    · intro h r' hr
      obtain rfl : r' = 0 := by omega
      exact h
    · intro h; exact h 0 (Nat.zero_lt_one)
  | succ r ih =>
    rw [Nat.forall_lt_succ_right, ← ih]
    show max (foldRows T g r : EReal) _ ≤ c ↔ _
    rw [max_le_iff]

/-- A column's greatest value over the thirty-two rows is at most `c` when every row's is. -/
theorem maxOfRows_le (X : Vec Ideal S32x4096 .f32) (g : Fin 4096) (c : EReal) :
    (maxOfRows X (ix2 0 g) : EReal) ≤ c ↔ ∀ t : Fin 32, (X (ix2 t g) : EReal) ≤ c := by
  have e : (maxOfRows X (ix2 0 g) : EReal) = (Finset.univ : Finset (Fin 32)).fold max (⊥ : EReal) fun t => X (ix2 t g) := by
    rw [← least_word]
    unfold maxOfRows
    pointwise []
  rw [e, Finset.fold_max_le]
  exact ⟨fun h t => h.2 t (Finset.mem_univ t), fun h => ⟨bot_le, fun t _ => h t⟩⟩

/-! ## A row's value -/

/-- Row `n`'s value: its three features and its vote against the four weights, and the bias. -/
def xVal (a0 : FVec Ideal S1600000x3 .f32) (a1 : FVec Ideal S1600000x1 .f32) (a3 : FVec Ideal S4x1 .f32) (a4 : FVec Ideal S1 .f32) (n : Fin 1600000) : EReal :=
  (((a0 (ix2 n 0) * a3 (ix2 0 0) + a0 (ix2 n 1) * a3 (ix2 1 0) : EReal) + a0 (ix2 n 2) * a3 (ix2 2 0)) + a1 (ix2 n 0) * a3 (ix2 3 0)) + a4 (ix1 0)

variable (m : (ℓ : Loc nD τ sig) → Buf (Elt Ideal) ℓ) (d : Dev nD)

/-- A row's value as every lane of every tile computes it. -/
theorem rowX_eq (l : ℕ) (n : ℕ) (hn : n < 1600000) :
    (rowX (weightsOf (spreadOf (atCall m d))) (colsOf (atCall m d)) (laneIdx l) (rowIdx n) : EReal)
      = xVal (m ((d.tc : Thread nD τ).loc main_arg0)) (m ((d.tc : Thread nD τ).loc main_arg1)) (m ((d.tc : Thread nD τ).loc main_arg3)) (m ((d.tc : Thread nD τ).loc main_arg4)) ⟨n, hn⟩ := by
  have hr : rowIdx n 0 = (⟨n, hn⟩ : Fin 1600000) := Fin.ext (Nat.mod_eq_of_lt hn)
  have hw (k : Fin 5) : (wIdx (16 * k.val + (laneIdx l 0).val) 0).val = 16 * k.val + (⟨l % 16, Nat.mod_lt _ (by decide)⟩ : Fin 16).val :=
    Nat.mod_eq_of_lt (by have := k.isLt; have : l % 16 < 16 := Nat.mod_lt _ (by decide); show 16 * k.val + l % 16 < 80; omega)
  unfold rowX weightsOf
  rw [call_spread, call_t0, call_t1, call_t2, call_vo]
  have h0 := spreadVal_apply (F := Ideal) (m ((d.tc : Thread nD τ).loc main_arg3)) (m ((d.tc : Thread nD τ).loc main_arg4)) 0 _ _ (hw 0)
  have h1 := spreadVal_apply (F := Ideal) (m ((d.tc : Thread nD τ).loc main_arg3)) (m ((d.tc : Thread nD τ).loc main_arg4)) 1 _ _ (hw 1)
  have h2 := spreadVal_apply (F := Ideal) (m ((d.tc : Thread nD τ).loc main_arg3)) (m ((d.tc : Thread nD τ).loc main_arg4)) 2 _ _ (hw 2)
  have h3 := spreadVal_apply (F := Ideal) (m ((d.tc : Thread nD τ).loc main_arg3)) (m ((d.tc : Thread nD τ).loc main_arg4)) 3 _ _ (hw 3)
  have h4 := spreadVal_apply (F := Ideal) (m ((d.tc : Thread nD τ).loc main_arg3)) (m ((d.tc : Thread nD τ).loc main_arg4)) 4 _ _ (hw 4)
  have c0 := colVal_apply (F := Ideal) (m ((d.tc : Thread nD τ).loc main_arg0)) 0 slices_S1600000x3_S1600000x1_0_0 (rowIdx n)
  have c1 := colVal_apply (F := Ideal) (m ((d.tc : Thread nD τ).loc main_arg0)) 1 slices_S1600000x3_S1600000x1_0_1 (rowIdx n)
  have c2 := colVal_apply (F := Ideal) (m ((d.tc : Thread nD τ).loc main_arg0)) 2 slices_S1600000x3_S1600000x1_0_2 (rowIdx n)
  have v := vote_apply (F := Ideal) (m ((d.tc : Thread nD τ).loc main_arg1)) (rowIdx n)
  rw [hr] at c0 c1 c2 v
  refine (congrArg₂ (HAdd.hAdd (α := EReal)) (congrArg₂ (HAdd.hAdd (α := EReal)) (congrArg₂ (HAdd.hAdd (α := EReal)) (congrArg₂ (HAdd.hAdd (α := EReal)) (congrArg₂ (HMul.hMul (α := EReal)) c0 h0) (congrArg₂ (HMul.hMul (α := EReal)) c1 h1))
    (congrArg₂ (HMul.hMul (α := EReal)) c2 h2)) (congrArg₂ (HMul.hMul (α := EReal)) v h3)) h4)

/-- The kernel's result for segment `g` is at most `c` when every row's value of the segment is. -/
theorem kernel_le (g : Fin 4096) (c : EReal) :
    (maxOfRows (tableOf (atCall m d)) (ix2 0 g) : EReal) ≤ c
      ↔ ∀ n : Fin 1600000, ((m ((d.tc : Thread nD τ).loc main_arg2) : IVec S1600000 32) (ix1 n)).toNat = g.val →
          xVal (m ((d.tc : Thread nD τ).loc main_arg0)) (m ((d.tc : Thread nD τ).loc main_arg1)) (m ((d.tc : Thread nD τ).loc main_arg3)) (m ((d.tc : Thread nD τ).loc main_arg4)) n ≤ c := by
  have hix := atCall_ix m d
  have hrow (n : ℕ) (hn : n < 1600000) : rowIdx n = ix1 (⟨n, hn⟩ : Fin 1600000) := by
    funext a
    match a with
    | 0 => exact Fin.ext (Nat.mod_eq_of_lt hn)
  rw [maxOfRows_le]
  constructor
  · intro h n hg
    have hn := n.isLt
    have h1 := (foldRows_le _ _ _ _).mp (h ⟨n.val / 50000, by omega⟩) (n.val % 16) (by omega)
    have h2 := (tableAt_le _ _ _ _ _ _).mp h1 (n.val % 50000 / 16) (by omega)
    have e0 : (cellIdx (n.val % 16) (ix2 (⟨n.val / 50000, by omega⟩ : Fin 32) g 1).val 0).val = n.val % 16 := Nat.mod_eq_of_lt (by omega)
    have e1 : (cellIdx (n.val % 16) (ix2 (⟨n.val / 50000, by omega⟩ : Fin 32) g 1).val 1).val = g.val := Nat.mod_eq_of_lt g.isLt
    have en : 50000 * (ix2 (⟨n.val / 50000, by omega⟩ : Fin 32) g 0).val + 16 * (n.val % 50000 / 16) + n.val % 16 = n.val := by
      show 50000 * (n.val / 50000) + 16 * (n.val % 50000 / 16) + n.val % 16 = n.val
      omega
    rw [e0, e1, en, hrow n.val hn, hix, ← hrow n.val hn, rowX_eq m d _ n.val hn] at h2
    exact h2 (by rw [hrow n.val hn]; exact hg)
  · intro h t
    refine (foldRows_le _ _ _ _).mpr fun r hr => (tableAt_le _ _ _ _ _ _).mpr fun k hk hg => ?_
    have ht := t.isLt
    have e0 : (cellIdx r (ix2 t g 1).val 0).val = r := Nat.mod_eq_of_lt (by omega)
    have e1 : (cellIdx r (ix2 t g 1).val 1).val = g.val := Nat.mod_eq_of_lt g.isLt
    have hn : 50000 * (ix2 t g 0).val + 16 * k + r < 1600000 := by
      show 50000 * t.val + 16 * k + r < 1600000
      omega
    rw [e0] at hg ⊢
    rw [e1, hrow _ hn, hix] at hg
    rw [rowX_eq m d _ _ hn]
    exact h _ hg

end Cert.Steps
end
-- ==== Proof.RefSide.lean ====
module

public import proofs.«01_k».proof.Proof.Gen.ReferenceIdeal.Run
public import proofs.«01_k».proof.Defs
public import proofs.«01_k».proof.Proof.Gen.Pre_in_range
public import proofs.«01_k».proof.Proof.Greatest
public import Idealize.ShloMosaic.Lib.Pointwise
public import Idealize.ShloMosaic.Lib.Quiescent

@[expose] public section

noncomputable section

namespace Cert.RefSide

open Idealize.ShloMosaic
open Idealize.ShloMosaic.TcCoe
open Idealize.SL.Sem
open Cert.ReferenceIdeal Cert.ReferenceIdeal.Gen
open Cert.Steps (xVal least_word)

/-! ## The reference -/

/-- The reference's result of its five arguments. -/
def refVal (a0 : FVec Ideal S1600000x3 .f32) (a1 : FVec Ideal S1600000x1 .f32) (a2 : IVec S1600000 32) (a3 : FVec Ideal S4x1 .f32) (a4 : FVec Ideal S1 .f32) : FVec Ideal S4096x1 .f32 :=
  broadcastInDim S4096x1 ![0] bcast_S4096_S4096x1_0 (Host.reduce FloatOps.maximumf (select (cmpi .eq (broadcastInDim S1600000x4096 ![0, 1] bcast_S1600000x1_S1600000x4096_0_1 (broadcastInDim S1600000x1 ![0] bcast_S1600000_S1600000x1_0 a2)) (iotaInDim S1600000x4096 32 1)) (broadcastInDim S1600000x4096 ![0, 1] bcast_S1600000x1_S1600000x4096_0_1 (addf (Host.dotGeneral dot_S1600000x4_S4x1_S1600000x1_1_0_0_1_n_n none (concatenate S1600000x4 1 [⟨S1600000x3, a0⟩, ⟨S1600000x1, a1⟩] concatenates_S1600000x3_S1600000x1_S1600000x4_d1) a3) (broadcastInDim S1600000x1 ![0, 1] bcast_S1x1_S1600000x1_0_1 (broadcastInDim S1x1 ![1] bcast_S1_S1x1_1 a4)))) (broadcastInDim S1600000x4096 ![] bcast_S_S1600000x4096 (id (constant S_ .f32 0xFF800000#32)))) (constant S_ .f32 0xFF800000#32) reducesTo_S1600000x4096_S4096_d0 h_S_)

/-- A row's value as the reference computes it: the product with the weights' column is the sum of four products. -/
theorem dense_apply (a0 : FVec Ideal S1600000x3 .f32) (a1 : FVec Ideal S1600000x1 .f32) (a3 : FVec Ideal S4x1 .f32) (a4 : FVec Ideal S1 .f32) (n : Fin 1600000) :
    ((addf (Host.dotGeneral dot_S1600000x4_S4x1_S1600000x1_1_0_0_1_n_n none (concatenate S1600000x4 1 [⟨S1600000x3, a0⟩, ⟨S1600000x1, a1⟩] concatenates_S1600000x3_S1600000x1_S1600000x4_d1) a3) (broadcastInDim S1600000x1 ![0, 1] bcast_S1x1_S1600000x1_0_1 (broadcastInDim S1x1 ![1] bcast_S1_S1x1_1 a4))) (ix2 n 0) : EReal) = xVal a0 a1 a3 a4 n := by
  pointwise []
  rw [Fin.sum_univ_three, Fin.sum_univ_one]
  rfl

/-- The reference's result for segment `g` is at most `c` when every row's value of the segment is. -/
theorem ref_le (a0 : FVec Ideal S1600000x3 .f32) (a1 : FVec Ideal S1600000x1 .f32) (a2 : IVec S1600000 32) (a3 : FVec Ideal S4x1 .f32) (a4 : FVec Ideal S1 .f32) (g : Fin 4096) (c : EReal) :
    (refVal a0 a1 a2 a3 a4 (ix2 g 0) : EReal) ≤ c ↔ ∀ n : Fin 1600000, (a2 (ix1 n)).toNat = g.val → xVal a0 a1 a3 a4 n ≤ c := by
  have hd := dense_apply a0 a1 a3 a4
  unfold refVal
  generalize (addf (Host.dotGeneral dot_S1600000x4_S4x1_S1600000x1_1_0_0_1_n_n none (concatenate S1600000x4 1 [⟨S1600000x3, a0⟩, ⟨S1600000x1, a1⟩] concatenates_S1600000x3_S1600000x1_S1600000x4_d1) a3) (broadcastInDim S1600000x1 ![0, 1] bcast_S1x1_S1600000x1_0_1 (broadcastInDim S1x1 ![1] bcast_S1_S1x1_1 a4))) = x at hd ⊢
  pointwise []
  have hb : Ideal.ofBits .f32 0xFF800000#32 = (⊥ : EReal) := least_word
  have hs (n : Fin 1600000) (p q : EReal) : Scalar.select (IntOp.cmpi .eq (a2 (ix1 n)) (BitVec.ofNat 32 g.val)) p q = if (a2 (ix1 n)).toNat = g.val then p else q := by
    have hg : (BitVec.ofNat 32 g.val).toNat = g.val := by
      rw [BitVec.toNat_ofNat]; exact Nat.mod_eq_of_lt (by have := g.isLt; omega)
    by_cases h : a2 (ix1 n) = BitVec.ofNat 32 g.val
    · rw [if_pos (h ▸ hg)]; simp [Scalar.select, IntOp.cmpi, h]
    · rw [if_neg fun e => h (BitVec.eq_of_toNat_eq (e.trans hg.symm))]; simp [Scalar.select, IntOp.cmpi, beq_eq_false_iff_ne.mpr h]
  rw [hb, Finset.fold_max_le]
  constructor
  · intro h n hn
    have h1 := h.2 n (Finset.mem_univ n)
    rw [hs, if_pos hn, hd] at h1
    exact h1
  · intro h
    refine ⟨bot_le, fun n _ => ?_⟩
    rw [hs]
    split_ifs with hn
    · rw [hd]; exact h n hn
    · exact (show Ideal.ofBits .f32 0xFF800000#32 ≤ c by rw [hb]; exact bot_le)

/-- The reference terminates with its arguments unchanged; it has no semaphore. -/
theorem frame_ref : Cert.quiescent_ReferenceIdeal := fun m g _ =>
  (θ_run defs _ _).mono (fun r h => ⟨fun c => (h c).2, sem_eq_zero_of_no_sems (by decide) r.2⟩) (Value.run m g)

/-- The same under the range precondition. -/
theorem frame_ref_pre : Cert.quiescent_ReferenceIdeal_pre_in_range (hPre_in_range := Cert.Pre_in_range.Gen.facts) := fun m g _ =>
  (θ_run defs _ _).mono (fun r h => ⟨fun c => (h c).2, sem_eq_zero_of_no_sems (by decide) r.2⟩) (Value.run m g)

end Cert.RefSide
end
-- ==== Proof.Algebraic.lean ====
module

public import proofs.«01_k».proof.Proof.Frame
public import proofs.«01_k».proof.Proof.RefSide

@[expose] public section

noncomputable section

namespace Cert.Steps

open Idealize.ShloMosaic
open Idealize.ShloMosaic.TcCoe
open Idealize.SL Idealize.SL.Sem
open Cert.KernelIdeal
open Cert.KernelIdeal.Facts₀ Cert.KernelIdeal.Facts
open Cert.KernelIdeal.Gen (facts)

variable (m : (ℓ : Loc nD τ sig) → Buf (Elt Ideal) ℓ) (d : Dev nD)

/-- The result is the last reshape of the greatest of the tiles' rows. -/
theorem atEnd_result : (atEnd m d (Proc.devRef .tc main_v13) : FVec Ideal S4096x1 .f32)
    = shapeCast S4096x1 (maxOfRows (tableOf (atCall m d))) shapeCasts_S1x4096_S4096x1 := by
  have e : (atEnd m d (Proc.devRef .tc main_v13) : FVec Ideal S4096x1 .f32)
      = shapeCast S4096x1 (afterMax (afterTiles (atCall m d)) (Proc.devRef .tc main_v12)) shapeCasts_S1x4096_S4096x1 := by
    exact StableHlo.reshape_result main_v12 main_v13 rfl shapeCasts_S1x4096_S4096x1 _ _ _
  rw [e, afterMax_max, afterTiles_table]

/-- The kernel's result is the reference's, element by element: both have the same upper bounds. -/
theorem result_eq : (atEnd m d (Proc.devRef .tc main_v13) : FVec Ideal S4096x1 .f32)
    = Cert.RefSide.refVal (m ((d.tc : Thread nD τ).loc main_arg0)) (m ((d.tc : Thread nD τ).loc main_arg1)) (m ((d.tc : Thread nD τ).loc main_arg2))
        (m ((d.tc : Thread nD τ).loc main_arg3)) (m ((d.tc : Thread nD τ).loc main_arg4)) := by
  rw [atEnd_result]
  funext j
  obtain ⟨g, rfl⟩ : ∃ g : Fin 4096, j = ix2 g 0 := ⟨j 0, by
    funext a
    match a with
    | 0 => rfl
    | 1 => exact Subsingleton.elim (α := Fin 1) _ _⟩
  have e : (shapeCast S4096x1 (maxOfRows (tableOf (atCall m d))) shapeCasts_S1x4096_S4096x1 : FVec Ideal S4096x1 .f32) (ix2 g 0)
      = maxOfRows (tableOf (atCall m d)) (ix2 0 g) := by
    generalize maxOfRows (tableOf (atCall m d)) = x
    pointwise []
  rw [e]
  exact eq_of_forall_ge_iff (α := EReal) fun c => (kernel_le m d g c).trans (Cert.RefSide.ref_le _ _ _ _ _ g c).symm

/-- The kernel and the reference, from equal arguments, end with equal results and their arguments unchanged. -/
theorem algebraic : Cert.algebraic_KernelIdeal_ReferenceIdeal := fun m ρ m' ρ' hpre hag => by
  refine ⟨fun c => atEnd m c (Proc.devRef .tc main_v13), ?_, ?_⟩
  · exact (θ_run Cert.KernelIdeal.defs _ _).mono (fun _ h c => h.1 c) (run (F := Ideal) m ρ hpre)
  · refine (θ_run Cert.ReferenceIdeal.defs _ _).mono (fun r h c => ⟨(h c).1.trans ?_, (h c).2⟩) (Cert.ReferenceIdeal.Value.run (F := Ideal) m' ρ')
    obtain ⟨e0, e1, e2, e3, e4⟩ := hag c
    rw [e0, e1, e2, e3, e4]
    exact (result_eq m c).symm

end Cert.Steps
end
-- ==== Proof.lean ====
/- The proof of the claims about the segment maximum. The parts:
   Proof/Steps, TileEq, Values, Slots, Access, Blocks, Table, Tile: the program of one tile, as a chain of named steps, and
   what each step leaves in the tile's memory;
   Proof/Own, Task, Deal, Launch: a tile's run from what the launch gives it, and how the arrays are dealt among the tiles;
   Proof/Region, Call: the maximum over the tiles' rows;
   Proof/Main, Frame: the run of the main program, and the frames;
   Proof/HostValues, Greatest, RefSide, Algebraic: what the kernel and the reference compute, and that they are equal. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frame
public import proofs.«01_k».proof.Proof.Algebraic

@[expose] public section

noncomputable section

namespace Cert.Proof

/-- The five claims: the frames of the kernel, of its reading over the extended reals and of the reference, that the
    reading is the kernel's own text, and that it computes what the reference does. -/
theorem claim : Cert.Claim := ⟨Cert.Kernel.Gen.facts, Cert.KernelIdeal.Gen.facts, Cert.ReferenceIdeal.Gen.facts, Cert.Pre_in_range.Gen.facts,
  Cert.Steps.frame_bits, Cert.Steps.frame_ideal, Cert.RefSide.frame_ref, Cert.RefSide.frame_ref_pre, trivial, Cert.Steps.algebraic⟩

end Cert.Proof

end
